-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))).2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  IdealRules.named_const.Statement Cert.KernelIdeal.κ "lowest" .f32 0xF149F2CA#32 ((-1000000000000000000000000000000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v17)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v17) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v83) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  IdealRules.named_const.Statement Cert.Kernel3Ideal.κ "scale" .f32 0x3E38AA3B#32 (((1 / 8) * (Real.log 2)⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v69_0)) (v1 : (c : Dev Cert.Kernel3Ideal.nD) → Buf (Elt Ideal) ((c.tc : Thread Cert.Kernel3Ideal.nD Cert.Kernel3Ideal.τ).loc Cert.Kernel3Ideal.main_v69_1)) (v2 : (c : Dev Cert.Kernel3Ideal.nD) → Buf (Elt Ideal) ((c.tc : Thread Cert.Kernel3Ideal.nD Cert.Kernel3Ideal.τ).loc Cert.Kernel3Ideal.main_v69_2)) (v3 : (c : Dev Cert.Kernel3Ideal.nD) → Buf (Elt Ideal) ((c.tc : Thread Cert.Kernel3Ideal.nD Cert.Kernel3Ideal.τ).loc Cert.Kernel3Ideal.main_v69_3)) (v4 : (c : Dev Cert.Kernel3Ideal.nD) → Buf (Elt Ideal) ((c.tc : Thread Cert.Kernel3Ideal.nD Cert.Kernel3Ideal.τ).loc Cert.Kernel3Ideal.main_v69_4)) (v5 : (c : Dev Cert.Kernel3Ideal.nD) → Buf (Elt Ideal) ((c.tc : Thread Cert.Kernel3Ideal.nD Cert.Kernel3Ideal.τ).loc Cert.Kernel3Ideal.main_v69_5)) (v6 : (c : Dev Cert.Kernel3Ideal.nD) → Buf (Elt Ideal) ((c.tc : Thread Cert.Kernel3Ideal.nD Cert.Kernel3Ideal.τ).loc Cert.Kernel3Ideal.main_v69_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v69_0) = v0 c
          ∧ r.2.mem ((c.tc : Thread Cert.Kernel3Ideal.nD Cert.Kernel3Ideal.τ).loc Cert.Kernel3Ideal.main_v69_1) = v1 c
          ∧ r.2.mem ((c.tc : Thread Cert.Kernel3Ideal.nD Cert.Kernel3Ideal.τ).loc Cert.Kernel3Ideal.main_v69_2) = v2 c
          ∧ r.2.mem ((c.tc : Thread Cert.Kernel3Ideal.nD Cert.Kernel3Ideal.τ).loc Cert.Kernel3Ideal.main_v69_3) = v3 c
          ∧ r.2.mem ((c.tc : Thread Cert.Kernel3Ideal.nD Cert.Kernel3Ideal.τ).loc Cert.Kernel3Ideal.main_v69_4) = v4 c
          ∧ r.2.mem ((c.tc : Thread Cert.Kernel3Ideal.nD Cert.Kernel3Ideal.τ).loc Cert.Kernel3Ideal.main_v69_5) = v5 c
          ∧ r.2.mem ((c.tc : Thread Cert.Kernel3Ideal.nD Cert.Kernel3Ideal.τ).loc Cert.Kernel3Ideal.main_v69_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v69) = v0 c
          ∧ r.2.mem ((c.tc : Thread Cert.Reference3Ideal.nD Cert.Reference3Ideal.τ).loc Cert.Reference3Ideal.main_v66) = v1 c
          ∧ r.2.mem ((c.tc : Thread Cert.Reference3Ideal.nD Cert.Reference3Ideal.τ).loc Cert.Reference3Ideal.main_v70) = v2 c
          ∧ r.2.mem ((c.tc : Thread Cert.Reference3Ideal.nD Cert.Reference3Ideal.τ).loc Cert.Reference3Ideal.main_v67) = v3 c
          ∧ r.2.mem ((c.tc : Thread Cert.Reference3Ideal.nD Cert.Reference3Ideal.τ).loc Cert.Reference3Ideal.main_v72) = v4 c
          ∧ r.2.mem ((c.tc : Thread Cert.Reference3Ideal.nD Cert.Reference3Ideal.τ).loc Cert.Reference3Ideal.main_v74) = v5 c
          ∧ r.2.mem ((c.tc : Thread Cert.Reference3Ideal.nD Cert.Reference3Ideal.τ).loc Cert.Reference3Ideal.main_v76) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v16)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v16) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v83) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def preserves_Kernel5_Kernel5Ideal : Prop :=
  IdealRules.named_const.Statement Cert.Kernel5Ideal.κ "lowest" .f32 0xF149F2CA#32 ((-1000000000000000000000000000000 : ℝ) : EReal)

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v13)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v13) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v19) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v13) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
-- ==== Pre_finite.lean ====
abbrev S2x4096x8x64 : Shape := ⟨4, ![2, 4096, 8, 64]⟩
abbrev S2x4096x2x64 : Shape := ⟨4, ![2, 4096, 2, 64]⟩
abbrev S2x256x2x64 : Shape := ⟨4, ![2, 256, 2, 64]⟩
abbrev S_ : Shape := ⟨0, ![]⟩

class Facts : Prop where
  bcast_S_S2x4096x8x64 : S_.BroadcastsInDim S2x4096x8x64 (![] : Fin 0 → Fin S2x4096x8x64.rank)
  bcast_S_S2x4096x2x64 : S_.BroadcastsInDim S2x4096x2x64 (![] : Fin 0 → Fin S2x4096x2x64.rank)
  bcast_S_S2x256x2x64 : S_.BroadcastsInDim S2x256x2x64 (![] : Fin 0 → Fin S2x256x2x64.rank)

variable [Facts]

def fn {F : FTy → Type} [FloatOps F] (main_arg0 : FVec F S2x4096x8x64 .f32) (main_arg1 : FVec F S2x4096x2x64 .f32) (main_arg2 : FVec F S2x4096x2x64 .f32) (main_arg3 : FVec F S2x256x2x64 .f32) (main_arg4 : FVec F S2x256x2x64 .f32) : IVec S2x4096x8x64 1 × IVec S2x4096x2x64 1 × IVec S2x4096x2x64 1 × IVec S2x256x2x64 1 × IVec S2x256x2x64 1 :=
  let main_v0 : FVec F S2x4096x8x64 .f32 := Host.absf main_arg0
  let main_cst : FVec F S_ .f32 := constant S_ .f32 0x7F800000#32
  let main_v1 : FVec F S2x4096x8x64 .f32 := broadcastInDim S2x4096x8x64 ![] bcast_S_S2x4096x8x64 main_cst
  let main_v2 : IVec S2x4096x8x64 1 := cmpf .olt main_v0 main_v1
  let main_v3 : FVec F S2x4096x2x64 .f32 := Host.absf main_arg1
  let main_cst_0 : FVec F S_ .f32 := constant S_ .f32 0x7F800000#32
  let main_v4 : FVec F S2x4096x2x64 .f32 := broadcastInDim S2x4096x2x64 ![] bcast_S_S2x4096x2x64 main_cst_0
  let main_v5 : IVec S2x4096x2x64 1 := cmpf .olt main_v3 main_v4
  let main_v6 : FVec F S2x4096x2x64 .f32 := Host.absf main_arg2
  let main_cst_1 : FVec F S_ .f32 := constant S_ .f32 0x7F800000#32
  let main_v7 : FVec F S2x4096x2x64 .f32 := broadcastInDim S2x4096x2x64 ![] bcast_S_S2x4096x2x64 main_cst_1
  let main_v8 : IVec S2x4096x2x64 1 := cmpf .olt main_v6 main_v7
  let main_v9 : FVec F S2x256x2x64 .f32 := Host.absf main_arg3
  let main_cst_2 : FVec F S_ .f32 := constant S_ .f32 0x7F800000#32
  let main_v10 : FVec F S2x256x2x64 .f32 := broadcastInDim S2x256x2x64 ![] bcast_S_S2x256x2x64 main_cst_2
  let main_v11 : IVec S2x256x2x64 1 := cmpf .olt main_v9 main_v10
  let main_v12 : FVec F S2x256x2x64 .f32 := Host.absf main_arg4
  let main_cst_3 : FVec F S_ .f32 := constant S_ .f32 0x7F800000#32
  let main_v13 : FVec F S2x256x2x64 .f32 := broadcastInDim S2x256x2x64 ![] bcast_S_S2x256x2x64 main_cst_3
  let main_v14 : IVec S2x256x2x64 1 := cmpf .olt main_v12 main_v13
  (main_v2, main_v5, main_v8, main_v11, main_v14)
-- ==== Pre_finite5.lean ====
abbrev S32x256x8x64 : Shape := ⟨4, ![32, 256, 8, 64]⟩
abbrev S32x256x2x64 : Shape := ⟨4, ![32, 256, 2, 64]⟩
abbrev S_ : Shape := ⟨0, ![]⟩

class Facts : Prop where
  bcast_S_S32x256x8x64 : S_.BroadcastsInDim S32x256x8x64 (![] : Fin 0 → Fin S32x256x8x64.rank)
  bcast_S_S32x256x2x64 : S_.BroadcastsInDim S32x256x2x64 (![] : Fin 0 → Fin S32x256x2x64.rank)

variable [Facts]

def fn {F : FTy → Type} [FloatOps F] (main_arg0 : FVec F S32x256x8x64 .f32) (main_arg1 : FVec F S32x256x2x64 .f32) (main_arg2 : FVec F S32x256x2x64 .f32) : IVec S32x256x8x64 1 × IVec S32x256x2x64 1 × IVec S32x256x2x64 1 :=
  let main_v0 : FVec F S32x256x8x64 .f32 := Host.absf main_arg0
  let main_cst : FVec F S_ .f32 := constant S_ .f32 0x7F800000#32
  let main_v1 : FVec F S32x256x8x64 .f32 := broadcastInDim S32x256x8x64 ![] bcast_S_S32x256x8x64 main_cst
  let main_v2 : IVec S32x256x8x64 1 := cmpf .olt main_v0 main_v1
  let main_v3 : FVec F S32x256x2x64 .f32 := Host.absf main_arg1
  let main_cst_0 : FVec F S_ .f32 := constant S_ .f32 0x7F800000#32
  let main_v4 : FVec F S32x256x2x64 .f32 := broadcastInDim S32x256x2x64 ![] bcast_S_S32x256x2x64 main_cst_0
  let main_v5 : IVec S32x256x2x64 1 := cmpf .olt main_v3 main_v4
  let main_v6 : FVec F S32x256x2x64 .f32 := Host.absf main_arg2
  let main_cst_1 : FVec F S_ .f32 := constant S_ .f32 0x7F800000#32
  let main_v7 : FVec F S32x256x2x64 .f32 := broadcastInDim S32x256x2x64 ![] bcast_S_S32x256x2x64 main_cst_1
  let main_v8 : IVec S32x256x2x64 1 := cmpf .olt main_v6 main_v7
  (main_v2, main_v5, main_v8)
-- ==== Kernel.lean ====
abbrev S2x4096x8x64 : Shape := ⟨4, ![2, 4096, 8, 64]⟩
abbrev S2x4096x2x64 : Shape := ⟨4, ![2, 4096, 2, 64]⟩
abbrev S2x256x2x64 : Shape := ⟨4, ![2, 256, 2, 64]⟩
abbrev S8192x512 : Shape := ⟨2, ![8192, 512]⟩
abbrev S_ : Shape := ⟨0, ![]⟩
abbrev S512x8192 : Shape := ⟨2, ![512, 8192]⟩
abbrev S8192x128 : Shape := ⟨2, ![8192, 128]⟩
abbrev S128x8192 : Shape := ⟨2, ![128, 8192]⟩
abbrev S2x256x128 : Shape := ⟨3, ![2, 256, 128]⟩
abbrev S2x128x256 : Shape := ⟨3, ![2, 128, 256]⟩
abbrev S256x1024 : Shape := ⟨2, ![256, 1024]⟩
abbrev S4096x128 : Shape := ⟨2, ![4096, 128]⟩
abbrev S64x4096 : Shape := ⟨2, ![64, 4096]⟩
abbrev S1x256x128 : Shape := ⟨3, ![1, 256, 128]⟩
abbrev S1x64x256 : Shape := ⟨3, ![1, 64, 256]⟩
abbrev S1024x256 : Shape := ⟨2, ![1024, 256]⟩
abbrev S64x1024 : Shape := ⟨2, ![64, 1024]⟩
abbrev S128x4096 : Shape := ⟨2, ![128, 4096]⟩
abbrev S1x4096 : Shape := ⟨2, ![1, 4096]⟩
abbrev S80x4096 : Shape := ⟨2, ![80, 4096]⟩
abbrev S512x128 : Shape := ⟨2, ![512, 128]⟩
abbrev S512x4096 : Shape := ⟨2, ![512, 4096]⟩
abbrev S64x512 : Shape := ⟨2, ![64, 512]⟩
abbrev S4096 : Shape := ⟨1, ![4096]⟩
abbrev S16x512 : Shape := ⟨2, ![16, 512]⟩
abbrev S80x512 : Shape := ⟨2, ![80, 512]⟩
abbrev S256x128 : Shape := ⟨2, ![256, 128]⟩
abbrev S256x4096 : Shape := ⟨2, ![256, 4096]⟩
abbrev S64x256 : Shape := ⟨2, ![64, 256]⟩
abbrev S16x256 : Shape := ⟨2, ![16, 256]⟩
abbrev S80x256 : Shape := ⟨2, ![80, 256]⟩

abbrev nBuf : Space → Nat
  | .hbm => 26
  | .vmem => 12
  | .smem => 0
  | _ => 0

abbrev bufTy : (tb : Table) → Fin (tcTables nBuf tb) → BufTy
  | .hbm, ⟨0, _⟩ => ⟨S2x4096x8x64, .f32⟩
  | .hbm, ⟨1, _⟩ => ⟨S2x4096x2x64, .f32⟩
  | .hbm, ⟨2, _⟩ => ⟨S2x4096x2x64, .f32⟩
  | .hbm, ⟨3, _⟩ => ⟨S2x256x2x64, .f32⟩
  | .hbm, ⟨4, _⟩ => ⟨S2x256x2x64, .f32⟩
  | .hbm, ⟨5, _⟩ => ⟨S8192x512, .f32⟩
  | .hbm, ⟨6, _⟩ => ⟨S_, .f32⟩
  | .hbm, ⟨7, _⟩ => ⟨S8192x512, .f32⟩
  | .hbm, ⟨8, _⟩ => ⟨S8192x512, .f32⟩
  | .hbm, ⟨9, _⟩ => ⟨S_, .f32⟩
  | .hbm, ⟨10, _⟩ => ⟨S_, .f32⟩
  | .hbm, ⟨11, _⟩ => ⟨S8192x512, .f32⟩
  | .hbm, ⟨12, _⟩ => ⟨S8192x512, .f32⟩
  | .hbm, ⟨13, _⟩ => ⟨S512x8192, .f32⟩
  | .hbm, ⟨14, _⟩ => ⟨S512x8192, .bf16⟩
  | .hbm, ⟨15, _⟩ => ⟨S8192x128, .f32⟩
  | .hbm, ⟨16, _⟩ => ⟨S8192x128, .bf16⟩
  | .hbm, ⟨17, _⟩ => ⟨S8192x128, .f32⟩
  | .hbm, ⟨18, _⟩ => ⟨S128x8192, .f32⟩
  | .hbm, ⟨19, _⟩ => ⟨S128x8192, .bf16⟩
  | .hbm, ⟨20, _⟩ => ⟨S2x256x128, .f32⟩
  | .hbm, ⟨21, _⟩ => ⟨S2x256x128, .bf16⟩
  | .hbm, ⟨22, _⟩ => ⟨S2x256x128, .f32⟩
  | .hbm, ⟨23, _⟩ => ⟨S2x128x256, .f32⟩
  | .hbm, ⟨24, _⟩ => ⟨S2x128x256, .bf16⟩
  | .hbm, ⟨25, _⟩ => ⟨S8192x512, .bf16⟩
  | .local _ .vmem, ⟨0, _⟩ => ⟨S256x1024, .bf16⟩
  | .local _ .vmem, ⟨1, _⟩ => ⟨S256x1024, .bf16⟩
  | .local _ .vmem, ⟨2, _⟩ => ⟨S4096x128, .bf16⟩
  | .local _ .vmem, ⟨3, _⟩ => ⟨S4096x128, .bf16⟩
  | .local _ .vmem, ⟨4, _⟩ => ⟨S64x4096, .bf16⟩
  | .local _ .vmem, ⟨5, _⟩ => ⟨S64x4096, .bf16⟩
  | .local _ .vmem, ⟨6, _⟩ => ⟨S1x256x128, .bf16⟩
  | .local _ .vmem, ⟨7, _⟩ => ⟨S1x256x128, .bf16⟩
  | .local _ .vmem, ⟨8, _⟩ => ⟨S1x64x256, .bf16⟩
  | .local _ .vmem, ⟨9, _⟩ => ⟨S1x64x256, .bf16⟩
  | .local _ .vmem, ⟨10, _⟩ => ⟨S1024x256, .bf16⟩
  | .local _ .vmem, ⟨11, _⟩ => ⟨S1024x256, .bf16⟩
  | _, _ => ⟨S2x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S64x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x64x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "lowest" => some ((-1000000000000000000000000000000 : ℝ) : EReal)
  | _ => none
-- ==== ReferenceIdeal.lean ====
abbrev S2x4096x8x64 : Shape := ⟨4, ![2, 4096, 8, 64]⟩
abbrev S2x4096x2x64 : Shape := ⟨4, ![2, 4096, 2, 64]⟩
abbrev S2x256x2x64 : Shape := ⟨4, ![2, 256, 2, 64]⟩
abbrev S2x4352x2x64 : Shape := ⟨4, ![2, 4352, 2, 64]⟩
abbrev S2x4096x2x4x64 : Shape := ⟨5, ![2, 4096, 2, 4, 64]⟩
abbrev S2x2x4352x4096x4 : Shape := ⟨5, ![2, 2, 4352, 4096, 4]⟩
abbrev S2x2x4x4096x4352 : Shape := ⟨5, ![2, 2, 4, 4096, 4352]⟩
abbrev S_ : Shape := ⟨0, ![]⟩
abbrev S2x2x4x4096 : Shape := ⟨4, ![2, 2, 4, 4096]⟩
abbrev S2x2x4x4096x1 : Shape := ⟨5, ![2, 2, 4, 4096, 1]⟩
abbrev S2x2x64x4x4096 : Shape := ⟨5, ![2, 2, 64, 4, 4096]⟩
abbrev S8192x512 : Shape := ⟨2, ![8192, 512]⟩

abbrev nBuf : Space → Nat
  | .hbm => 31
  | .vmem => 0
  | .smem => 0
  | _ => 0

abbrev bufTy : (tb : Table) → Fin (tcTables nBuf tb) → BufTy
  | .hbm, ⟨0, _⟩ => ⟨S2x4096x8x64, .f32⟩
  | .hbm, ⟨1, _⟩ => ⟨S2x4096x2x64, .f32⟩
  | .hbm, ⟨2, _⟩ => ⟨S2x4096x2x64, .f32⟩
  | .hbm, ⟨3, _⟩ => ⟨S2x256x2x64, .f32⟩
  | .hbm, ⟨4, _⟩ => ⟨S2x256x2x64, .f32⟩
  | .hbm, ⟨5, _⟩ => ⟨S2x4352x2x64, .f32⟩
  | .hbm, ⟨6, _⟩ => ⟨S2x4352x2x64, .f32⟩
  | .hbm, ⟨7, _⟩ => ⟨S2x4096x2x4x64, .f32⟩
  | .hbm, ⟨8, _⟩ => ⟨S2x2x4352x4096x4, .f32⟩
  | .hbm, ⟨9, _⟩ => ⟨S2x2x4x4096x4352, .f32⟩
  | .hbm, ⟨10, _⟩ => ⟨S_, .f32⟩
  | .hbm, ⟨11, _⟩ => ⟨S2x2x4x4096x4352, .f32⟩
  | .hbm, ⟨12, _⟩ => ⟨S2x2x4x4096x4352, .f32⟩
  | .hbm, ⟨13, _⟩ => ⟨S_, .f32⟩
  | .hbm, ⟨14, _⟩ => ⟨S2x2x4x4096, .f32⟩
  | .hbm, ⟨15, _⟩ => ⟨S_, .f32⟩
  | .hbm, ⟨16, _⟩ => ⟨S2x2x4x4096, .f32⟩
  | .hbm, ⟨17, _⟩ => ⟨S2x2x4x4096, .f32⟩
  | .hbm, ⟨18, _⟩ => ⟨S2x2x4x4096x1, .f32⟩
  | .hbm, ⟨19, _⟩ => ⟨S2x2x4x4096x4352, .f32⟩
  | .hbm, ⟨20, _⟩ => ⟨S2x2x4x4096x4352, .f32⟩
  | .hbm, ⟨21, _⟩ => ⟨S2x2x4x4096x4352, .f32⟩
  | .hbm, ⟨22, _⟩ => ⟨S_, .f32⟩
  | .hbm, ⟨23, _⟩ => ⟨S2x2x4x4096, .f32⟩
  | .hbm, ⟨24, _⟩ => ⟨S2x2x4x4096x1, .f32⟩
  | .hbm, ⟨25, _⟩ => ⟨S2x2x4x4096x4352, .f32⟩
  | .hbm, ⟨26, _⟩ => ⟨S2x2x4x4096x4352, .f32⟩
  | .hbm, ⟨27, _⟩ => ⟨S2x2x64x4x4096, .f32⟩
  | .hbm, ⟨28, _⟩ => ⟨S2x4096x2x4x64, .f32⟩
  | .hbm, ⟨29, _⟩ => ⟨S8192x512, .f32⟩
  | .hbm, ⟨30, _⟩ => ⟨S8192x512, .bf16⟩
  | _, _ => ⟨S2x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel2.lean ====
abbrev S2x4096x1024 : Shape := ⟨3, ![2, 4096, 1024]⟩
abbrev S2x4096x512 : Shape := ⟨3, ![2, 4096, 512]⟩
abbrev S2x4096x256 : Shape := ⟨3, ![2, 4096, 256]⟩
abbrev S2x6144 : Shape := ⟨2, ![2, 6144]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S1x6x1024 : Shape := ⟨3, ![1, 6, 1024]⟩
abbrev S2x6x1024 : Shape := ⟨3, ![2, 6, 1024]⟩
abbrev S5x6x1024 : Shape := ⟨3, ![5, 6, 1024]⟩
abbrev S8x6x1024 : Shape := ⟨3, ![8, 6, 1024]⟩
abbrev S8192x1024 : Shape := ⟨2, ![8192, 1024]⟩
abbrev S8192x512 : Shape := ⟨2, ![8192, 512]⟩
abbrev S8192x256 : Shape := ⟨2, ![8192, 256]⟩
abbrev S1x1024 : Shape := ⟨2, ![1, 1024]⟩
abbrev S1x5632 : Shape := ⟨2, ![1, 5632]⟩
abbrev S512x1024 : Shape := ⟨2, ![512, 1024]⟩
abbrev S8x1024 : Shape := ⟨2, ![8, 1024]⟩
abbrev S512x512 : Shape := ⟨2, ![512, 512]⟩
abbrev S16x512 : Shape := ⟨2, ![16, 512]⟩
abbrev S512x256 : Shape := ⟨2, ![512, 256]⟩
abbrev S16x256 : Shape := ⟨2, ![16, 256]⟩
abbrev S2x528x2816 : Shape := ⟨3, ![2, 528, 2816]⟩
abbrev S512x2816 : Shape := ⟨2, ![512, 2816]⟩
abbrev S8x512 : Shape := ⟨2, ![8, 512]⟩
abbrev S8x256 : Shape := ⟨2, ![8, 256]⟩
abbrev S528x1024 : Shape := ⟨2, ![528, 1024]⟩
abbrev S1x1x1024 : Shape := ⟨3, ![1, 1, 1024]⟩
abbrev S528 : Shape := ⟨1, ![528]⟩
abbrev S528x1 : Shape := ⟨2, ![528, 1]⟩
abbrev S1024x2816 : Shape := ⟨2, ![1024, 2816]⟩
abbrev S528x2816 : Shape := ⟨2, ![528, 2816]⟩
abbrev S1x528x2816 : Shape := ⟨3, ![1, 528, 2816]⟩
abbrev S3x256 : Shape := ⟨2, ![3, 256]⟩
abbrev S1x528x256 : Shape := ⟨3, ![1, 528, 256]⟩
abbrev S528x256 : Shape := ⟨2, ![528, 256]⟩
abbrev S1x256 : Shape := ⟨2, ![1, 256]⟩
abbrev S512 : Shape := ⟨1, ![512]⟩
abbrev S512x1 : Shape := ⟨2, ![512, 1]⟩

abbrev nBuf : Space → Nat
  | .hbm => 32
  | .vmem => 37
  | .smem => 0
  | _ => 0

abbrev bufTy : (tb : Table) → Fin (tcTables nBuf tb) → BufTy
  | .hbm, ⟨0, _⟩ => ⟨S2x4096x1024, .f32⟩
  | .hbm, ⟨1, _⟩ => ⟨S2x4096x512, .f32⟩
  | .hbm, ⟨2, _⟩ => ⟨S2x4096x256, .f32⟩
  | .hbm, ⟨3, _⟩ => ⟨S2x4096x256, .f32⟩
  | .hbm, ⟨4, _⟩ => ⟨S2x6144, .f32⟩
  | .hbm, ⟨5, _⟩ => ⟨S1024x1024, .f32⟩
  | .hbm, ⟨6, _⟩ => ⟨S1024, .f32⟩
  | .hbm, ⟨7, _⟩ => ⟨S1024x5632, .f32⟩
  | .hbm, ⟨8, _⟩ => ⟨S3x5632, .f32⟩
  | .hbm, ⟨9, _⟩ => ⟨S5632, .f32⟩
  | .hbm, ⟨10, _⟩ => ⟨S2816x1024, .f32⟩
  | .hbm, ⟨11, _⟩ => ⟨S1024, .f32⟩
  | .hbm, ⟨12, _⟩ => ⟨S_, .f32⟩
  | .hbm, ⟨13, _⟩ => ⟨S1x6x1024, .f32⟩
  | .hbm, ⟨14, _⟩ => ⟨S2x6x1024, .f32⟩
  | .hbm, ⟨15, _⟩ => ⟨S_, .f32⟩
  | .hbm, ⟨16, _⟩ => ⟨S5x6x1024, .f32⟩
  | .hbm, ⟨17, _⟩ => ⟨S8x6x1024, .f32⟩
  | .hbm, ⟨18, _⟩ => ⟨S8192x1024, .f32⟩
  | .hbm, ⟨19, _⟩ => ⟨S8192x512, .f32⟩
  | .hbm, ⟨20, _⟩ => ⟨S8192x512, .bf16⟩
  | .hbm, ⟨21, _⟩ => ⟨S8192x256, .f32⟩
  | .hbm, ⟨22, _⟩ => ⟨S8192x256, .bf16⟩
  | .hbm, ⟨23, _⟩ => ⟨S8192x256, .f32⟩
  | .hbm, ⟨24, _⟩ => ⟨S8192x256, .bf16⟩
  | .hbm, ⟨25, _⟩ => ⟨S1024x1024, .bf16⟩
  | .hbm, ⟨26, _⟩ => ⟨S1024x5632, .bf16⟩
  | .hbm, ⟨27, _⟩ => ⟨S2816x1024, .bf16⟩
  | .hbm, ⟨28, _⟩ => ⟨S1x1024, .f32⟩
  | .hbm, ⟨29, _⟩ => ⟨S1x5632, .f32⟩
  | .hbm, ⟨30, _⟩ => ⟨S1x1024, .f32⟩
  | .hbm, ⟨31, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S512x512, .bf16⟩
  | .local _ .vmem, ⟨7, _⟩ => ⟨S512x512, .bf16⟩
  | .local _ .vmem, ⟨8, _⟩ => ⟨S16x512, .bf16⟩
  | .local _ .vmem, ⟨9, _⟩ => ⟨S16x512, .bf16⟩
  | .local _ .vmem, ⟨10, _⟩ => ⟨S16x512, .bf16⟩
  | .local _ .vmem, ⟨11, _⟩ => ⟨S16x512, .bf16⟩
  | .local _ .vmem, ⟨12, _⟩ => ⟨S512x256, .bf16⟩
  | .local _ .vmem, ⟨13, _⟩ => ⟨S512x256, .bf16⟩
  | .local _ .vmem, ⟨14, _⟩ => ⟨S16x256, .bf16⟩
  | .local _ .vmem, ⟨15, _⟩ => ⟨S16x256, .bf16⟩
  | .local _ .vmem, ⟨16, _⟩ => ⟨S16x256, .bf16⟩
  | .local _ .vmem, ⟨17, _⟩ => ⟨S16x256, .bf16⟩
  | .local _ .vmem, ⟨18, _⟩ => ⟨S512x256, .bf16⟩
  | .local _ .vmem, ⟨19, _⟩ => ⟨S512x256, .bf16⟩
  | .local _ .vmem, ⟨20, _⟩ => ⟨S16x256, .bf16⟩
  | .local _ .vmem, ⟨21, _⟩ => ⟨S16x256, .bf16⟩
  | .local _ .vmem, ⟨22, _⟩ => ⟨S16x256, .bf16⟩
  | .local _ .vmem, ⟨23, _⟩ => ⟨S16x256, .bf16⟩
  | .local _ .vmem, ⟨24, _⟩ => ⟨S1x6x1024, .f32⟩
  | .local _ .vmem, ⟨25, _⟩ => ⟨S1x6x1024, .f32⟩
  | .local _ .vmem, ⟨26, _⟩ => ⟨S1024x1024, .bf16⟩
  | .local _ .vmem, ⟨27, _⟩ => ⟨S1x1024, .f32⟩
  | .local _ .vmem, ⟨28, _⟩ => ⟨S1024x5632, .bf16⟩
  | .local _ .vmem, ⟨29, _⟩ => ⟨S3x5632, .f32⟩
  | .local _ .vmem, ⟨30, _⟩ => ⟨S1x5632, .f32⟩
  | .local _ .vmem, ⟨31, _⟩ => ⟨S2816x1024, .bf16⟩
  | .local _ .vmem, ⟨32, _⟩ => ⟨S1x1024, .f32⟩
  | .local _ .vmem, ⟨33, _⟩ => ⟨S512x1024, .f32⟩
  | .local _ .vmem, ⟨34, _⟩ => ⟨S512x1024, .f32⟩
  | .local _ .vmem, ⟨35, _⟩ => ⟨S2x528x2816, .f32⟩
  | .local _ .vmem, ⟨36, _⟩ => ⟨S512x2816, .bf16⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg14_0 : Ref sig .tc := ⟨.vmem, 27, rfl⟩
abbrev cc0_stg15_0 : Ref sig .tc := ⟨.vmem, 28, rfl⟩
abbrev cc0_stg16_0 : Ref sig .tc := ⟨.vmem, 29, rfl⟩
abbrev cc0_stg17_0 : Ref sig .tc := ⟨.vmem, 30, rfl⟩
abbrev cc0_stg18_0 : Ref sig .tc := ⟨.vmem, 31, rfl⟩
abbrev cc0_stg19_0 : Ref sig .tc := ⟨.vmem, 32, rfl⟩
abbrev cc0_stg20_0 : Ref sig .tc := ⟨.vmem, 33, rfl⟩
abbrev cc0_stg20_1 : Ref sig .tc := ⟨.vmem, 34, rfl⟩
abbrev cc0_scratch0 : Ref sig .tc := ⟨.vmem, 35, rfl⟩
abbrev cc0_scratch1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem14_0 : DmaSem sig := 27
abbrev cc0_sem15_0 : DmaSem sig := 28
abbrev cc0_sem16_0 : DmaSem sig := 29
abbrev cc0_sem17_0 : DmaSem sig := 30
abbrev cc0_sem18_0 : DmaSem sig := 31
abbrev cc0_sem19_0 : DmaSem sig := 32
abbrev cc0_sem20_0 : DmaSem sig := 33
abbrev cc0_sem20_1 : DmaSem sig := 34

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_11 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_12 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c0_i32_5 : BitVec 32 := 0#32
  let c0_i32_6 : BitVec 32 := 0#32
  let c0_i32_7 : BitVec 32 := 0#32
  ![v17.toNat, c0_i32_5.toNat, c0_i32_6.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x6x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x5632 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S3x5632 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x5632 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S2816x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S512x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Reference2Ideal.lean ====
abbrev S2x4096x1024 : Shape := ⟨3, ![2, 4096, 1024]⟩
abbrev S2x4096x512 : Shape := ⟨3, ![2, 4096, 512]⟩
abbrev S2x4096x256 : Shape := ⟨3, ![2, 4096, 256]⟩
abbrev S2x6144 : Shape := ⟨2, ![2, 6144]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S2x1x6144 : Shape := ⟨3, ![2, 1, 6144]⟩
abbrev S2x1x1024 : Shape := ⟨3, ![2, 1, 1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S2x4096x5632 : Shape := ⟨3, ![2, 4096, 5632]⟩
abbrev S2x4098x5632 : Shape := ⟨3, ![2, 4098, 5632]⟩
abbrev S1x5632 : Shape := ⟨2, ![1, 5632]⟩
abbrev S1x1x5632 : Shape := ⟨3, ![1, 1, 5632]⟩
abbrev S2x4096x2816 : Shape := ⟨3, ![2, 4096, 2816]⟩
abbrev S8192x1024 : Shape := ⟨2, ![8192, 1024]⟩

abbrev nBuf : Space → Nat
  | .hbm => 106
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x512, .f32⟩
  | .hbm, ⟨2, _⟩ => ⟨S2x4096x256, .f32⟩
  | .hbm, ⟨3, _⟩ => ⟨S2x4096x256, .f32⟩
  | .hbm, ⟨4, _⟩ => ⟨S2x6144, .f32⟩
  | .hbm, ⟨5, _⟩ => ⟨S1024x1024, .f32⟩
  | .hbm, ⟨6, _⟩ => ⟨S1024, .f32⟩
  | .hbm, ⟨7, _⟩ => ⟨S1024x5632, .f32⟩
  | .hbm, ⟨8, _⟩ => ⟨S3x5632, .f32⟩
  | .hbm, ⟨9, _⟩ => ⟨S5632, .f32⟩
  | .hbm, ⟨10, _⟩ => ⟨S2816x1024, .f32⟩
  | .hbm, ⟨11, _⟩ => ⟨S1024, .f32⟩
  | .hbm, ⟨12, _⟩ => ⟨S2x1x6144, .f32⟩
  | .hbm, ⟨13, _⟩ => ⟨S2x1x1024, .f32⟩
  | .hbm, ⟨14, _⟩ => ⟨S2x1x1024, .f32⟩
  | .hbm, ⟨15, _⟩ => ⟨S2x1x1024, .f32⟩
  | .hbm, ⟨16, _⟩ => ⟨S2x1x1024, .f32⟩
  | .hbm, ⟨17, _⟩ => ⟨S2x1x1024, .f32⟩
  | .hbm, ⟨18, _⟩ => ⟨S2x1x1024, .f32⟩
  | .hbm, ⟨19, _⟩ => ⟨S2x4096x1024, .f32⟩
  | .hbm, ⟨20, _⟩ => ⟨S2x4096x1024, .f32⟩
  | .hbm, ⟨21, _⟩ => ⟨S2x4096x1024, .f32⟩
  | .hbm, ⟨22, _⟩ => ⟨S2x4096x1024, .f32⟩
  | .hbm, ⟨23, _⟩ => ⟨S2x4096x1024, .f32⟩
  | .hbm, ⟨24, _⟩ => ⟨S2x4096x1024, .f32⟩
  | .hbm, ⟨25, _⟩ => ⟨S_, .f32⟩
  | .hbm, ⟨26, _⟩ => ⟨S2x4096, .f32⟩
  | .hbm, ⟨27, _⟩ => ⟨S2x4096x1, .f32⟩
  | .hbm, ⟨28, _⟩ => ⟨S_, .f32⟩
  | .hbm, ⟨29, _⟩ => ⟨S2x4096x1, .f32⟩
  | .hbm, ⟨30, _⟩ => ⟨S2x4096x1, .f32⟩
  | .hbm, ⟨31, _⟩ => ⟨S_, .f32⟩
  | .hbm, ⟨32, _⟩ => ⟨S2x4096x1, .f32⟩
  | .hbm, ⟨33, _⟩ => ⟨S2x4096x1, .f32⟩
  | .hbm, ⟨34, _⟩ => ⟨S2x4096x1, .f32⟩
  | .hbm, ⟨35, _⟩ => ⟨S2x4096x1024, .f32⟩
  | .hbm, ⟨36, _⟩ => ⟨S2x4096x1024, .f32⟩
  | .hbm, ⟨37, _⟩ => ⟨S1x1x1024, .f32⟩
  | .hbm, ⟨38, _⟩ => ⟨S2x4096x1024, .f32⟩
  | .hbm, ⟨39, _⟩ => ⟨S2x4096x1024, .f32⟩
  | .hbm, ⟨40, _⟩ => ⟨S_, .f32⟩
  | .hbm, ⟨41, _⟩ => ⟨S2x1x1024, .f32⟩
  | .hbm, ⟨42, _⟩ => ⟨S2x1x1024, .f32⟩
  | .hbm, ⟨43, _⟩ => ⟨S2x4096x1024, .f32⟩
  | .hbm, ⟨44, _⟩ => ⟨S2x4096x1024, .f32⟩
  | .hbm, ⟨45, _⟩ => ⟨S2x4096x1024, .f32⟩
  | .hbm, ⟨46, _⟩ => ⟨S2x4096x1024, .f32⟩
  | .hbm, ⟨47, _⟩ => ⟨S2x4096x5632, .f32⟩
  | .hbm, ⟨48, _⟩ => ⟨S_, .f32⟩
  | .hbm, ⟨49, _⟩ => ⟨S2x4098x5632, .f32⟩
  | .hbm, ⟨50, _⟩ => ⟨S2x4096x5632, .f32⟩
  | .hbm, ⟨51, _⟩ => ⟨S1x5632, .f32⟩
  | .hbm, ⟨52, _⟩ => ⟨S5632, .f32⟩
  | .hbm, ⟨53, _⟩ => ⟨S1x1x5632, .f32⟩
  | .hbm, ⟨54, _⟩ => ⟨S2x4096x5632, .f32⟩
  | .hbm, ⟨55, _⟩ => ⟨S2x4096x5632, .f32⟩
  | .hbm, ⟨56, _⟩ => ⟨S2x4096x5632, .f32⟩
  | .hbm, ⟨57, _⟩ => ⟨S1x5632, .f32⟩
  | .hbm, ⟨58, _⟩ => ⟨S5632, .f32⟩
  | .hbm, ⟨59, _⟩ => ⟨S1x1x5632, .f32⟩
  | .hbm, ⟨60, _⟩ => ⟨S2x4096x5632, .f32⟩
  | .hbm, ⟨61, _⟩ => ⟨S2x4096x5632, .f32⟩
  | .hbm, ⟨62, _⟩ => ⟨S2x4096x5632, .f32⟩
  | .hbm, ⟨63, _⟩ => ⟨S2x4096x5632, .f32⟩
  | .hbm, ⟨64, _⟩ => ⟨S1x5632, .f32⟩
  | .hbm, ⟨65, _⟩ => ⟨S5632, .f32⟩
  | .hbm, ⟨66, _⟩ => ⟨S1x1x5632, .f32⟩
  | .hbm, ⟨67, _⟩ => ⟨S2x4096x5632, .f32⟩
  | .hbm, ⟨68, _⟩ => ⟨S2x4096x5632, .f32⟩
  | .hbm, ⟨69, _⟩ => ⟨S2x4096x5632, .f32⟩
  | .hbm, ⟨70, _⟩ => ⟨S1x1x5632, .f32⟩
  | .hbm, ⟨71, _⟩ => ⟨S2x4096x5632, .f32⟩
  | .hbm, ⟨72, _⟩ => ⟨S2x4096x5632, .f32⟩
  | .hbm, ⟨73, _⟩ => ⟨S2x4096x2816, .f32⟩
  | .hbm, ⟨74, _⟩ => ⟨S2x4096x2816, .f32⟩
  | .hbm, ⟨75, _⟩ => ⟨S2x4096x2816, .f32⟩
  | .hbm, ⟨76, _⟩ => ⟨S2x4096x2816, .f32⟩
  | .hbm, ⟨77, _⟩ => ⟨S_, .f32⟩
  | .hbm, ⟨78, _⟩ => ⟨S2x4096x2816, .f32⟩
  | .hbm, ⟨79, _⟩ => ⟨S2x4096x2816, .f32⟩
  | .hbm, ⟨80, _⟩ => ⟨S_, .f32⟩
  | .hbm, ⟨81, _⟩ => ⟨S2x4096x2816, .f32⟩
  | .hbm, ⟨82, _⟩ => ⟨S2x4096x2816, .f32⟩
  | .hbm, ⟨83, _⟩ => ⟨S2x4096x2816, .f32⟩
  | .hbm, ⟨84, _⟩ => ⟨S2x4096x2816, .f32⟩
  | .hbm, ⟨85, _⟩ => ⟨S2x4096x1024, .f32⟩
  | .hbm, ⟨86, _⟩ => ⟨S2x4096x1024, .f32⟩
  | .hbm, ⟨87, _⟩ => ⟨S2x4096x1024, .f32⟩
  | .hbm, ⟨88, _⟩ => ⟨S2x4096x1024, .f32⟩
  | .hbm, ⟨89, _⟩ => ⟨S2x4096x1024, .f32⟩
  | .hbm, ⟨90, _⟩ => ⟨S_, .f32⟩
  | .hbm, ⟨91, _⟩ => ⟨S2x4096, .f32⟩
  | .hbm, ⟨92, _⟩ => ⟨S2x4096x1, .f32⟩
  | .hbm, ⟨93, _⟩ => ⟨S_, .f32⟩
  | .hbm, ⟨94, _⟩ => ⟨S2x4096x1, .f32⟩
  | .hbm, ⟨95, _⟩ => ⟨S2x4096x1, .f32⟩
  | .hbm, ⟨96, _⟩ => ⟨S_, .f32⟩
  | .hbm, ⟨97, _⟩ => ⟨S2x4096x1, .f32⟩
  | .hbm, ⟨98, _⟩ => ⟨S2x4096x1, .f32⟩
  | .hbm, ⟨99, _⟩ => ⟨S2x4096x1, .f32⟩
  | .hbm, ⟨100, _⟩ => ⟨S2x4096x1024, .f32⟩
  | .hbm, ⟨101, _⟩ => ⟨S2x4096x1024, .f32⟩
  | .hbm, ⟨102, _⟩ => ⟨S1x1x1024, .f32⟩
  | .hbm, ⟨103, _⟩ => ⟨S2x4096x1024, .f32⟩
  | .hbm, ⟨104, _⟩ => ⟨S2x4096x1024, .f32⟩
  | .hbm, ⟨105, _⟩ => ⟨S8192x1024, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_cst_0 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_3 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_4 : Ref sig .tc := ⟨.hbm, 77, rfl⟩
abbrev main_v60 : Ref sig .tc := ⟨.hbm, 78, rfl⟩
abbrev main_v61 : Ref sig .tc := ⟨.hbm, 79, rfl⟩
abbrev main_cst_5 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_6 : Ref sig .tc := ⟨.hbm, 90, rfl⟩
abbrev main_v71 : Ref sig .tc := ⟨.hbm, 91, rfl⟩
abbrev main_v72 : Ref sig .tc := ⟨.hbm, 92, rfl⟩
abbrev main_cst_7 : Ref sig .tc := ⟨.hbm, 93, rfl⟩
abbrev main_v73 : Ref sig .tc := ⟨.hbm, 94, rfl⟩
abbrev main_v74 : Ref sig .tc := ⟨.hbm, 95, rfl⟩
abbrev main_cst_8 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩

abbrev nD : Nat := 1
abbrev τ : Topo := Topo.v7x

variable {F : FTy → Type} [FloatOps F]
-- ==== Kernel3.lean ====
abbrev S32x256x1024 : Shape := ⟨3, ![32, 256, 1024]⟩
abbrev S1x6144 : Shape := ⟨2, ![1, 6144]⟩
abbrev S1024 : Shape := ⟨1, ![1024]⟩
abbrev S1024x2048 : Shape := ⟨2, ![1024, 2048]⟩
abbrev S64 : Shape := ⟨1, ![64]⟩
abbrev S2 : Shape := ⟨1, ![2]⟩
abbrev S1x6x1024 : Shape := ⟨3, ![1, 6, 1024]⟩
abbrev S_ : Shape := ⟨0, ![]⟩
abbrev S7x6x1024 : Shape := ⟨3, ![7, 6, 1024]⟩
abbrev S8x6x1024 : Shape := ⟨3, ![8, 6, 1024]⟩
abbrev S8192x1024 : Shape := ⟨2, ![8192, 1024]⟩
abbrev S16x64 : Shape := ⟨2, ![16, 64]⟩
abbrev S16 : Shape := ⟨1, ![16]⟩
abbrev S1024x1 : Shape := ⟨2, ![1024, 1]⟩
abbrev S1024x2 : Shape := ⟨2, ![1024, 2]⟩
abbrev S1024x2x32 : Shape := ⟨3, ![1024, 2, 32]⟩
abbrev S1024x64 : Shape := ⟨2, ![1024, 64]⟩
abbrev S1x16 : Shape := ⟨2, ![1, 16]⟩
abbrev S4x16 : Shape := ⟨2, ![4, 16]⟩
abbrev S1x64 : Shape := ⟨2, ![1, 64]⟩
abbrev S2x16 : Shape := ⟨2, ![2, 16]⟩
abbrev S32 : Shape := ⟨1, ![32]⟩
abbrev S1x32 : Shape := ⟨2, ![1, 32]⟩
abbrev S2x32 : Shape := ⟨2, ![2, 32]⟩
abbrev S1x1024x1x64 : Shape := ⟨4, ![1, 1024, 1, 64]⟩
abbrev S1x1024x4x64 : Shape := ⟨4, ![1, 1024, 4, 64]⟩
abbrev S1024x256 : Shape := ⟨2, ![1024, 256]⟩
abbrev S4x4 : Shape := ⟨2, ![4, 4]⟩
abbrev S4x64x4 : Shape := ⟨3, ![4, 64, 4]⟩
abbrev S256x4 : Shape := ⟨2, ![256, 4]⟩
abbrev S256x4x64 : Shape := ⟨3, ![256, 4, 64]⟩
abbrev S256x256 : Shape := ⟨2, ![256, 256]⟩
abbrev S1x1024 : Shape := ⟨2, ![1, 1024]⟩
abbrev S4x64 : Shape := ⟨2, ![4, 64]⟩
abbrev S256 : Shape := ⟨1, ![256]⟩
abbrev S1x256 : Shape := ⟨2, ![1, 256]⟩
abbrev S512x8192 : Shape := ⟨2, ![512, 8192]⟩
abbrev S8192x128 : Shape := ⟨2, ![8192, 128]⟩
abbrev S128x8192 : Shape := ⟨2, ![128, 8192]⟩
abbrev S8192x512 : Shape := ⟨2, ![8192, 512]⟩
abbrev S8192x768 : Shape := ⟨2, ![8192, 768]⟩
abbrev S1024x1024 : Shape := ⟨2, ![1024, 1024]⟩
abbrev S512x1024 : Shape := ⟨2, ![512, 1024]⟩
abbrev S1024x128 : Shape := ⟨2, ![1024, 128]⟩
abbrev S128x1024 : Shape := ⟨2, ![128, 1024]⟩
abbrev S1024x512 : Shape := ⟨2, ![1024, 512]⟩
abbrev S1024x768 : Shape := ⟨2, ![1024, 768]⟩
abbrev S1x1x1024 : Shape := ⟨3, ![1, 1, 1024]⟩
abbrev S256x1024 : Shape := ⟨2, ![256, 1024]⟩
abbrev S128x128 : Shape := ⟨2, ![128, 128]⟩
abbrev S1x128 : Shape := ⟨2, ![1, 128]⟩

abbrev nBuf : Space → Nat
  | .hbm => 90
  | .vmem => 24
  | .smem => 0
  | _ => 0

abbrev bufTy : (tb : Table) → Fin (tcTables nBuf tb) → BufTy
  | .hbm, ⟨0, _⟩ => ⟨S32x256x1024, .f32⟩
  | .hbm, ⟨1, _⟩ => ⟨S1x6144, .f32⟩
  | .hbm, ⟨2, _⟩ => ⟨S1024, .f32⟩
  | .hbm, ⟨3, _⟩ => ⟨S1024x2048, .f32⟩
  | .hbm, ⟨4, _⟩ => ⟨S64, .f32⟩
  | .hbm, ⟨5, _⟩ => ⟨S64, .f32⟩
  | .hbm, ⟨6, _⟩ => ⟨S2, .f32⟩
  | .hbm, ⟨7, _⟩ => ⟨S1x6x1024, .f32⟩
  | .hbm, ⟨8, _⟩ => ⟨S_, .f32⟩
  | .hbm, ⟨9, _⟩ => ⟨S7x6x1024, .f32⟩
  | .hbm, ⟨10, _⟩ => ⟨S8x6x1024, .f32⟩
  | .hbm, ⟨11, _⟩ => ⟨S8192x1024, .f32⟩
  | .hbm, ⟨12, _⟩ => ⟨S1024x2048, .bf16⟩
  | .hbm, ⟨13, _⟩ => ⟨S16x64, .i32⟩
  | .hbm, ⟨14, _⟩ => ⟨S1024, .i32⟩
  | .hbm, ⟨15, _⟩ => ⟨S16x64, .i32⟩
  | .hbm, ⟨16, _⟩ => ⟨S1024, .i32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S16, .f32⟩
  | .hbm, ⟨25, _⟩ => ⟨S_, .f32⟩
  | .hbm, ⟨26, _⟩ => ⟨S16, .f32⟩
  | .hbm, ⟨27, _⟩ => ⟨S16, .f32⟩
  | .hbm, ⟨28, _⟩ => ⟨S_, .f32⟩
  | .hbm, ⟨29, _⟩ => ⟨S16, .f32⟩
  | .hbm, ⟨30, _⟩ => ⟨S16, .f32⟩
  | .hbm, ⟨31, _⟩ => ⟨S1024x1, .i32⟩
  | .hbm, ⟨32, _⟩ => ⟨S1024x1, .i32⟩
  | .hbm, ⟨33, _⟩ => ⟨S1024x2, .i32⟩
  | .hbm, ⟨34, _⟩ => ⟨S1024x2, .f32⟩
  | .hbm, ⟨35, _⟩ => ⟨S1024x2x32, .f32⟩
  | .hbm, ⟨36, _⟩ => ⟨S1024x64, .f32⟩
  | .hbm, ⟨37, _⟩ => ⟨S1x16, .f32⟩
  | .hbm, ⟨38, _⟩ => ⟨S4x16, .f32⟩
  | .hbm, ⟨39, _⟩ => ⟨S64, .f32⟩
  | .hbm, ⟨40, _⟩ => ⟨S1x64, .f32⟩
  | .hbm, ⟨41, _⟩ => ⟨S1024x64, .f32⟩
  | .hbm, ⟨42, _⟩ => ⟨S1024x64, .f32⟩
  | .hbm, ⟨43, _⟩ => ⟨S2x16, .f32⟩
  | .hbm, ⟨44, _⟩ => ⟨S32, .f32⟩
  | .hbm, ⟨45, _⟩ => ⟨S1x32, .f32⟩
  | .hbm, ⟨46, _⟩ => ⟨S2x32, .f32⟩
  | .hbm, ⟨47, _⟩ => ⟨S64, .f32⟩
  | .hbm, ⟨48, _⟩ => ⟨S1x64, .f32⟩
  | .hbm, ⟨49, _⟩ => ⟨S1024x64, .f32⟩
  | .hbm, ⟨50, _⟩ => ⟨S1x1024x1x64, .f32⟩
  | .hbm, ⟨51, _⟩ => ⟨S1x1024x4x64, .f32⟩
  | .hbm, ⟨52, _⟩ => ⟨S1024x256, .f32⟩
  | .hbm, ⟨53, _⟩ => ⟨S1024x64, .f32⟩
  | .hbm, ⟨54, _⟩ => ⟨S1024x64, .f32⟩
  | .hbm, ⟨55, _⟩ => ⟨S1024x64, .f32⟩
  | .hbm, ⟨56, _⟩ => ⟨S1x1024x1x64, .f32⟩
  | .hbm, ⟨57, _⟩ => ⟨S1x1024x4x64, .f32⟩
  | .hbm, ⟨58, _⟩ => ⟨S1024x256, .f32⟩
  | .hbm, ⟨59, _⟩ => ⟨S4x4, .i32⟩
  | .hbm, ⟨60, _⟩ => ⟨S4x4, .i32⟩
  | .hbm, ⟨61, _⟩ => ⟨S_, .i32⟩
  | .hbm, ⟨62, _⟩ => ⟨S4x4, .i32⟩
  | .hbm, ⟨63, _⟩ => ⟨S4x4, .i32⟩
  | .hbm, ⟨64, _⟩ => ⟨S4x4, .i1⟩
  | .hbm, ⟨65, _⟩ => ⟨S4x4, .f32⟩
  | .hbm, ⟨66, _⟩ => ⟨S_, .f32⟩
  | .hbm, ⟨67, _⟩ => ⟨S4x4, .f32⟩
  | .hbm, ⟨68, _⟩ => ⟨S4x4, .f32⟩
  | .hbm, ⟨69, _⟩ => ⟨S4x64x4, .f32⟩
  | .hbm, ⟨70, _⟩ => ⟨S256x4, .f32⟩
  | .hbm, ⟨71, _⟩ => ⟨S256x4x64, .f32⟩
  | .hbm, ⟨72, _⟩ => ⟨S256x256, .f32⟩
  | .hbm, ⟨73, _⟩ => ⟨S256x256, .bf16⟩
  | .hbm, ⟨74, _⟩ => ⟨S1x1024, .f32⟩
  | .hbm, ⟨75, _⟩ => ⟨S1x64, .f32⟩
  | .hbm, ⟨76, _⟩ => ⟨S4x64, .f32⟩
  | .hbm, ⟨77, _⟩ => ⟨S256, .f32⟩
  | .hbm, ⟨78, _⟩ => ⟨S1x256, .f32⟩
  | .hbm, ⟨79, _⟩ => ⟨S1x64, .f32⟩
  | .hbm, ⟨80, _⟩ => ⟨S4x64, .f32⟩
  | .hbm, ⟨81, _⟩ => ⟨S256, .f32⟩
  | .hbm, ⟨82, _⟩ => ⟨S1x256, .f32⟩
  | .hbm, ⟨83, _⟩ => ⟨S512x8192, .bf16⟩
  | .hbm, ⟨84, _⟩ => ⟨S8192x128, .f32⟩
  | .hbm, ⟨85, _⟩ => ⟨S8192x128, .bf16⟩
  | .hbm, ⟨86, _⟩ => ⟨S8192x128, .f32⟩
  | .hbm, ⟨87, _⟩ => ⟨S128x8192, .bf16⟩
  | .hbm, ⟨88, _⟩ => ⟨S8192x512, .bf16⟩
  | .hbm, ⟨89, _⟩ => ⟨S8192x768, .bf16⟩
  | .local _ .vmem, ⟨0, _⟩ => ⟨S1024x1024, .f32⟩
  | .local _ .vmem, ⟨1, _⟩ => ⟨S1024x1024, .f32⟩
  | .local _ .vmem, ⟨2, _⟩ => ⟨S1x6x1024, .f32⟩
  | .local _ .vmem, ⟨3, _⟩ => ⟨S1x1024, .f32⟩
  | .local _ .vmem, ⟨4, _⟩ => ⟨S1024x2048, .bf16⟩
  | .local _ .vmem, ⟨5, _⟩ => ⟨S1x256, .f32⟩
  | .local _ .vmem, ⟨6, _⟩ => ⟨S1x256, .f32⟩
  | .local _ .vmem, ⟨7, _⟩ => ⟨S256x256, .bf16⟩
  | .local _ .vmem, ⟨8, _⟩ => ⟨S1024x256, .f32⟩
  | .local _ .vmem, ⟨9, _⟩ => ⟨S1024x256, .f32⟩
  | .local _ .vmem, ⟨10, _⟩ => ⟨S512x1024, .bf16⟩
  | .local _ .vmem, ⟨11, _⟩ => ⟨S512x1024, .bf16⟩
  | .local _ .vmem, ⟨12, _⟩ => ⟨S1024x128, .f32⟩
  | .local _ .vmem, ⟨13, _⟩ => ⟨S1024x128, .f32⟩
  | .local _ .vmem, ⟨14, _⟩ => ⟨S1024x128, .bf16⟩
  | .local _ .vmem, ⟨15, _⟩ => ⟨S1024x128, .bf16⟩
  | .local _ .vmem, ⟨16, _⟩ => ⟨S1024x128, .f32⟩
  | .local _ .vmem, ⟨17, _⟩ => ⟨S1024x128, .f32⟩
  | .local _ .vmem, ⟨18, _⟩ => ⟨S128x1024, .bf16⟩
  | .local _ .vmem, ⟨19, _⟩ => ⟨S128x1024, .bf16⟩
  | .local _ .vmem, ⟨20, _⟩ => ⟨S1024x512, .bf16⟩
  | .local _ .vmem, ⟨21, _⟩ => ⟨S1024x512, .bf16⟩
  | .local _ .vmem, ⟨22, _⟩ => ⟨S1024x768, .bf16⟩
  | .local _ .vmem, ⟨23, _⟩ => ⟨S1024x768, .bf16⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_c : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_5 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69_0 : Ref sig .tc := ⟨.hbm, 83, rfl⟩
abbrev main_v69_1 : Ref sig .tc := ⟨.hbm, 84, rfl⟩
abbrev main_v69_2 : Ref sig .tc := ⟨.hbm, 85, rfl⟩
abbrev main_v69_3 : Ref sig .tc := ⟨.hbm, 86, rfl⟩
abbrev main_v69_4 : Ref sig .tc := ⟨.hbm, 87, rfl⟩
abbrev main_v69_5 : Ref sig .tc := ⟨.hbm, 88, rfl⟩
abbrev main_v69_6 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x768 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Kernel3Ideal.lean ====
variable {F : FTy → Type} [FloatOps F] [Named F]
def κ : String → Option EReal := fun
  | "scale" => some (((1 / 8) * (Real.log 2)⁻¹ : ℝ) : EReal)
  | _ => none
-- ==== Reference3Ideal.lean ====
abbrev S32x256x1024 : Shape := ⟨3, ![32, 256, 1024]⟩
abbrev S1x6144 : Shape := ⟨2, ![1, 6144]⟩
abbrev S1024 : Shape := ⟨1, ![1024]⟩
abbrev S1024x2048 : Shape := ⟨2, ![1024, 2048]⟩
abbrev S64 : Shape := ⟨1, ![64]⟩
abbrev S1x1x6144 : Shape := ⟨3, ![1, 1, 6144]⟩
abbrev S1x1x1024 : Shape := ⟨3, ![1, 1, 1024]⟩
abbrev S_ : Shape := ⟨0, ![]⟩
abbrev S32x256 : Shape := ⟨2, ![32, 256]⟩
abbrev S32x256x1 : Shape := ⟨3, ![32, 256, 1]⟩
abbrev S32x256x2048 : Shape := ⟨3, ![32, 256, 2048]⟩
abbrev S32x256x512 : Shape := ⟨3, ![32, 256, 512]⟩
abbrev S32x256x128 : Shape := ⟨3, ![32, 256, 128]⟩
abbrev S32x256x768 : Shape := ⟨3, ![32, 256, 768]⟩
abbrev S32x256x8x64 : Shape := ⟨4, ![32, 256, 8, 64]⟩
abbrev S32x256x8 : Shape := ⟨3, ![32, 256, 8]⟩
abbrev S32x256x8x1 : Shape := ⟨4, ![32, 256, 8, 1]⟩
abbrev S1x1x1x64 : Shape := ⟨4, ![1, 1, 1, 64]⟩
abbrev S32x256x2x64 : Shape := ⟨4, ![32, 256, 2, 64]⟩
abbrev S32x256x2 : Shape := ⟨3, ![32, 256, 2]⟩
abbrev S32x256x2x1 : Shape := ⟨4, ![32, 256, 2, 1]⟩
abbrev S8192x512 : Shape := ⟨2, ![8192, 512]⟩
abbrev S8192x128 : Shape := ⟨2, ![8192, 128]⟩
abbrev S512x8192 : Shape := ⟨2, ![512, 8192]⟩
abbrev S128x8192 : Shape := ⟨2, ![128, 8192]⟩
abbrev S8192x768 : Shape := ⟨2, ![8192, 768]⟩

abbrev nBuf : Space → Nat
  | .hbm => 95
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S1x6144, .f32⟩
  | .hbm, ⟨2, _⟩ => ⟨S1024, .f32⟩
  | .hbm, ⟨3, _⟩ => ⟨S1024x2048, .f32⟩
  | .hbm, ⟨4, _⟩ => ⟨S64, .f32⟩
  | .hbm, ⟨5, _⟩ => ⟨S64, .f32⟩
  | .hbm, ⟨6, _⟩ => ⟨S1x1x6144, .f32⟩
  | .hbm, ⟨7, _⟩ => ⟨S1x1x1024, .f32⟩
  | .hbm, ⟨8, _⟩ => ⟨S1x1x1024, .f32⟩
  | .hbm, ⟨9, _⟩ => ⟨S1x1x1024, .f32⟩
  | .hbm, ⟨10, _⟩ => ⟨S1x1x1024, .f32⟩
  | .hbm, ⟨11, _⟩ => ⟨S1x1x1024, .f32⟩
  | .hbm, ⟨12, _⟩ => ⟨S1x1x1024, .f32⟩
  | .hbm, ⟨13, _⟩ => ⟨S32x256x1024, .f32⟩
  | .hbm, ⟨14, _⟩ => ⟨S_, .f32⟩
  | .hbm, ⟨15, _⟩ => ⟨S32x256, .f32⟩
  | .hbm, ⟨16, _⟩ => ⟨S32x256x1, .f32⟩
  | .hbm, ⟨17, _⟩ => ⟨S_, .f32⟩
  | .hbm, ⟨18, _⟩ => ⟨S32x256x1, .f32⟩
  | .hbm, ⟨19, _⟩ => ⟨S32x256x1, .f32⟩
  | .hbm, ⟨20, _⟩ => ⟨S_, .f32⟩
  | .hbm, ⟨21, _⟩ => ⟨S32x256x1, .f32⟩
  | .hbm, ⟨22, _⟩ => ⟨S32x256x1, .f32⟩
  | .hbm, ⟨23, _⟩ => ⟨S32x256x1, .f32⟩
  | .hbm, ⟨24, _⟩ => ⟨S32x256x1024, .f32⟩
  | .hbm, ⟨25, _⟩ => ⟨S32x256x1024, .f32⟩
  | .hbm, ⟨26, _⟩ => ⟨S1x1x1024, .f32⟩
  | .hbm, ⟨27, _⟩ => ⟨S32x256x1024, .f32⟩
  | .hbm, ⟨28, _⟩ => ⟨S32x256x1024, .f32⟩
  | .hbm, ⟨29, _⟩ => ⟨S_, .f32⟩
  | .hbm, ⟨30, _⟩ => ⟨S1x1x1024, .f32⟩
  | .hbm, ⟨31, _⟩ => ⟨S1x1x1024, .f32⟩
  | .hbm, ⟨32, _⟩ => ⟨S32x256x1024, .f32⟩
  | .hbm, ⟨33, _⟩ => ⟨S32x256x1024, .f32⟩
  | .hbm, ⟨34, _⟩ => ⟨S32x256x1024, .f32⟩
  | .hbm, ⟨35, _⟩ => ⟨S32x256x1024, .f32⟩
  | .hbm, ⟨36, _⟩ => ⟨S32x256x2048, .f32⟩
  | .hbm, ⟨37, _⟩ => ⟨S32x256x512, .f32⟩
  | .hbm, ⟨38, _⟩ => ⟨S32x256x128, .f32⟩
  | .hbm, ⟨39, _⟩ => ⟨S32x256x128, .f32⟩
  | .hbm, ⟨40, _⟩ => ⟨S32x256x512, .f32⟩
  | .hbm, ⟨41, _⟩ => ⟨S32x256x768, .f32⟩
  | .hbm, ⟨42, _⟩ => ⟨S32x256x8x64, .f32⟩
  | .hbm, ⟨43, _⟩ => ⟨S32x256x8x64, .f32⟩
  | .hbm, ⟨44, _⟩ => ⟨S_, .f32⟩
  | .hbm, ⟨45, _⟩ => ⟨S32x256x8, .f32⟩
  | .hbm, ⟨46, _⟩ => ⟨S32x256x8x1, .f32⟩
  | .hbm, ⟨47, _⟩ => ⟨S_, .f32⟩
  | .hbm, ⟨48, _⟩ => ⟨S32x256x8x1, .f32⟩
  | .hbm, ⟨49, _⟩ => ⟨S32x256x8x1, .f32⟩
  | .hbm, ⟨50, _⟩ => ⟨S_, .f32⟩
  | .hbm, ⟨51, _⟩ => ⟨S32x256x8x1, .f32⟩
  | .hbm, ⟨52, _⟩ => ⟨S32x256x8x1, .f32⟩
  | .hbm, ⟨53, _⟩ => ⟨S32x256x8x1, .f32⟩
  | .hbm, ⟨54, _⟩ => ⟨S32x256x8x64, .f32⟩
  | .hbm, ⟨55, _⟩ => ⟨S32x256x8x64, .f32⟩
  | .hbm, ⟨56, _⟩ => ⟨S1x1x1x64, .f32⟩
  | .hbm, ⟨57, _⟩ => ⟨S32x256x8x64, .f32⟩
  | .hbm, ⟨58, _⟩ => ⟨S32x256x8x64, .f32⟩
  | .hbm, ⟨59, _⟩ => ⟨S32x256x2x64, .f32⟩
  | .hbm, ⟨60, _⟩ => ⟨S32x256x2x64, .f32⟩
  | .hbm, ⟨61, _⟩ => ⟨S_, .f32⟩
  | .hbm, ⟨62, _⟩ => ⟨S32x256x2, .f32⟩
  | .hbm, ⟨63, _⟩ => ⟨S32x256x2x1, .f32⟩
  | .hbm, ⟨64, _⟩ => ⟨S_, .f32⟩
  | .hbm, ⟨65, _⟩ => ⟨S32x256x2x1, .f32⟩
  | .hbm, ⟨66, _⟩ => ⟨S32x256x2x1, .f32⟩
  | .hbm, ⟨67, _⟩ => ⟨S_, .f32⟩
  | .hbm, ⟨68, _⟩ => ⟨S32x256x2x1, .f32⟩
  | .hbm, ⟨69, _⟩ => ⟨S32x256x2x1, .f32⟩
  | .hbm, ⟨70, _⟩ => ⟨S32x256x2x1, .f32⟩
  | .hbm, ⟨71, _⟩ => ⟨S32x256x2x64, .f32⟩
  | .hbm, ⟨72, _⟩ => ⟨S32x256x2x64, .f32⟩
  | .hbm, ⟨73, _⟩ => ⟨S1x1x1x64, .f32⟩
  | .hbm, ⟨74, _⟩ => ⟨S32x256x2x64, .f32⟩
  | .hbm, ⟨75, _⟩ => ⟨S32x256x2x64, .f32⟩
  | .hbm, ⟨76, _⟩ => ⟨S_, .f32⟩
  | .hbm, ⟨77, _⟩ => ⟨S32x256x8x64, .f32⟩
  | .hbm, ⟨78, _⟩ => ⟨S32x256x8x64, .f32⟩
  | .hbm, ⟨79, _⟩ => ⟨S_, .f32⟩
  | .hbm, ⟨80, _⟩ => ⟨S_, .f32⟩
  | .hbm, ⟨81, _⟩ => ⟨S32x256x8x64, .f32⟩
  | .hbm, ⟨82, _⟩ => ⟨S32x256x8x64, .f32⟩
  | .hbm, ⟨83, _⟩ => ⟨S8192x512, .f32⟩
  | .hbm, ⟨84, _⟩ => ⟨S8192x128, .f32⟩
  | .hbm, ⟨85, _⟩ => ⟨S8192x128, .f32⟩
  | .hbm, ⟨86, _⟩ => ⟨S512x8192, .f32⟩
  | .hbm, ⟨87, _⟩ => ⟨S512x8192, .bf16⟩
  | .hbm, ⟨88, _⟩ => ⟨S8192x128, .bf16⟩
  | .hbm, ⟨89, _⟩ => ⟨S128x8192, .f32⟩
  | .hbm, ⟨90, _⟩ => ⟨S128x8192, .bf16⟩
  | .hbm, ⟨91, _⟩ => ⟨S8192x512, .f32⟩
  | .hbm, ⟨92, _⟩ => ⟨S8192x512, .bf16⟩
  | .hbm, ⟨93, _⟩ => ⟨S8192x768, .f32⟩
  | .hbm, ⟨94, _⟩ => ⟨S8192x768, .bf16⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_v35 : Ref sig .tc := ⟨.hbm, 46, rfl⟩
abbrev main_cst_4 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_6 : Ref sig .tc := ⟨.hbm, 61, rfl⟩
abbrev main_v48 : Ref sig .tc := ⟨.hbm, 62, rfl⟩
abbrev main_v49 : Ref sig .tc := ⟨.hbm, 63, rfl⟩
abbrev main_cst_7 : Ref sig .tc := ⟨.hbm, 64, rfl⟩
abbrev main_v50 : Ref sig .tc := ⟨.hbm, 65, rfl⟩
abbrev main_v51 : Ref sig .tc := ⟨.hbm, 66, rfl⟩
abbrev main_cst_8 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_9 : Ref sig .tc := ⟨.hbm, 76, rfl⟩
abbrev main_v60 : Ref sig .tc := ⟨.hbm, 77, rfl⟩
abbrev main_v61 : Ref sig .tc := ⟨.hbm, 78, rfl⟩
abbrev main_cst_10 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩

abbrev nD : Nat := 1
abbrev τ : Topo := Topo.v7x

variable {F : FTy → Type} [FloatOps F]
-- ==== Kernel4.lean ====
abbrev S32x256x1024 : Shape := ⟨3, ![32, 256, 1024]⟩
abbrev S32x256x512 : Shape := ⟨3, ![32, 256, 512]⟩
abbrev S32x256x256 : Shape := ⟨3, ![32, 256, 256]⟩
abbrev S1x6144 : Shape := ⟨2, ![1, 6144]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x6x1024 : Shape := ⟨3, ![1, 6, 1024]⟩
abbrev S_ : Shape := ⟨0, ![]⟩
abbrev S7x6x1024 : Shape := ⟨3, ![7, 6, 1024]⟩
abbrev S8x6x1024 : Shape := ⟨3, ![8, 6, 1024]⟩
abbrev S8192x1024 : Shape := ⟨2, ![8192, 1024]⟩
abbrev S8192x512 : Shape := ⟨2, ![8192, 512]⟩
abbrev S8192x256 : Shape := ⟨2, ![8192, 256]⟩
abbrev S1x1024 : Shape := ⟨2, ![1, 1024]⟩
abbrev S1x5632 : Shape := ⟨2, ![1, 5632]⟩
abbrev S512x1024 : Shape := ⟨2, ![512, 1024]⟩
abbrev S8x1024 : Shape := ⟨2, ![8, 1024]⟩
abbrev S512x512 : Shape := ⟨2, ![512, 512]⟩
abbrev S16x512 : Shape := ⟨2, ![16, 512]⟩
abbrev S512x256 : Shape := ⟨2, ![512, 256]⟩
abbrev S16x256 : Shape := ⟨2, ![16, 256]⟩
abbrev S2x536x2816 : Shape := ⟨3, ![2, 536, 2816]⟩
abbrev S512x2816 : Shape := ⟨2, ![512, 2816]⟩
abbrev S1x1x1024 : Shape := ⟨3, ![1, 1, 1024]⟩
abbrev S512 : Shape := ⟨1, ![512]⟩
abbrev S512x1 : Shape := ⟨2, ![512, 1]⟩
abbrev S256x1024 : Shape := ⟨2, ![256, 1024]⟩
abbrev S536x1024 : Shape := ⟨2, ![536, 1024]⟩
abbrev S1024x2816 : Shape := ⟨2, ![1024, 2816]⟩
abbrev S536x2816 : Shape := ⟨2, ![536, 2816]⟩
abbrev S1x536x2816 : Shape := ⟨3, ![1, 536, 2816]⟩
abbrev S3x256 : Shape := ⟨2, ![3, 256]⟩
abbrev S1x536x256 : Shape := ⟨3, ![1, 536, 256]⟩
abbrev S536x256 : Shape := ⟨2, ![536, 256]⟩
abbrev S256x256 : Shape := ⟨2, ![256, 256]⟩
abbrev S1x256 : Shape := ⟨2, ![1, 256]⟩

abbrev nBuf : Space → Nat
  | .hbm => 30
  | .vmem => 36
  | .smem => 0
  | _ => 0

abbrev bufTy : (tb : Table) → Fin (tcTables nBuf tb) → BufTy
  | .hbm, ⟨0, _⟩ => ⟨S32x256x1024, .f32⟩
  | .hbm, ⟨1, _⟩ => ⟨S32x256x512, .f32⟩
  | .hbm, ⟨2, _⟩ => ⟨S32x256x256, .f32⟩
  | .hbm, ⟨3, _⟩ => ⟨S32x256x256, .f32⟩
  | .hbm, ⟨4, _⟩ => ⟨S1x6144, .f32⟩
  | .hbm, ⟨5, _⟩ => ⟨S1024x1024, .f32⟩
  | .hbm, ⟨6, _⟩ => ⟨S1024, .f32⟩
  | .hbm, ⟨7, _⟩ => ⟨S1024x5632, .f32⟩
  | .hbm, ⟨8, _⟩ => ⟨S3x5632, .f32⟩
  | .hbm, ⟨9, _⟩ => ⟨S5632, .f32⟩
  | .hbm, ⟨10, _⟩ => ⟨S2816x1024, .f32⟩
  | .hbm, ⟨11, _⟩ => ⟨S1024, .f32⟩
  | .hbm, ⟨12, _⟩ => ⟨S1x6x1024, .f32⟩
  | .hbm, ⟨13, _⟩ => ⟨S_, .f32⟩
  | .hbm, ⟨14, _⟩ => ⟨S7x6x1024, .f32⟩
  | .hbm, ⟨15, _⟩ => ⟨S8x6x1024, .f32⟩
  | .hbm, ⟨16, _⟩ => ⟨S8192x1024, .f32⟩
  | .hbm, ⟨17, _⟩ => ⟨S8192x512, .f32⟩
  | .hbm, ⟨18, _⟩ => ⟨S8192x512, .bf16⟩
  | .hbm, ⟨19, _⟩ => ⟨S8192x256, .f32⟩
  | .hbm, ⟨20, _⟩ => ⟨S8192x256, .bf16⟩
  | .hbm, ⟨21, _⟩ => ⟨S8192x256, .f32⟩
  | .hbm, ⟨22, _⟩ => ⟨S8192x256, .bf16⟩
  | .hbm, ⟨23, _⟩ => ⟨S1024x1024, .bf16⟩
  | .hbm, ⟨24, _⟩ => ⟨S1024x5632, .bf16⟩
  | .hbm, ⟨25, _⟩ => ⟨S2816x1024, .bf16⟩
  | .hbm, ⟨26, _⟩ => ⟨S1x1024, .f32⟩
  | .hbm, ⟨27, _⟩ => ⟨S1x5632, .f32⟩
  | .hbm, ⟨28, _⟩ => ⟨S1x1024, .f32⟩
  | .hbm, ⟨29, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S512x512, .bf16⟩
  | .local _ .vmem, ⟨7, _⟩ => ⟨S512x512, .bf16⟩
  | .local _ .vmem, ⟨8, _⟩ => ⟨S16x512, .bf16⟩
  | .local _ .vmem, ⟨9, _⟩ => ⟨S16x512, .bf16⟩
  | .local _ .vmem, ⟨10, _⟩ => ⟨S16x512, .bf16⟩
  | .local _ .vmem, ⟨11, _⟩ => ⟨S16x512, .bf16⟩
  | .local _ .vmem, ⟨12, _⟩ => ⟨S512x256, .bf16⟩
  | .local _ .vmem, ⟨13, _⟩ => ⟨S512x256, .bf16⟩
  | .local _ .vmem, ⟨14, _⟩ => ⟨S16x256, .bf16⟩
  | .local _ .vmem, ⟨15, _⟩ => ⟨S16x256, .bf16⟩
  | .local _ .vmem, ⟨16, _⟩ => ⟨S16x256, .bf16⟩
  | .local _ .vmem, ⟨17, _⟩ => ⟨S16x256, .bf16⟩
  | .local _ .vmem, ⟨18, _⟩ => ⟨S512x256, .bf16⟩
  | .local _ .vmem, ⟨19, _⟩ => ⟨S512x256, .bf16⟩
  | .local _ .vmem, ⟨20, _⟩ => ⟨S16x256, .bf16⟩
  | .local _ .vmem, ⟨21, _⟩ => ⟨S16x256, .bf16⟩
  | .local _ .vmem, ⟨22, _⟩ => ⟨S16x256, .bf16⟩
  | .local _ .vmem, ⟨23, _⟩ => ⟨S16x256, .bf16⟩
  | .local _ .vmem, ⟨24, _⟩ => ⟨S1x6x1024, .f32⟩
  | .local _ .vmem, ⟨25, _⟩ => ⟨S1024x1024, .bf16⟩
  | .local _ .vmem, ⟨26, _⟩ => ⟨S1x1024, .f32⟩
  | .local _ .vmem, ⟨27, _⟩ => ⟨S1024x5632, .bf16⟩
  | .local _ .vmem, ⟨28, _⟩ => ⟨S3x5632, .f32⟩
  | .local _ .vmem, ⟨29, _⟩ => ⟨S1x5632, .f32⟩
  | .local _ .vmem, ⟨30, _⟩ => ⟨S2816x1024, .bf16⟩
  | .local _ .vmem, ⟨31, _⟩ => ⟨S1x1024, .f32⟩
  | .local _ .vmem, ⟨32, _⟩ => ⟨S512x1024, .f32⟩
  | .local _ .vmem, ⟨33, _⟩ => ⟨S512x1024, .f32⟩
  | .local _ .vmem, ⟨34, _⟩ => ⟨S2x536x2816, .f32⟩
  | .local _ .vmem, ⟨35, _⟩ => ⟨S512x2816, .bf16⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg16_0 : Ref sig .tc := ⟨.vmem, 28, rfl⟩
abbrev cc0_stg17_0 : Ref sig .tc := ⟨.vmem, 29, rfl⟩
abbrev cc0_stg18_0 : Ref sig .tc := ⟨.vmem, 30, rfl⟩
abbrev cc0_stg19_0 : Ref sig .tc := ⟨.vmem, 31, rfl⟩
abbrev cc0_stg20_0 : Ref sig .tc := ⟨.vmem, 32, rfl⟩
abbrev cc0_stg20_1 : Ref sig .tc := ⟨.vmem, 33, rfl⟩
abbrev cc0_scratch0 : Ref sig .tc := ⟨.vmem, 34, rfl⟩
abbrev cc0_scratch1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem15_0 : DmaSem sig := 27
abbrev cc0_sem16_0 : DmaSem sig := 28
abbrev cc0_sem17_0 : DmaSem sig := 29
abbrev cc0_sem18_0 : DmaSem sig := 30
abbrev cc0_sem19_0 : DmaSem sig := 31
abbrev cc0_sem20_0 : DmaSem sig := 32
abbrev cc0_sem20_1 : DmaSem sig := 33

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_11 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x6x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x5632 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S3x5632 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x5632 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S2816x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S512x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Reference4Ideal.lean ====
abbrev S32x256x1024 : Shape := ⟨3, ![32, 256, 1024]⟩
abbrev S32x256x512 : Shape := ⟨3, ![32, 256, 512]⟩
abbrev S32x256x256 : Shape := ⟨3, ![32, 256, 256]⟩
abbrev S1x6144 : Shape := ⟨2, ![1, 6144]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x1x6144 : Shape := ⟨3, ![1, 1, 6144]⟩
abbrev S1x1x1024 : Shape := ⟨3, ![1, 1, 1024]⟩
abbrev S_ : Shape := ⟨0, ![]⟩
abbrev S32x256 : Shape := ⟨2, ![32, 256]⟩
abbrev S32x256x1 : Shape := ⟨3, ![32, 256, 1]⟩
abbrev S32x256x5632 : Shape := ⟨3, ![32, 256, 5632]⟩
abbrev S32x258x5632 : Shape := ⟨3, ![32, 258, 5632]⟩
abbrev S1x5632 : Shape := ⟨2, ![1, 5632]⟩
abbrev S1x1x5632 : Shape := ⟨3, ![1, 1, 5632]⟩
abbrev S32x256x2816 : Shape := ⟨3, ![32, 256, 2816]⟩
abbrev S8192x1024 : Shape := ⟨2, ![8192, 1024]⟩

abbrev nBuf : Space → Nat
  | .hbm => 106
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S32x256x512, .f32⟩
  | .hbm, ⟨2, _⟩ => ⟨S32x256x256, .f32⟩
  | .hbm, ⟨3, _⟩ => ⟨S32x256x256, .f32⟩
  | .hbm, ⟨4, _⟩ => ⟨S1x6144, .f32⟩
  | .hbm, ⟨5, _⟩ => ⟨S1024x1024, .f32⟩
  | .hbm, ⟨6, _⟩ => ⟨S1024, .f32⟩
  | .hbm, ⟨7, _⟩ => ⟨S1024x5632, .f32⟩
  | .hbm, ⟨8, _⟩ => ⟨S3x5632, .f32⟩
  | .hbm, ⟨9, _⟩ => ⟨S5632, .f32⟩
  | .hbm, ⟨10, _⟩ => ⟨S2816x1024, .f32⟩
  | .hbm, ⟨11, _⟩ => ⟨S1024, .f32⟩
  | .hbm, ⟨12, _⟩ => ⟨S1x1x6144, .f32⟩
  | .hbm, ⟨13, _⟩ => ⟨S1x1x1024, .f32⟩
  | .hbm, ⟨14, _⟩ => ⟨S1x1x1024, .f32⟩
  | .hbm, ⟨15, _⟩ => ⟨S1x1x1024, .f32⟩
  | .hbm, ⟨16, _⟩ => ⟨S1x1x1024, .f32⟩
  | .hbm, ⟨17, _⟩ => ⟨S1x1x1024, .f32⟩
  | .hbm, ⟨18, _⟩ => ⟨S1x1x1024, .f32⟩
  | .hbm, ⟨19, _⟩ => ⟨S32x256x1024, .f32⟩
  | .hbm, ⟨20, _⟩ => ⟨S32x256x1024, .f32⟩
  | .hbm, ⟨21, _⟩ => ⟨S32x256x1024, .f32⟩
  | .hbm, ⟨22, _⟩ => ⟨S32x256x1024, .f32⟩
  | .hbm, ⟨23, _⟩ => ⟨S32x256x1024, .f32⟩
  | .hbm, ⟨24, _⟩ => ⟨S32x256x1024, .f32⟩
  | .hbm, ⟨25, _⟩ => ⟨S_, .f32⟩
  | .hbm, ⟨26, _⟩ => ⟨S32x256, .f32⟩
  | .hbm, ⟨27, _⟩ => ⟨S32x256x1, .f32⟩
  | .hbm, ⟨28, _⟩ => ⟨S_, .f32⟩
  | .hbm, ⟨29, _⟩ => ⟨S32x256x1, .f32⟩
  | .hbm, ⟨30, _⟩ => ⟨S32x256x1, .f32⟩
  | .hbm, ⟨31, _⟩ => ⟨S_, .f32⟩
  | .hbm, ⟨32, _⟩ => ⟨S32x256x1, .f32⟩
  | .hbm, ⟨33, _⟩ => ⟨S32x256x1, .f32⟩
  | .hbm, ⟨34, _⟩ => ⟨S32x256x1, .f32⟩
  | .hbm, ⟨35, _⟩ => ⟨S32x256x1024, .f32⟩
  | .hbm, ⟨36, _⟩ => ⟨S32x256x1024, .f32⟩
  | .hbm, ⟨37, _⟩ => ⟨S1x1x1024, .f32⟩
  | .hbm, ⟨38, _⟩ => ⟨S32x256x1024, .f32⟩
  | .hbm, ⟨39, _⟩ => ⟨S32x256x1024, .f32⟩
  | .hbm, ⟨40, _⟩ => ⟨S_, .f32⟩
  | .hbm, ⟨41, _⟩ => ⟨S1x1x1024, .f32⟩
  | .hbm, ⟨42, _⟩ => ⟨S1x1x1024, .f32⟩
  | .hbm, ⟨43, _⟩ => ⟨S32x256x1024, .f32⟩
  | .hbm, ⟨44, _⟩ => ⟨S32x256x1024, .f32⟩
  | .hbm, ⟨45, _⟩ => ⟨S32x256x1024, .f32⟩
  | .hbm, ⟨46, _⟩ => ⟨S32x256x1024, .f32⟩
  | .hbm, ⟨47, _⟩ => ⟨S32x256x5632, .f32⟩
  | .hbm, ⟨48, _⟩ => ⟨S_, .f32⟩
  | .hbm, ⟨49, _⟩ => ⟨S32x258x5632, .f32⟩
  | .hbm, ⟨50, _⟩ => ⟨S32x256x5632, .f32⟩
  | .hbm, ⟨51, _⟩ => ⟨S1x5632, .f32⟩
  | .hbm, ⟨52, _⟩ => ⟨S5632, .f32⟩
  | .hbm, ⟨53, _⟩ => ⟨S1x1x5632, .f32⟩
  | .hbm, ⟨54, _⟩ => ⟨S32x256x5632, .f32⟩
  | .hbm, ⟨55, _⟩ => ⟨S32x256x5632, .f32⟩
  | .hbm, ⟨56, _⟩ => ⟨S32x256x5632, .f32⟩
  | .hbm, ⟨57, _⟩ => ⟨S1x5632, .f32⟩
  | .hbm, ⟨58, _⟩ => ⟨S5632, .f32⟩
  | .hbm, ⟨59, _⟩ => ⟨S1x1x5632, .f32⟩
  | .hbm, ⟨60, _⟩ => ⟨S32x256x5632, .f32⟩
  | .hbm, ⟨61, _⟩ => ⟨S32x256x5632, .f32⟩
  | .hbm, ⟨62, _⟩ => ⟨S32x256x5632, .f32⟩
  | .hbm, ⟨63, _⟩ => ⟨S32x256x5632, .f32⟩
  | .hbm, ⟨64, _⟩ => ⟨S1x5632, .f32⟩
  | .hbm, ⟨65, _⟩ => ⟨S5632, .f32⟩
  | .hbm, ⟨66, _⟩ => ⟨S1x1x5632, .f32⟩
  | .hbm, ⟨67, _⟩ => ⟨S32x256x5632, .f32⟩
  | .hbm, ⟨68, _⟩ => ⟨S32x256x5632, .f32⟩
  | .hbm, ⟨69, _⟩ => ⟨S32x256x5632, .f32⟩
  | .hbm, ⟨70, _⟩ => ⟨S1x1x5632, .f32⟩
  | .hbm, ⟨71, _⟩ => ⟨S32x256x5632, .f32⟩
  | .hbm, ⟨72, _⟩ => ⟨S32x256x5632, .f32⟩
  | .hbm, ⟨73, _⟩ => ⟨S32x256x2816, .f32⟩
  | .hbm, ⟨74, _⟩ => ⟨S32x256x2816, .f32⟩
  | .hbm, ⟨75, _⟩ => ⟨S32x256x2816, .f32⟩
  | .hbm, ⟨76, _⟩ => ⟨S32x256x2816, .f32⟩
  | .hbm, ⟨77, _⟩ => ⟨S_, .f32⟩
  | .hbm, ⟨78, _⟩ => ⟨S32x256x2816, .f32⟩
  | .hbm, ⟨79, _⟩ => ⟨S32x256x2816, .f32⟩
  | .hbm, ⟨80, _⟩ => ⟨S_, .f32⟩
  | .hbm, ⟨81, _⟩ => ⟨S32x256x2816, .f32⟩
  | .hbm, ⟨82, _⟩ => ⟨S32x256x2816, .f32⟩
  | .hbm, ⟨83, _⟩ => ⟨S32x256x2816, .f32⟩
  | .hbm, ⟨84, _⟩ => ⟨S32x256x2816, .f32⟩
  | .hbm, ⟨85, _⟩ => ⟨S32x256x1024, .f32⟩
  | .hbm, ⟨86, _⟩ => ⟨S32x256x1024, .f32⟩
  | .hbm, ⟨87, _⟩ => ⟨S32x256x1024, .f32⟩
  | .hbm, ⟨88, _⟩ => ⟨S32x256x1024, .f32⟩
  | .hbm, ⟨89, _⟩ => ⟨S32x256x1024, .f32⟩
  | .hbm, ⟨90, _⟩ => ⟨S_, .f32⟩
  | .hbm, ⟨91, _⟩ => ⟨S32x256, .f32⟩
  | .hbm, ⟨92, _⟩ => ⟨S32x256x1, .f32⟩
  | .hbm, ⟨93, _⟩ => ⟨S_, .f32⟩
  | .hbm, ⟨94, _⟩ => ⟨S32x256x1, .f32⟩
  | .hbm, ⟨95, _⟩ => ⟨S32x256x1, .f32⟩
  | .hbm, ⟨96, _⟩ => ⟨S_, .f32⟩
  | .hbm, ⟨97, _⟩ => ⟨S32x256x1, .f32⟩
  | .hbm, ⟨98, _⟩ => ⟨S32x256x1, .f32⟩
  | .hbm, ⟨99, _⟩ => ⟨S32x256x1, .f32⟩
  | .hbm, ⟨100, _⟩ => ⟨S32x256x1024, .f32⟩
  | .hbm, ⟨101, _⟩ => ⟨S32x256x1024, .f32⟩
  | .hbm, ⟨102, _⟩ => ⟨S1x1x1024, .f32⟩
  | .hbm, ⟨103, _⟩ => ⟨S32x256x1024, .f32⟩
  | .hbm, ⟨104, _⟩ => ⟨S32x256x1024, .f32⟩
  | .hbm, ⟨105, _⟩ => ⟨S8192x1024, .f32⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_cst_0 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_3 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_4 : Ref sig .tc := ⟨.hbm, 77, rfl⟩
abbrev main_v60 : Ref sig .tc := ⟨.hbm, 78, rfl⟩
abbrev main_v61 : Ref sig .tc := ⟨.hbm, 79, rfl⟩
abbrev main_cst_5 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_6 : Ref sig .tc := ⟨.hbm, 90, rfl⟩
abbrev main_v71 : Ref sig .tc := ⟨.hbm, 91, rfl⟩
abbrev main_v72 : Ref sig .tc := ⟨.hbm, 92, rfl⟩
abbrev main_cst_7 : Ref sig .tc := ⟨.hbm, 93, rfl⟩
abbrev main_v73 : Ref sig .tc := ⟨.hbm, 94, rfl⟩
abbrev main_v74 : Ref sig .tc := ⟨.hbm, 95, rfl⟩
abbrev main_cst_8 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩

abbrev nD : Nat := 1
abbrev τ : Topo := Topo.v7x

variable {F : FTy → Type} [FloatOps F]
-- ==== Kernel5.lean ====
abbrev S32x256x8x64 : Shape := ⟨4, ![32, 256, 8, 64]⟩
abbrev S32x256x2x64 : Shape := ⟨4, ![32, 256, 2, 64]⟩
abbrev S8192x512 : Shape := ⟨2, ![8192, 512]⟩
abbrev S_ : Shape := ⟨0, ![]⟩
abbrev S512x8192 : Shape := ⟨2, ![512, 8192]⟩
abbrev S8192x128 : Shape := ⟨2, ![8192, 128]⟩
abbrev S128x8192 : Shape := ⟨2, ![128, 8192]⟩
abbrev S512x256 : Shape := ⟨2, ![512, 256]⟩
abbrev S256x128 : Shape := ⟨2, ![256, 128]⟩
abbrev S128x256 : Shape := ⟨2, ![128, 256]⟩
abbrev S256x512 : Shape := ⟨2, ![256, 512]⟩
abbrev S64x256 : Shape := ⟨2, ![64, 256]⟩
abbrev S64x1024 : Shape := ⟨2, ![64, 1024]⟩
abbrev S128x1024 : Shape := ⟨2, ![128, 1024]⟩
abbrev S1x1024 : Shape := ⟨2, ![1, 1024]⟩
abbrev S80x1024 : Shape := ⟨2, ![80, 1024]⟩
abbrev S256x1024 : Shape := ⟨2, ![256, 1024]⟩
abbrev S1024 : Shape := ⟨1, ![1024]⟩
abbrev S16x256 : Shape := ⟨2, ![16, 256]⟩
abbrev S80x256 : Shape := ⟨2, ![80, 256]⟩
abbrev S256x256 : Shape := ⟨2, ![256, 256]⟩

abbrev nBuf : Space → Nat
  | .hbm => 19
  | .vmem => 8
  | .smem => 0
  | _ => 0

abbrev bufTy : (tb : Table) → Fin (tcTables nBuf tb) → BufTy
  | .hbm, ⟨0, _⟩ => ⟨S32x256x8x64, .f32⟩
  | .hbm, ⟨1, _⟩ => ⟨S32x256x2x64, .f32⟩
  | .hbm, ⟨2, _⟩ => ⟨S32x256x2x64, .f32⟩
  | .hbm, ⟨3, _⟩ => ⟨S8192x512, .f32⟩
  | .hbm, ⟨4, _⟩ => ⟨S_, .f32⟩
  | .hbm, ⟨5, _⟩ => ⟨S8192x512, .f32⟩
  | .hbm, ⟨6, _⟩ => ⟨S8192x512, .f32⟩
  | .hbm, ⟨7, _⟩ => ⟨S_, .f32⟩
  | .hbm, ⟨8, _⟩ => ⟨S_, .f32⟩
  | .hbm, ⟨9, _⟩ => ⟨S8192x512, .f32⟩
  | .hbm, ⟨10, _⟩ => ⟨S8192x512, .f32⟩
  | .hbm, ⟨11, _⟩ => ⟨S512x8192, .f32⟩
  | .hbm, ⟨12, _⟩ => ⟨S512x8192, .bf16⟩
  | .hbm, ⟨13, _⟩ => ⟨S8192x128, .f32⟩
  | .hbm, ⟨14, _⟩ => ⟨S8192x128, .bf16⟩
  | .hbm, ⟨15, _⟩ => ⟨S8192x128, .f32⟩
  | .hbm, ⟨16, _⟩ => ⟨S128x8192, .f32⟩
  | .hbm, ⟨17, _⟩ => ⟨S128x8192, .bf16⟩
  | .hbm, ⟨18, _⟩ => ⟨S8192x512, .bf16⟩
  | .local _ .vmem, ⟨0, _⟩ => ⟨S512x256, .bf16⟩
  | .local _ .vmem, ⟨1, _⟩ => ⟨S512x256, .bf16⟩
  | .local _ .vmem, ⟨2, _⟩ => ⟨S256x128, .bf16⟩
  | .local _ .vmem, ⟨3, _⟩ => ⟨S256x128, .bf16⟩
  | .local _ .vmem, ⟨4, _⟩ => ⟨S128x256, .bf16⟩
  | .local _ .vmem, ⟨5, _⟩ => ⟨S128x256, .bf16⟩
  | .local _ .vmem, ⟨6, _⟩ => ⟨S256x512, .bf16⟩
  | .local _ .vmem, ⟨7, _⟩ => ⟨S256x512, .bf16⟩
  | _, _ => ⟨S32x256x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Kernel5Ideal.lean ====
variable {F : FTy → Type} [FloatOps F] [Named F]
def κ : String → Option EReal := fun
  | "lowest" => some ((-1000000000000000000000000000000 : ℝ) : EReal)
  | _ => none
-- ==== Reference5Ideal.lean ====
abbrev S32x256x8x64 : Shape := ⟨4, ![32, 256, 8, 64]⟩
abbrev S32x256x2x64 : Shape := ⟨4, ![32, 256, 2, 64]⟩
abbrev S32x256x2x4x64 : Shape := ⟨5, ![32, 256, 2, 4, 64]⟩
abbrev S32x2x256x256x4 : Shape := ⟨5, ![32, 2, 256, 256, 4]⟩
abbrev S32x2x4x256x256 : Shape := ⟨5, ![32, 2, 4, 256, 256]⟩
abbrev S_ : Shape := ⟨0, ![]⟩
abbrev S32x2x4x256 : Shape := ⟨4, ![32, 2, 4, 256]⟩
abbrev S32x2x4x256x1 : Shape := ⟨5, ![32, 2, 4, 256, 1]⟩
abbrev S32x2x64x4x256 : Shape := ⟨5, ![32, 2, 64, 4, 256]⟩
abbrev S8192x512 : Shape := ⟨2, ![8192, 512]⟩

abbrev nBuf : Space → Nat
  | .hbm => 27
  | .vmem => 0
  | .smem => 0
  | _ => 0

abbrev bufTy : (tb : Table) → Fin (tcTables nBuf tb) → BufTy
  | .hbm, ⟨0, _⟩ => ⟨S32x256x8x64, .f32⟩
  | .hbm, ⟨1, _⟩ => ⟨S32x256x2x64, .f32⟩
  | .hbm, ⟨2, _⟩ => ⟨S32x256x2x64, .f32⟩
  | .hbm, ⟨3, _⟩ => ⟨S32x256x2x4x64, .f32⟩
  | .hbm, ⟨4, _⟩ => ⟨S32x2x256x256x4, .f32⟩
  | .hbm, ⟨5, _⟩ => ⟨S32x2x4x256x256, .f32⟩
  | .hbm, ⟨6, _⟩ => ⟨S_, .f32⟩
  | .hbm, ⟨7, _⟩ => ⟨S32x2x4x256x256, .f32⟩
  | .hbm, ⟨8, _⟩ => ⟨S32x2x4x256x256, .f32⟩
  | .hbm, ⟨9, _⟩ => ⟨S_, .f32⟩
  | .hbm, ⟨10, _⟩ => ⟨S32x2x4x256, .f32⟩
  | .hbm, ⟨11, _⟩ => ⟨S_, .f32⟩
  | .hbm, ⟨12, _⟩ => ⟨S32x2x4x256, .f32⟩
  | .hbm, ⟨13, _⟩ => ⟨S32x2x4x256, .f32⟩
  | .hbm, ⟨14, _⟩ => ⟨S32x2x4x256x1, .f32⟩
  | .hbm, ⟨15, _⟩ => ⟨S32x2x4x256x256, .f32⟩
  | .hbm, ⟨16, _⟩ => ⟨S32x2x4x256x256, .f32⟩
  | .hbm, ⟨17, _⟩ => ⟨S32x2x4x256x256, .f32⟩
  | .hbm, ⟨18, _⟩ => ⟨S_, .f32⟩
  | .hbm, ⟨19, _⟩ => ⟨S32x2x4x256, .f32⟩
  | .hbm, ⟨20, _⟩ => ⟨S32x2x4x256x1, .f32⟩
  | .hbm, ⟨21, _⟩ => ⟨S32x2x4x256x256, .f32⟩
  | .hbm, ⟨22, _⟩ => ⟨S32x2x4x256x256, .f32⟩
  | .hbm, ⟨23, _⟩ => ⟨S32x2x64x4x256, .f32⟩
  | .hbm, ⟨24, _⟩ => ⟨S32x256x2x4x64, .f32⟩
  | .hbm, ⟨25, _⟩ => ⟨S8192x512, .f32⟩
  | .hbm, ⟨26, _⟩ => ⟨S8192x512, .bf16⟩
  | _, _ => ⟨S32x256x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel6.lean ====
abbrev S8x1024 : Shape := ⟨2, ![8, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x6x8x1024 : Shape := ⟨4, ![2, 6, 8, 1024]⟩
abbrev S1x1024x1024 : Shape := ⟨3, ![1, 1024, 1024]⟩
abbrev S1x1x1024 : Shape := ⟨3, ![1, 1, 1024]⟩
abbrev S1x1x8x1024 : Shape := ⟨4, ![1, 1, 8, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x6x8x1024, .f32⟩
  | .local _ .vmem, ⟨0, _⟩ => ⟨S8x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x8x1024, .f32⟩
  | .local _ .vmem, ⟨6, _⟩ => ⟨S1x1x8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S8x1024 : Shape := ⟨2, ![8, 1024]⟩
abbrev S2x1024x6144 : Shape := ⟨3, ![2, 1024, 6144]⟩
abbrev S2x6144 : Shape := ⟨2, ![2, 6144]⟩
abbrev S_ : Shape := ⟨0, ![]⟩
abbrev S2x6144x8 : Shape := ⟨3, ![2, 6144, 8]⟩
abbrev S2x8x6144 : Shape := ⟨3, ![2, 8, 6144]⟩
abbrev S2x1x6144 : Shape := ⟨3, ![2, 1, 6144]⟩
abbrev S2x8x6x1024 : Shape := ⟨4, ![2, 8, 6, 1024]⟩
abbrev S2x6x8x1024 : Shape := ⟨4, ![2, 6, 8, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S2x6144x8, .f32⟩
  | .hbm, ⟨13, _⟩ => ⟨S2x8x6144, .f32⟩
  | .hbm, ⟨14, _⟩ => ⟨S2x1x6144, .f32⟩
  | .hbm, ⟨15, _⟩ => ⟨S2x8x6144, .f32⟩
  | .hbm, ⟨16, _⟩ => ⟨S2x8x6144, .f32⟩
  | .hbm, ⟨17, _⟩ => ⟨S2x8x6x1024, .f32⟩
  | .hbm, ⟨18, _⟩ => ⟨S2x6x8x1024, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.Pre.lean ====
/- The attention claim's precondition, in words of real numbers. -/
module

public import proofs.«01_k».proof.Defs
public import proofs.«01_k».proof.Proof.Gen.Pre_finite
public import proofs.«01_k».proof.Proof.Gen.Pre_finite5
public import Idealize.ShloMosaic.PureOps.Ideal.Laws
public import Idealize.ShloMosaic.Lib.ValueIdx

@[expose] public section

noncomputable section

namespace Cert.Pre

open Idealize.ShloMosaic Idealize.SL.Sem

/-- A number whose absolute value is below infinity is a real. -/
theorem real_of_lt {x : EReal} (h : Ideal.cmp .olt (max x (-x)) (Ideal.ofBits .f32 0x7F800000#32) = 1#1) : x = ((x.toReal : ℝ) : EReal) := by
  have hi : Ideal.ofBits .f32 0x7F800000#32 = ⊤ := by simp [Ideal.ofBits, Ideal.ieee]
  rw [hi] at h
  induction x with
  | bot => simp [Ideal.cmp] at h
  | top => simp [Ideal.cmp] at h
  | coe r => rfl

/-- Under the precondition every element of the five arguments is a real. -/
theorem real (m : (ℓ : Loc Cert.KernelIdeal.nD Cert.KernelIdeal.τ Cert.KernelIdeal.sig) → Buf (Elt Ideal) ℓ)
    (h : Cert.Pre_KernelIdeal_finite (hPre_finite := Cert.Pre_finite.Gen.facts) m) (c : Dev Cert.KernelIdeal.nD) :
    (∀ i, (m (c, Proc.tc.devRef KernelIdeal.main_arg0) i : EReal) = ((EReal.toReal (m (c, Proc.tc.devRef KernelIdeal.main_arg0) i) : ℝ) : EReal))
    ∧ (∀ i, (m (c, Proc.tc.devRef KernelIdeal.main_arg1) i : EReal) = ((EReal.toReal (m (c, Proc.tc.devRef KernelIdeal.main_arg1) i) : ℝ) : EReal))
    ∧ (∀ i, (m (c, Proc.tc.devRef KernelIdeal.main_arg2) i : EReal) = ((EReal.toReal (m (c, Proc.tc.devRef KernelIdeal.main_arg2) i) : ℝ) : EReal))
    ∧ (∀ i, (m (c, Proc.tc.devRef KernelIdeal.main_arg3) i : EReal) = ((EReal.toReal (m (c, Proc.tc.devRef KernelIdeal.main_arg3) i) : ℝ) : EReal))
    ∧ (∀ i, (m (c, Proc.tc.devRef KernelIdeal.main_arg4) i : EReal) = ((EReal.toReal (m (c, Proc.tc.devRef KernelIdeal.main_arg4) i) : ℝ) : EReal)) := by
  obtain ⟨h0, h1, h2, h3, h4⟩ := h c
  exact ⟨fun i => real_of_lt (congrFun h0 i), fun i => real_of_lt (congrFun h1 i), fun i => real_of_lt (congrFun h2 i),
    fun i => real_of_lt (congrFun h3 i), fun i => real_of_lt (congrFun h4 i)⟩

/-- The same of the three arguments of the attention on the prompts. -/
theorem real5 (m : (ℓ : Loc Cert.Kernel5Ideal.nD Cert.Kernel5Ideal.τ Cert.Kernel5Ideal.sig) → Buf (Elt Ideal) ℓ)
    (h : Cert.Pre_Kernel5Ideal_finite5 (hPre_finite5 := Cert.Pre_finite5.Gen.facts) m) (c : Dev Cert.Kernel5Ideal.nD) :
    (∀ i, (m (c, Proc.tc.devRef Kernel5Ideal.main_arg0) i : EReal) = ((EReal.toReal (m (c, Proc.tc.devRef Kernel5Ideal.main_arg0) i) : ℝ) : EReal))
    ∧ (∀ i, (m (c, Proc.tc.devRef Kernel5Ideal.main_arg1) i : EReal) = ((EReal.toReal (m (c, Proc.tc.devRef Kernel5Ideal.main_arg1) i) : ℝ) : EReal))
    ∧ (∀ i, (m (c, Proc.tc.devRef Kernel5Ideal.main_arg2) i : EReal) = ((EReal.toReal (m (c, Proc.tc.devRef Kernel5Ideal.main_arg2) i) : ℝ) : EReal)) := by
  obtain ⟨h0, h1, h2⟩ := h c
  exact ⟨fun i => real_of_lt (congrFun h0 i), fun i => real_of_lt (congrFun h1 i), fun i => real_of_lt (congrFun h2 i)⟩

end Cert.Pre

end
-- ==== Proof.Steps.lean ====
/- The attention kernel's body as nine steps of one recurrence over blocks of keys.
   The printed body spells the recurrence out nine times; here one step is a definition, and the stored block is
   shown to be nine steps followed by one division. -/
module

public import proofs.«01_k».proof.Proof.Gen.KernelIdeal.Value
public import Idealize.ShloMosaic.Lib.Pipeline.ValueKit

@[expose] public section

set_option maxRecDepth 16384

noncomputable section

namespace Cert.KernelIdeal.Steps

open Cert.KernelIdeal Cert.KernelIdeal.Gen Idealize.ShloMosaic Idealize.ShloMosaic.TcCoe Idealize.SL.Sem

variable {F : FTy → Type} [FloatOps F] [Named F]

/-- The scores of 512 keys against all query columns. -/
def scores (qp : FVec F S128x4096 .bf16) (kb : Vec F S512x128 .bf16) : FVec F S512x4096 .f32 :=
  matmul dot_S512x128_S128x4096_S512x4096_1_0_0_1_n_n none (shapeCast S512x128 kb shapeCasts_S512x128_S512x128) qp
    (constant S512x4096 .f32 0x00000000#32)

/-- The scores of the 256 cached keys against all query columns. -/
def scoresC (qp : FVec F S128x4096 .bf16) (kb : Vec F S1x256x128 .bf16) : FVec F S256x4096 .f32 :=
  matmul dot_S256x128_S128x4096_S256x4096_1_0_0_1_n_n none (shapeCast S256x128 kb shapeCasts_S1x256x128_S256x128) qp
    (constant S256x4096 .f32 0x00000000#32)

/-- The running maximum after 512 more keys. -/
def top (m : FVec F S1x4096 .f32) (s : FVec F S512x4096 .f32) : FVec F S1x4096 .f32 :=
  maximumf m (shapeCast S1x4096
    (multiReduction .maximumf [0] S4096 s 0xFF800000#32 reduces_S512x4096_S4096 (.inl rfl) rfl) shapeCasts_S4096_S1x4096)

/-- The running maximum after the 256 cached keys. -/
def topC (m : FVec F S1x4096 .f32) (s : FVec F S256x4096 .f32) : FVec F S1x4096 .f32 :=
  maximumf m (shapeCast S1x4096
    (multiReduction .maximumf [0] S4096 s 0xFF800000#32 reduces_S256x4096_S4096 (.inl rfl) rfl) shapeCasts_S4096_S1x4096)

/-- 512 columns of values with 16 rows below them, of which the first is ones and the others zeros. -/
def vals (v : Vec F S64x512 .bf16) : FVec F S80x512 .bf16 :=
  concatenate S80x512 0 [⟨S64x512, shapeCast S64x512 v shapeCasts_S64x512_S64x512⟩,
    ⟨S16x512, truncf .bf16 (select (cmpi .eq (iota .tc S16x512 32 [0] iota_S16x512_d0_w32) (broadcast S16x512 0#32))
      (broadcast S16x512 (Scalar.ofBits .f32 0x3F800000#32 : F .f32)) (broadcast S16x512 (Scalar.ofBits .f32 0x00000000#32 : F .f32)))
      bitsLt_bf16_f32⟩] concatenates_S64x512_S16x512_S80x512_d0

/-- The cached values with the same 16 rows below them. -/
def valsC (v : Vec F S1x64x256 .bf16) : FVec F S80x256 .bf16 :=
  concatenate S80x256 0 [⟨S64x256, shapeCast S64x256 v shapeCasts_S1x64x256_S64x256⟩,
    ⟨S16x256, truncf .bf16 (select (cmpi .eq (iota .tc S16x256 32 [0] iota_S16x256_d0_w32) (broadcast S16x256 0#32))
      (broadcast S16x256 (Scalar.ofBits .f32 0x3F800000#32 : F .f32)) (broadcast S16x256 (Scalar.ofBits .f32 0x00000000#32 : F .f32)))
      bitsLt_bf16_f32⟩] concatenates_S64x256_S16x256_S80x256_d0

/-- The accumulated weighted values (and, in row 64, the accumulated weights) after 512 more keys. -/
def acc (m : FVec F S1x4096 .f32) (a : FVec F S80x4096 .f32) (s : FVec F S512x4096 .f32) (v : Vec F S64x512 .bf16) :
    FVec F S80x4096 .f32 :=
  addf (mulf a (broadcastTo S80x4096 (exp2 (subf m (top m s))) broadcasts_S1x4096_S80x4096))
    (matmul dot_S80x512_S512x4096_S80x4096_1_0_0_1_n_n none (vals v)
      (truncf .bf16 (exp2 (subf s (broadcastTo S512x4096 (top m s) broadcasts_S1x4096_S512x4096))) bitsLt_bf16_f32)
      (constant S80x4096 .f32 0x00000000#32))

/-- The accumulated values after the 256 cached keys. -/
def accC (m : FVec F S1x4096 .f32) (a : FVec F S80x4096 .f32) (s : FVec F S256x4096 .f32) (v : Vec F S1x64x256 .bf16) :
    FVec F S80x4096 .f32 :=
  addf (mulf a (broadcastTo S80x4096 (exp2 (subf m (topC m s))) broadcasts_S1x4096_S80x4096))
    (matmul dot_S80x256_S256x4096_S80x4096_1_0_0_1_n_n none (valsC v)
      (truncf .bf16 (exp2 (subf s (broadcastTo S256x4096 (topC m s) broadcasts_S1x4096_S256x4096))) bitsLt_bf16_f32)
      (constant S80x4096 .f32 0x00000000#32))

/-- The stored block: the accumulated values over the accumulated weights, heads side by side. -/
def outv (a : FVec F S80x4096 .f32) : FVec F S1024x256 .bf16 :=
  k0_pay1 (extractStridedSlice S64x4096 ![0, 0] a slices_S80x4096_o0_0_S64x4096)
    (broadcastTo S64x4096 (extractStridedSlice S1x4096 ![64, 0] a slices_S80x4096_o64_0_S1x4096) broadcasts_S1x4096_S64x4096)

section
variable (qp : FVec F S128x4096 .bf16)
  (k0 k1 k2 k3 k4 k5 k6 k7 : Vec F S512x128 .bf16) (v0 v1 v2 v3 v4 v5 v6 v7 : Vec F S64x512 .bf16)
  (kc : Vec F S1x256x128 .bf16) (vc : Vec F S1x64x256 .bf16)

/-- The running maximum after 1, …, 8 blocks of 512 keys, -/
def m1 := top (k0_pay3 (F := F)) (scores qp k0)
def m2 := top (m1 qp k0) (scores qp k1)
def m3 := top (m2 qp k0 k1) (scores qp k2)
def m4 := top (m3 qp k0 k1 k2) (scores qp k3)
def m5 := top (m4 qp k0 k1 k2 k3) (scores qp k4)
def m6 := top (m5 qp k0 k1 k2 k3 k4) (scores qp k5)
def m7 := top (m6 qp k0 k1 k2 k3 k4 k5) (scores qp k6)
def m8 := top (m7 qp k0 k1 k2 k3 k4 k5 k6) (scores qp k7)

/-- and the accumulated values after 1, …, 8 blocks and after the cached keys. -/
def a1 := acc (k0_pay3 (F := F)) (k0_pay4 (F := F)) (scores qp k0) v0
def a2 := acc (m1 qp k0) (a1 qp k0 v0) (scores qp k1) v1
def a3 := acc (m2 qp k0 k1) (a2 qp k0 k1 v0 v1) (scores qp k2) v2
def a4 := acc (m3 qp k0 k1 k2) (a3 qp k0 k1 k2 v0 v1 v2) (scores qp k3) v3
def a5 := acc (m4 qp k0 k1 k2 k3) (a4 qp k0 k1 k2 k3 v0 v1 v2 v3) (scores qp k4) v4
def a6 := acc (m5 qp k0 k1 k2 k3 k4) (a5 qp k0 k1 k2 k3 k4 v0 v1 v2 v3 v4) (scores qp k5) v5
def a7 := acc (m6 qp k0 k1 k2 k3 k4 k5) (a6 qp k0 k1 k2 k3 k4 k5 v0 v1 v2 v3 v4 v5) (scores qp k6) v6
def a8 := acc (m7 qp k0 k1 k2 k3 k4 k5 k6) (a7 qp k0 k1 k2 k3 k4 k5 k6 v0 v1 v2 v3 v4 v5 v6) (scores qp k7) v7
def a9 := accC (m8 qp k0 k1 k2 k3 k4 k5 k6 k7) (a8 qp k0 k1 k2 k3 k4 k5 k6 k7 v0 v1 v2 v3 v4 v5 v6 v7) (scoresC qp kc) vc
end

variable (i : grid0.Coords) (x0 : Vec F S256x1024 .bf16) (x1 : Vec F S4096x128 .bf16) (x2 : Vec F S64x4096 .bf16)
  (x3 : Vec F S1x256x128 .bf16) (x4 : Vec F S1x64x256 .bf16)

theorem p44 : k0_pay44 i x0 x1 x2 x3 x4 = m1 (k0_pay43 i x0 x1 x2 x3 x4) (View.ld x1 r0_4) := rfl

theorem p45 : k0_pay45 i x0 x1 x2 x3 x4 = m3 (k0_pay43 i x0 x1 x2 x3 x4) (View.ld x1 r0_4) (View.ld x1 r0_6) (View.ld x1 r0_8) := by
  unfold k0_pay45; rw [p44]; rfl

theorem p47 : k0_pay47 i x0 x1 x2 x3 x4 = m4 (k0_pay43 i x0 x1 x2 x3 x4) (View.ld x1 r0_4) (View.ld x1 r0_6) (View.ld x1 r0_8) (View.ld x1 r0_10) := by
  unfold k0_pay47; rw [p45]; rfl

theorem p49 : k0_pay49 i x0 x1 x2 x3 x4 = m6 (k0_pay43 i x0 x1 x2 x3 x4) (View.ld x1 r0_4) (View.ld x1 r0_6) (View.ld x1 r0_8) (View.ld x1 r0_10) (View.ld x1 r0_12) (View.ld x1 r0_14) := by
  unfold k0_pay49; rw [p47]; rfl

/-- The accumulated values after seven blocks. -/
theorem p50 : k0_pay50 i x0 x1 x2 x3 x4 = a7 (k0_pay43 i x0 x1 x2 x3 x4) (View.ld x1 r0_4) (View.ld x1 r0_6) (View.ld x1 r0_8) (View.ld x1 r0_10) (View.ld x1 r0_12) (View.ld x1 r0_14) (View.ld x1 r0_16)
    (View.ld x2 r0_5) (View.ld x2 r0_7) (View.ld x2 r0_9) (View.ld x2 r0_11) (View.ld x2 r0_13) (View.ld x2 r0_15) (View.ld x2 r0_17) := by
  unfold k0_pay50; rw [p49, p47, p45, p44]; rfl

/-- The stored block is nine steps of the recurrence and the division. -/
theorem out_eq : out0_5 i x0 x1 x2 x3 x4 = View.canon [⟨r0_22, outv (a9 (k0_pay43 i x0 x1 x2 x3 x4)
    (View.ld x1 r0_4) (View.ld x1 r0_6) (View.ld x1 r0_8) (View.ld x1 r0_10) (View.ld x1 r0_12) (View.ld x1 r0_14) (View.ld x1 r0_16) (View.ld x1 r0_18)
    (View.ld x2 r0_5) (View.ld x2 r0_7) (View.ld x2 r0_9) (View.ld x2 r0_11) (View.ld x2 r0_13) (View.ld x2 r0_15) (View.ld x2 r0_17) (View.ld x2 r0_19)
    (View.ld x3 r0_20) (View.ld x4 r0_21))⟩] := by
  unfold out0_5 k0_pay51 k0_pay52 k0_pay53 k0_pay54 k0_pay55
  rw [p50, p49]; rfl

end Cert.KernelIdeal.Steps

end
-- ==== Proof.Entry.lean ====
/- What the attention's windows stage: the arguments, as the host code lays them out. -/
module

public import proofs.«01_k».proof.Proof.Steps

@[expose] public section

set_option maxRecDepth 16384

noncomputable section

namespace Cert.KernelIdeal.Steps

open Cert.KernelIdeal Cert.KernelIdeal.Gen Idealize.ShloMosaic Idealize.ShloMosaic.TcCoe Idealize.SL.Sem

variable (m : (ℓ : Loc nD τ sig) → Buf (Elt Ideal) ℓ)

/-- The block indices of the six windows at grid point `t` = (sequence, key head, query tile). -/
theorem idx : ∀ t : Fin cfg0.N, (grid0.coords t 1).val = t.val / 4 % 2 ∧ win0_0.index t = ![t.val / 4 % 2, t.val / 8 * 4 + t.val % 4] ∧ win0_1.index t = ![t.val / 8, 0]
    ∧ win0_2.index t = ![t.val / 4 % 2, t.val / 8] ∧ win0_3.index t = ![t.val / 8, 0, 0] ∧ win0_4.index t = ![t.val / 8, t.val / 4 % 2, 0]
    ∧ win0_5.index t = ![t.val / 8 * 4 + t.val % 4, t.val / 4 % 2] :=
  (by decide +kernel : ∀ t : Fin grid0.N, _)

theorem tN (t : Fin cfg0.N) : t.val < 16 := t.isLt

/-- The five arguments: queries, keys, values, cached keys, cached values. -/
abbrev Qa (c : Dev nD) : FVec Ideal S2x4096x8x64 .f32 := m ((c : Thread nD τ).loc main_arg0)
abbrev Ka (c : Dev nD) : FVec Ideal S2x4096x2x64 .f32 := m ((c : Thread nD τ).loc main_arg1)
abbrev Va (c : Dev nD) : FVec Ideal S2x4096x2x64 .f32 := m ((c : Thread nD τ).loc main_arg2)
abbrev Kc (c : Dev nD) : FVec Ideal S2x256x2x64 .f32 := m ((c : Thread nD τ).loc main_arg3)
abbrev Vc (c : Dev nD) : FVec Ideal S2x256x2x64 .f32 := m ((c : Thread nD τ).loc main_arg4)

/-- The scale the host code folds into the queries: 1/8 over log 2. -/
def scale : ℝ := 8⁻¹ * (Real.log 2)⁻¹

/-- The staged queries: argument 0 times the folded scale, transposed. -/
theorem q_at (c : Dev nD) (t : Fin cfg0.N) (h : Fin 4) (d : Fin 64) (y : Fin 1024) :
    (show EReal from iblk m c 0 t (ix2 (⟨h * 64 + d, by omega⟩ : Fin 256) y))
      = Qa m c (ix4 ⟨t.val / 8, by have := tN t; omega⟩ ⟨t.val % 4 * 1024 + y, by omega⟩ ⟨t.val / 4 % 2 * 4 + h, by omega⟩ d)
        * ((scale : ℝ) : EReal) := by
  blk_simp [iblk]
  entry_read
  pointwise
  rw [show Ideal.ofBits FTy.f32 1040187392#32 = ((8⁻¹ : ℝ) : EReal) by
      simp [Ideal.ofBits, Ideal.ieee]; norm_num; rw [← EReal.coe_mul]; norm_num,
    show Ideal.ofBits FTy.f32 1073741824#32 = ((2 : ℝ) : EReal) by
      simp [Ideal.ofBits, Ideal.ieee]; norm_num; rw [← EReal.coe_mul]; norm_num,
    show Ideal.log ((2 : ℝ) : EReal) = ((Real.log 2 : ℝ) : EReal) from by rw [Ideal.log_coe, if_neg (by norm_num)],
    Ideal.div_coe (Real.log_pos one_lt_two).ne', mul_assoc, ← EReal.coe_mul, one_div]
  refine congrArg₂ (· * ·) ?_ rfl
  blk_ext [idx t]

theorem k_at (c : Dev nD) (t : Fin cfg0.N) (k : Fin 4096) (e : Fin 2) (d : Fin 64) :
    (show EReal from iblk m c 1 t (ix2 k (⟨e * 64 + d, by omega⟩ : Fin 128)))
      = Ka m c (ix4 ⟨t.val / 8, by have := tN t; omega⟩ k e d) := by
  blk_simp [iblk]
  entry_read
  pointwise
  blk_ext [idx t]

theorem v_at (c : Dev nD) (t : Fin cfg0.N) (k : Fin 4096) (d : Fin 64) :
    (show EReal from iblk m c 2 t (ix2 d k))
      = Va m c (ix4 ⟨t.val / 8, by have := tN t; omega⟩ k ⟨t.val / 4 % 2, by omega⟩ d) := by
  blk_simp [iblk]
  entry_read
  pointwise
  blk_ext [idx t]

theorem kc_at (c : Dev nD) (t : Fin cfg0.N) (k : Fin 256) (e : Fin 2) (d : Fin 64) :
    (show EReal from iblk m c 3 t (ix3 0 k (⟨e * 64 + d, by omega⟩ : Fin 128)))
      = Kc m c (ix4 ⟨t.val / 8, by have := tN t; omega⟩ k e d) := by
  blk_simp [iblk]
  entry_read
  pointwise
  blk_ext [idx t]

theorem vc_at (c : Dev nD) (t : Fin cfg0.N) (k : Fin 256) (d : Fin 64) :
    (show EReal from iblk m c 4 t (ix3 0 d k))
      = Vc m c (ix4 ⟨t.val / 8, by have := tN t; omega⟩ k ⟨t.val / 4 % 2, by omega⟩ d) := by
  blk_simp [iblk]
  entry_read
  pointwise
  blk_ext [idx t]

end Cert.KernelIdeal.Steps

end
-- ==== Proof.Num.lean ====
/- Facts about extended reals and sums used for the attention: no program is mentioned here. -/
module

public import Idealize.ShloMosaic.Lib.Pipeline.ValueKit

@[expose] public section

set_option maxRecDepth 16384

noncomputable section

namespace Cert.Num

open Idealize.ShloMosaic Idealize.ShloMosaic.TcCoe Idealize.SL.Sem

/-- A sum of reals taken among the extended reals is the real sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of finitely many reals (at least one) with minus infinity is a real. -/
theorem fold_max_real {N : ℕ} (hN : 0 < N) (f : Fin N → ℝ) :
    ∃ μ : ℝ, (Finset.univ.fold max (⊥ : EReal) fun k => (f k : EReal)) = μ := by
  classical
  have key : ∀ s : Finset (Fin N), (s.fold max (⊥ : EReal) fun k => (f k : EReal)) = ⊥ ∧ s = ∅ ∨
      ∃ μ : ℝ, (s.fold max (⊥ : EReal) fun k => (f k : EReal)) = μ := by
    intro s
    induction s using Finset.induction_on with
    | empty => exact .inl ⟨by simp, rfl⟩
    | insert a s ha ih =>
      right
      rw [Finset.fold_insert ha]
      rcases ih with ⟨h, -⟩ | ⟨μ, h⟩
      · exact ⟨f a, by rw [h]; simp⟩
      · exact ⟨max (f a) μ, by rw [h]; exact (EReal.coe_strictMono.monotone.map_max).symm⟩
  rcases key Finset.univ with ⟨-, h⟩ | h
  · exact absurd h (Finset.univ_nonempty_iff.2 ⟨⟨0, hN⟩⟩).ne_empty
  · exact h

/-- The running maximum stays a real. -/
theorem max_real {N : ℕ} (hN : 0 < N) (m : EReal) (μ : ℝ) (hm : m = μ) (s : Fin N → EReal) (σ : Fin N → ℝ)
    (hs : ∀ k, s k = σ k) : ∃ μ' : ℝ, max m (Finset.univ.fold max (⊥ : EReal) s) = μ' := by
  obtain ⟨μ₁, h₁⟩ := fold_max_real hN σ
  have : s = fun k => (σ k : EReal) := funext hs
  rw [this, h₁, hm]
  exact ⟨max μ μ₁, (EReal.coe_strictMono.monotone.map_max).symm⟩

theorem exp2_coe (x : ℝ) : Ideal.exp2 (x : EReal) = ((2 ^ x : ℝ) : EReal) := rfl

theorem rpow_split (x μ : ℝ) : (2 : ℝ) ^ (x - μ) = 2 ^ x * 2 ^ (-μ) := by
  rw [sub_eq_add_neg, Real.rpow_add two_pos]

/-- One step of the rescaled accumulation: what was summed relative to the old maximum, brought to the new one,
    plus the new terms relative to the new one, is the longer sum relative to the new one. -/
theorem step_real {N : ℕ} (n : ℕ) (σ w : ℕ → ℝ) (μ μ' : ℝ) (m m' a : EReal) (s v : Fin N → EReal)
    (hm : m = μ) (hm' : m' = μ') (ha : a = (((∑ k ∈ Finset.range n, w k * 2 ^ σ k) * 2 ^ (-μ) : ℝ) : EReal))
    (hs : ∀ k, s k = σ (n + k)) (hv : ∀ k, v k = w (n + k)) :
    a * Ideal.exp2 (m - m') + ∑ k, v k * Ideal.exp2 (s k - m')
      = (((∑ k ∈ Finset.range (n + N), w k * 2 ^ σ k) * 2 ^ (-μ') : ℝ) : EReal) := by
  have hterm : ∀ k : Fin N, v k * Ideal.exp2 (s k - m') = ((w (n + k) * 2 ^ σ (n + k) * 2 ^ (-μ') : ℝ) : EReal) := by
    intro k
    rw [hs, hv, hm', ← EReal.coe_sub, exp2_coe, ← EReal.coe_mul, rpow_split, mul_assoc]
  rw [Finset.sum_congr rfl fun k _ => hterm k, ← coe_sum, ha, hm, hm', ← EReal.coe_sub, exp2_coe, ← EReal.coe_mul, ← EReal.coe_add]
  congr 1
  have h2 : (2 : ℝ) ^ (-μ) * 2 ^ (μ - μ') = 2 ^ (-μ') := by
    rw [← Real.rpow_add two_pos]; congr 1; ring
  rw [mul_assoc, h2, ← Finset.sum_mul, ← add_mul, Finset.sum_range_add, Fin.sum_univ_eq_sum_range (fun k => w (n + k) * 2 ^ σ (n + k)) N]

/-- A quotient of reals with a divisor that is not zero. -/
theorem div_coe (x y : ℝ) (hy : y ≠ 0) : Ideal.div (x : EReal) (y : EReal) = ((x / y : ℝ) : EReal) := by
  rw [Ideal.div_coe hy, ← EReal.coe_mul, mul_one_div]

/-- A function of `N` keys as a function of every number. -/
def ext {N : ℕ} (s : Fin N → ℝ) (n : ℕ) : ℝ := if h : n < N then s ⟨n, h⟩ else 0

theorem ext_of {N : ℕ} (s : Fin N → ℝ) (n : ℕ) (h : n < N) : ext s n = s ⟨n, h⟩ := dif_pos h

/-- The two softmax averages agree: weights to base two of scores over log 2, and weights to base e. -/
theorem base_change {N : ℕ} (s w : Fin N → ℝ) :
    (∑ k ∈ Finset.range N, ext w k * (2 : ℝ) ^ ext (fun k => s k * (Real.log 2)⁻¹) k) / (∑ k ∈ Finset.range N, (2 : ℝ) ^ ext (fun k => s k * (Real.log 2)⁻¹) k)
      = (∑ k, w k * Real.exp (s k)) / ∑ k, Real.exp (s k) := by
  have hl : Real.log 2 ≠ 0 := (Real.log_pos one_lt_two).ne'
  have he : ∀ x : ℝ, (2 : ℝ) ^ (x * (Real.log 2)⁻¹) = Real.exp x := fun x => by
    rw [Real.rpow_def_of_pos two_pos, mul_comm, mul_assoc, inv_mul_cancel₀ hl, mul_one]
  rw [Finset.sum_range, Finset.sum_range]
  simp only [ext, Fin.is_lt, dite_true, Fin.eta, he]

/-- The softmax average with every score taken less a number `μ`: the subtraction cancels. -/
theorem soft_avg {N : ℕ} (hN : 0 < N) (s w : Fin N → ℝ) (μ : ℝ) :
    ∑ k, (w k : EReal) * Ideal.div ((Real.exp (s k - μ) : ℝ) : EReal) (∑ j, ((Real.exp (s j - μ) : ℝ) : EReal))
      = (((∑ k, w k * Real.exp (s k)) / ∑ k, Real.exp (s k) : ℝ) : EReal) := by
  have hpos : (0 : ℝ) < ∑ k : Fin N, Real.exp (s k - μ) := Finset.sum_pos (fun k _ => Real.exp_pos _) ⟨⟨0, hN⟩, Finset.mem_univ _⟩
  have ht : ∀ k, (w k : EReal) * Ideal.div ((Real.exp (s k - μ) : ℝ) : EReal) (∑ j, ((Real.exp (s j - μ) : ℝ) : EReal))
      = ((w k * (Real.exp (s k - μ) / ∑ j, Real.exp (s j - μ)) : ℝ) : EReal) := fun k => by
    rw [← coe_sum, div_coe _ _ hpos.ne', ← EReal.coe_mul]
  rw [Finset.sum_congr rfl fun k _ => ht k, ← coe_sum]
  refine EReal.coe_eq_coe_iff.mpr ?_
  have he : ∀ k, Real.exp (s k - μ) = Real.exp (s k) * Real.exp (-μ) := fun k => by rw [← Real.exp_add, sub_eq_add_neg]
  simp only [he, ← Finset.sum_mul]
  have hz := (Real.exp_pos (-μ)).ne'
  rw [Finset.sum_div]
  refine Finset.sum_congr rfl fun k _ => ?_
  rw [mul_div_mul_right _ _ hz, mul_div_assoc]

end Cert.Num

end
-- ==== Proof.Reads.lean ====
/- The steps of the attention's recurrence, read at one index over the extended reals. -/
module

public import proofs.«01_k».proof.Proof.Steps
public import proofs.«01_k».proof.Proof.Num

@[expose] public section

set_option maxRecDepth 16384

noncomputable section

namespace Cert.KernelIdeal.Steps

open Cert.KernelIdeal Cert.KernelIdeal.Gen Idealize.ShloMosaic Idealize.ShloMosaic.TcCoe Idealize.SL.Sem

theorem neg_inf : Ideal.ofBits .f32 0xFF800000#32 = (⊥ : EReal) := by
  simp [Ideal.ofBits, Ideal.ieee]

theorem scores_at (qp : FVec Ideal S128x4096 .bf16) (kb : FVec Ideal S512x128 .bf16) (k : Fin 512) (j : Fin 4096) :
    scores (F := Ideal) qp kb (ix2 k j) = ∑ d : Fin 128, kb (ix2 k d) * qp (ix2 d j) := by
  pointwise [scores]

theorem scoresC_at (qp : FVec Ideal S128x4096 .bf16) (kb : FVec Ideal S1x256x128 .bf16) (k : Fin 256) (j : Fin 4096) :
    scoresC (F := Ideal) qp kb (ix2 k j) = ∑ d : Fin 128, kb (ix3 0 k d) * qp (ix2 d j) := by
  pointwise [scoresC]

theorem top_at (m : FVec Ideal S1x4096 .f32) (s : FVec Ideal S512x4096 .f32) (j : Fin 4096) :
    top (F := Ideal) m s (ix2 0 j) = max (m (ix2 0 j)) (Finset.univ.fold max ⊥ fun k : Fin 512 => s (ix2 k j)) := by
  pointwise [top]
  rw [neg_inf]

theorem topC_at (m : FVec Ideal S1x4096 .f32) (s : FVec Ideal S256x4096 .f32) (j : Fin 4096) :
    topC (F := Ideal) m s (ix2 0 j) = max (m (ix2 0 j)) (Finset.univ.fold max ⊥ fun k : Fin 256 => s (ix2 k j)) := by
  pointwise [topC]
  rw [neg_inf]

theorem acc_at (m : FVec Ideal S1x4096 .f32) (a : FVec Ideal S80x4096 .f32) (s : FVec Ideal S512x4096 .f32)
    (v : FVec Ideal S64x512 .bf16) (r : Fin 80) (j : Fin 4096) :
    acc (F := Ideal) m a s v (ix2 r j) = a (ix2 r j) * Ideal.exp2 (m (ix2 0 j) - top (F := Ideal) m s (ix2 0 j))
      + ∑ k : Fin 512, vals (F := Ideal) v (ix2 r k) * Ideal.exp2 (s (ix2 k j) - top (F := Ideal) m s (ix2 0 j)) := by
  pointwise [acc]
  rfl

theorem accC_at (m : FVec Ideal S1x4096 .f32) (a : FVec Ideal S80x4096 .f32) (s : FVec Ideal S256x4096 .f32)
    (v : FVec Ideal S1x64x256 .bf16) (r : Fin 80) (j : Fin 4096) :
    accC (F := Ideal) m a s v (ix2 r j) = a (ix2 r j) * Ideal.exp2 (m (ix2 0 j) - topC (F := Ideal) m s (ix2 0 j))
      + ∑ k : Fin 256, valsC (F := Ideal) v (ix2 r k) * Ideal.exp2 (s (ix2 k j) - topC (F := Ideal) m s (ix2 0 j)) := by
  pointwise [accC]
  rfl

/-- The first 64 rows are the values, -/
theorem vals_lt (v : FVec Ideal S64x512 .bf16) (r : Fin 64) (k : Fin 512) :
    vals (F := Ideal) v (ix2 ⟨r, by omega⟩ k) = v (ix2 r k) := by
  pointwise [vals]

/-- and row 64 is ones. -/
theorem vals_one (v : FVec Ideal S64x512 .bf16) (k : Fin 512) : vals (F := Ideal) v (ix2 64 k) = 1 := by
  pointwise [vals]

theorem valsC_lt (v : FVec Ideal S1x64x256 .bf16) (r : Fin 64) (k : Fin 256) :
    valsC (F := Ideal) v (ix2 ⟨r, by omega⟩ k) = v (ix3 0 r k) := by
  pointwise [valsC]

theorem valsC_one (v : FVec Ideal S1x64x256 .bf16) (k : Fin 256) : valsC (F := Ideal) v (ix2 64 k) = 1 := by
  pointwise [valsC]

/-- Row `y`, column `h·64 + d` of the stored block is row `d` over row 64 of the accumulator at column `h·1024 + y`. -/
theorem outv_at (a : FVec Ideal S80x4096 .f32) (y : Fin 1024) (h : Fin 4) (d : Fin 64) :
    outv (F := Ideal) a (ix2 y ⟨h * 64 + d, by omega⟩)
      = Ideal.div (a (ix2 ⟨d, by omega⟩ ⟨h * 1024 + y, by omega⟩)) (a (ix2 64 ⟨h * 1024 + y, by omega⟩)) := by
  pointwise [outv, k0_pay1]
  have hd := d.isLt
  fin_vals h with hh
  · rw [dif_pos (by omega)]
    refine congrArg₂ Ideal.div (congrArg a ?_) (congrArg a ?_) <;> idx_ext
  · rw [dif_neg (by omega), dif_pos (by omega)]
    refine congrArg₂ Ideal.div (congrArg a ?_) (congrArg a ?_) <;> idx_ext
  · rw [dif_neg (by omega), dif_neg (by omega), dif_pos (by omega)]
    refine congrArg₂ Ideal.div (congrArg a ?_) (congrArg a ?_) <;> idx_ext
  · rw [dif_neg (by omega), dif_neg (by omega), dif_neg (by omega)]
    refine congrArg₂ Ideal.div (congrArg a ?_) (congrArg a ?_) <;> idx_ext

end Cert.KernelIdeal.Steps

end
-- ==== Proof.Query.lean ====
/- The padded queries and the blocks of keys and values, read at one index. -/
module

public import proofs.«01_k».proof.Proof.Steps
public import proofs.«01_k».proof.Proof.Num

@[expose] public section

set_option maxRecDepth 16384

noncomputable section

namespace Cert.KernelIdeal.Steps

open Cert.KernelIdeal Cert.KernelIdeal.Gen Idealize.ShloMosaic Idealize.ShloMosaic.TcCoe Idealize.SL.Sem

/-- The four row slices of the staged queries side by side, at row `d` of column `j`. -/
def qrow (q0 q1 q2 q3 : FVec Ideal S64x1024 .bf16) (d : Fin 64) (j : Fin 4096) : EReal :=
  if h : (j : ℕ) < 1024 then q0 (ix2 d ⟨j, h⟩)
  else if h1 : (j : ℕ) - 1024 < 1024 then q1 (ix2 d ⟨j - 1024, h1⟩)
  else if h2 : (j : ℕ) - 1024 - 1024 < 1024 then q2 (ix2 d ⟨j - 1024 - 1024, h2⟩)
  else q3 (ix2 d ⟨j - 1024 - 1024 - 1024, by have := j.isLt; omega⟩)

theorem qp_lo0 (i : grid0.Coords) (hi : (i 1).val = 0) (q0 q1 q2 q3 : FVec Ideal S64x1024 .bf16) (d : Fin 64) (j : Fin 4096) :
    k0_pay2 (F := Ideal) i q0 q1 q2 q3 (ix2 ⟨d, by omega⟩ j) = qrow q0 q1 q2 q3 d j := by
  pointwise [k0_pay2, hi, qrow]

theorem qp_hi0 (i : grid0.Coords) (hi : (i 1).val = 0) (q0 q1 q2 q3 : FVec Ideal S64x1024 .bf16) (d : Fin 64) (j : Fin 4096) :
    k0_pay2 (F := Ideal) i q0 q1 q2 q3 (ix2 ⟨64 + d, by omega⟩ j) = 0 := by
  pointwise [k0_pay2, hi]

theorem qp_lo1 (i : grid0.Coords) (hi : (i 1).val = 1) (q0 q1 q2 q3 : FVec Ideal S64x1024 .bf16) (d : Fin 64) (j : Fin 4096) :
    k0_pay2 (F := Ideal) i q0 q1 q2 q3 (ix2 ⟨d, by omega⟩ j) = 0 := by
  pointwise [k0_pay2, hi]
  rfl

theorem qp_hi1 (i : grid0.Coords) (hi : (i 1).val = 1) (q0 q1 q2 q3 : FVec Ideal S64x1024 .bf16) (d : Fin 64) (j : Fin 4096) :
    k0_pay2 (F := Ideal) i q0 q1 q2 q3 (ix2 ⟨64 + d, by omega⟩ j) = qrow q0 q1 q2 q3 d j := by
  pointwise [k0_pay2, hi, qrow]
  rfl

/-- At a whole staged block of queries: row `d` of column `h·1024 + y` is row `h·64 + d` of column `y`. -/
theorem qrow_ld (x0 : Vec Ideal S256x1024 .bf16) (h : Fin 4) (y : Fin 1024) (d : Fin 64) :
    qrow (View.ld x0 r0_0) (View.ld x0 r0_1) (View.ld x0 r0_2) (View.ld x0 r0_3) d ⟨h * 1024 + y, by omega⟩
      = x0 (ix2 ⟨h * 64 + d, by omega⟩ y) := by
  have hy := y.isLt
  have hd := d.isLt
  unfold qrow
  dsimp only
  fin_vals h with hh
  · rw [dif_pos (by omega)]
    pointwise
    refine congrArg x0 ?_
    idx_ext
  · rw [dif_neg (by omega), dif_pos (by omega)]
    pointwise
    refine congrArg x0 ?_
    idx_ext
  · rw [dif_neg (by omega), dif_neg (by omega), dif_pos (by omega)]
    pointwise
    refine congrArg x0 ?_
    idx_ext
  · rw [dif_neg (by omega), dif_neg (by omega), dif_neg (by omega)]
    pointwise
    refine congrArg x0 ?_
    idx_ext

/-- The scores against the padded queries: only the 64 lanes of the point's own key head contribute. -/
theorem score_sum (i : grid0.Coords) (x0 : Vec Ideal S256x1024 .bf16) (x1 : Vec Ideal S4096x128 .bf16) (x2 : Vec Ideal S64x4096 .bf16)
    (x3 : Vec Ideal S1x256x128 .bf16) (x4 : Vec Ideal S1x64x256 .bf16) (f : Fin 128 → EReal) (h : Fin 4) (y : Fin 1024) :
    ∑ d : Fin 128, f d * k0_pay43 (F := Ideal) i x0 x1 x2 x3 x4 (ix2 d ⟨h * 1024 + y, by omega⟩)
      = ∑ d : Fin 64, f ⟨(i 1).val * 64 + d, by have h2 : (i 1).val < 2 := (i 1).isLt; omega⟩
          * (x0 (ix2 ⟨h * 64 + d, by omega⟩ y) : EReal) := by
  have h2 : (i 1).val < 2 := (i 1).isLt
  rw [Fin.sum_univ_two_halves 64 64 rfl]
  unfold k0_pay43
  rcases (by omega : (i 1).val = 0 ∨ (i 1).val = 1) with hi | hi
  · rw [Finset.sum_congr rfl fun d _ => congrArg (_ * ·) (qp_lo0 i hi _ _ _ _ d _),
      Finset.sum_congr rfl fun d _ => congrArg (_ * ·) (qp_hi0 i hi _ _ _ _ d _)]
    simp only [mul_zero, Finset.sum_const_zero, add_zero]
    refine Finset.sum_congr rfl fun d _ => ?_
    rw [qrow_ld]
    simp only [hi, zero_mul, zero_add]
  · rw [Finset.sum_congr rfl fun d _ => congrArg (_ * ·) (qp_lo1 i hi _ _ _ _ d _),
      Finset.sum_congr rfl fun d _ => congrArg (_ * ·) (qp_hi1 i hi _ _ _ _ d _)]
    simp only [mul_zero, Finset.sum_const_zero, zero_add]
    refine Finset.sum_congr rfl fun d _ => ?_
    rw [qrow_ld]
    simp only [hi, one_mul]

end Cert.KernelIdeal.Steps

end
-- ==== Proof.Block.lean ====
/- The block one grid point of the attention stores, over reals: weighted values over weights. -/
module

public import proofs.«01_k».proof.Proof.Reads
public import proofs.«01_k».proof.Proof.Query

@[expose] public section

set_option maxRecDepth 16384

noncomputable section

namespace Cert.KernelIdeal.Steps

open Cert.KernelIdeal Cert.KernelIdeal.Gen Idealize.ShloMosaic Idealize.ShloMosaic.TcCoe Idealize.SL.Sem Cert.Num

/-- After the first `n` keys, at query column `j` and value row `r`: the running maximum is some real `μ`, the accumulated
    values are `Σ w·2^σ` and the accumulated weights `Σ 2^σ`, both relative to `2^μ`. -/
def Inv (σ w : ℕ → ℝ) (r : Fin 64) (j : Fin 4096) (n : ℕ) (m : FVec Ideal S1x4096 .f32) (a : FVec Ideal S80x4096 .f32) : Prop :=
  ∃ μ : ℝ, m (ix2 0 j) = (μ : EReal)
    ∧ a (ix2 ⟨r, by omega⟩ j) = (((∑ k ∈ Finset.range n, w k * 2 ^ σ k) * 2 ^ (-μ) : ℝ) : EReal)
    ∧ a (ix2 64 j) = (((∑ k ∈ Finset.range n, 1 * 2 ^ σ k) * 2 ^ (-μ) : ℝ) : EReal)

variable {σ w : ℕ → ℝ} {r : Fin 64} {j : Fin 4096}

/-- The word of the initial running maximum is a real. -/
theorem init_real : ∃ μ : ℝ, (Named.named (F := Ideal) (φ := .f32) κ "lowest" 0xF149F2CA#32 : EReal) = (μ : EReal) :=
  ⟨_, IdealRules.named_const.ideal_named_scalar _ _ _ _ rfl⟩

/-- Before any key. -/
theorem inv_init : Inv σ w r j 0 (k0_pay3 (F := Ideal)) (k0_pay4 (F := Ideal)) := by
  obtain ⟨μ, hμ⟩ := init_real
  refine ⟨μ, ?_, ?_, ?_⟩
  · pointwise [k0_pay3]; exact hμ
  · pointwise [k0_pay4]; simp
  · pointwise [k0_pay4]; simp

/-- 512 more keys. -/
theorem inv_step {n : ℕ} {m : FVec Ideal S1x4096 .f32} {a : FVec Ideal S80x4096 .f32} (h : Inv σ w r j n m a)
    (s : FVec Ideal S512x4096 .f32) (v : FVec Ideal S64x512 .bf16) (hs : ∀ k : Fin 512, s (ix2 k j) = (σ (n + k) : EReal))
    (hv : ∀ k : Fin 512, v (ix2 r k) = (w (n + k) : EReal)) : Inv σ w r j (n + 512) (top (F := Ideal) m s) (acc (F := Ideal) m a s v) := by
  obtain ⟨μ, hm, ha, hb⟩ := h
  obtain ⟨μ', hμ'⟩ := max_real (by decide) _ μ hm (fun k : Fin 512 => s (ix2 k j)) (fun k => σ (n + k)) hs
  have htop : top (F := Ideal) m s (ix2 0 j) = (μ' : EReal) := (top_at m s j).trans hμ'
  refine ⟨μ', htop, ?_, ?_⟩
  · rw [acc_at]
    exact step_real n σ w μ μ' _ _ _ _ _ hm htop ha hs fun k => (vals_lt v r k).trans (hv k)
  · rw [acc_at]
    exact step_real n σ (fun _ => 1) μ μ' _ _ _ _ _ hm htop hb hs fun k => (vals_one v k).trans EReal.coe_one.symm

/-- The 256 cached keys. -/
theorem inv_stepC {n : ℕ} {m : FVec Ideal S1x4096 .f32} {a : FVec Ideal S80x4096 .f32} (h : Inv σ w r j n m a)
    (s : FVec Ideal S256x4096 .f32) (v : FVec Ideal S1x64x256 .bf16) (hs : ∀ k : Fin 256, s (ix2 k j) = (σ (n + k) : EReal))
    (hv : ∀ k : Fin 256, v (ix3 0 r k) = (w (n + k) : EReal)) : Inv σ w r j (n + 256) (topC (F := Ideal) m s) (accC (F := Ideal) m a s v) := by
  obtain ⟨μ, hm, ha, hb⟩ := h
  obtain ⟨μ', hμ'⟩ := max_real (by decide) _ μ hm (fun k : Fin 256 => s (ix2 k j)) (fun k => σ (n + k)) hs
  have htop : topC (F := Ideal) m s (ix2 0 j) = (μ' : EReal) := (topC_at m s j).trans hμ'
  refine ⟨μ', htop, ?_, ?_⟩
  · rw [accC_at]
    exact step_real n σ w μ μ' _ _ _ _ _ hm htop ha hs fun k => (valsC_lt v r k).trans (hv k)
  · rw [accC_at]
    exact step_real n σ (fun _ => 1) μ μ' _ _ _ _ _ hm htop hb hs fun k => (valsC_one v k).trans EReal.coe_one.symm

/-- The quotient the block stores, once all keys have been seen. -/
theorem inv_out {n : ℕ} (hn : 0 < n) {m : FVec Ideal S1x4096 .f32} {a : FVec Ideal S80x4096 .f32} {h : Fin 4} {y : Fin 1024}
    (H : Inv σ w r ⟨h * 1024 + y, by omega⟩ n m a) :
    outv (F := Ideal) a (ix2 y ⟨h * 64 + r, by omega⟩)
      = (((∑ k ∈ Finset.range n, w k * 2 ^ σ k) / (∑ k ∈ Finset.range n, 2 ^ σ k) : ℝ) : EReal) := by
  obtain ⟨μ, hm, ha, hb⟩ := H
  have hp : (0 : ℝ) < ∑ k ∈ Finset.range n, (2 : ℝ) ^ σ k :=
    Finset.sum_pos (fun k _ => Real.rpow_pos_of_pos two_pos _) ⟨0, Finset.mem_range.2 hn⟩
  have hq : (0 : ℝ) < 2 ^ (-μ) := Real.rpow_pos_of_pos two_pos _
  rw [outv_at, ha, hb]
  simp only [one_mul]
  rw [div_coe _ _ (mul_pos hp hq).ne', mul_div_mul_right _ _ hq.ne']

/-- What the body stores at row `y`, column `h·64 + r`, given the real score `σ k` of every key `k` (the cached keys
    after the others) and its real value `w k`. -/
theorem block_val (i : grid0.Coords) (x0 : Vec Ideal S256x1024 .bf16) (x1 : Vec Ideal S4096x128 .bf16) (x2 : Vec Ideal S64x4096 .bf16)
    (x3 : Vec Ideal S1x256x128 .bf16) (x4 : Vec Ideal S1x64x256 .bf16) (h : Fin 4) (y : Fin 1024)
    (hk : ∀ k : Fin 4096, ∑ d : Fin 64, (x1 (ix2 k ⟨(i 1).val * 64 + d, by have h2 : (i 1).val < 2 := (i 1).isLt; omega⟩) : EReal)
      * (x0 (ix2 ⟨h * 64 + d, by omega⟩ y) : EReal) = (σ k : EReal))
    (hkc : ∀ k : Fin 256, ∑ d : Fin 64, (x3 (ix3 0 k ⟨(i 1).val * 64 + d, by have h2 : (i 1).val < 2 := (i 1).isLt; omega⟩) : EReal)
      * (x0 (ix2 ⟨h * 64 + d, by omega⟩ y) : EReal) = (σ (4096 + k) : EReal))
    (hv : ∀ k : Fin 4096, (x2 (ix2 r k) : EReal) = w k) (hvc : ∀ k : Fin 256, (x4 (ix3 0 r k) : EReal) = w (4096 + k)) :
    outv (F := Ideal) (a9 (k0_pay43 i x0 x1 x2 x3 x4)
      (View.ld x1 r0_4) (View.ld x1 r0_6) (View.ld x1 r0_8) (View.ld x1 r0_10) (View.ld x1 r0_12) (View.ld x1 r0_14) (View.ld x1 r0_16) (View.ld x1 r0_18)
      (View.ld x2 r0_5) (View.ld x2 r0_7) (View.ld x2 r0_9) (View.ld x2 r0_11) (View.ld x2 r0_13) (View.ld x2 r0_15) (View.ld x2 r0_17) (View.ld x2 r0_19)
      (View.ld x3 r0_20) (View.ld x4 r0_21)) (ix2 y ⟨h * 64 + r, by omega⟩)
      = (((∑ k ∈ Finset.range 4352, w k * 2 ^ σ k) / (∑ k ∈ Finset.range 4352, 2 ^ σ k) : ℝ) : EReal) := by
  have S : ∀ (o : ℕ) (ho : o ≤ 3584) (kb : FVec Ideal S512x128 .bf16) (hkb : ∀ (k : Fin 512) (d : Fin 128), kb (ix2 k d) = x1 (ix2 ⟨o + k, by omega⟩ d))
      (k : Fin 512), scores (F := Ideal) (k0_pay43 i x0 x1 x2 x3 x4) kb (ix2 k ⟨h * 1024 + y, by omega⟩) = (σ (o + k) : EReal) := by
    intro o ho kb hkb k
    rw [scores_at, score_sum i x0 x1 x2 x3 x4 (fun d => kb (ix2 k d)) h y]
    simp only [hkb]
    exact hk ⟨o + k, by omega⟩
  have SC : ∀ (kb : FVec Ideal S1x256x128 .bf16) (hkb : ∀ (k : Fin 256) (d : Fin 128), kb (ix3 0 k d) = x3 (ix3 0 k d))
      (k : Fin 256), scoresC (F := Ideal) (k0_pay43 i x0 x1 x2 x3 x4) kb (ix2 k ⟨h * 1024 + y, by omega⟩) = (σ (4096 + k) : EReal) := by
    intro kb hkb k
    rw [scoresC_at, score_sum i x0 x1 x2 x3 x4 (fun d => kb (ix3 0 k d)) h y]
    simp only [hkb]
    exact hkc k
  have W : ∀ (o : ℕ) (ho : o ≤ 3584) (v : FVec Ideal S64x512 .bf16) (hvb : ∀ k : Fin 512, v (ix2 r k) = x2 (ix2 r ⟨o + k, by omega⟩))
      (k : Fin 512), v (ix2 r k) = (w (o + k) : EReal) := fun o ho v hvb k => (hvb k).trans (hv ⟨o + k, by omega⟩)
  refine inv_out (n := 4352) (m := topC (F := Ideal) (m8 (k0_pay43 i x0 x1 x2 x3 x4)
      (View.ld x1 r0_4) (View.ld x1 r0_6) (View.ld x1 r0_8) (View.ld x1 r0_10) (View.ld x1 r0_12) (View.ld x1 r0_14) (View.ld x1 r0_16) (View.ld x1 r0_18))
      (scoresC (k0_pay43 i x0 x1 x2 x3 x4) (View.ld x3 r0_20))) (by decide) ?_
  refine inv_stepC (n := 4096) ?_ _ _ (SC _ fun k d => ?_) fun k => Eq.trans ?_ (hvc k)
  refine inv_step (n := 3584) ?_ _ _ (S 3584 (by decide) _ fun k d => ?_) (W 3584 (by decide) _ fun k => ?_)
  refine inv_step (n := 3072) ?_ _ _ (S 3072 (by decide) _ fun k d => ?_) (W 3072 (by decide) _ fun k => ?_)
  refine inv_step (n := 2560) ?_ _ _ (S 2560 (by decide) _ fun k d => ?_) (W 2560 (by decide) _ fun k => ?_)
  refine inv_step (n := 2048) ?_ _ _ (S 2048 (by decide) _ fun k d => ?_) (W 2048 (by decide) _ fun k => ?_)
  refine inv_step (n := 1536) ?_ _ _ (S 1536 (by decide) _ fun k d => ?_) (W 1536 (by decide) _ fun k => ?_)
  refine inv_step (n := 1024) ?_ _ _ (S 1024 (by decide) _ fun k d => ?_) (W 1024 (by decide) _ fun k => ?_)
  refine inv_step (n := 512) ?_ _ _ (S 512 (by decide) _ fun k d => ?_) (W 512 (by decide) _ fun k => ?_)
  refine inv_step (n := 0) inv_init _ _ (S 0 (by decide) _ fun k d => ?_) (W 0 (by decide) _ fun k => ?_)
  all_goals pointwise

end Cert.KernelIdeal.Steps

end
-- ==== Proof.Ref.lean ====
/- The attention reference at one element of its result, over the reals. -/
module

public import proofs.«01_k».proof.Proof.Gen.ReferenceIdeal.Read
public import proofs.«01_k».proof.Proof.Num

@[expose] public section

set_option maxRecDepth 16384

noncomputable section

namespace Cert.ReferenceIdeal.Soft

open Cert.ReferenceIdeal Cert.ReferenceIdeal.Gen Cert.ReferenceIdeal.Read Cert.Num Idealize.ShloMosaic Idealize.ShloMosaic.TcCoe Idealize.SL.Sem Idealize.ShloMosaic.StableHlo

variable (x0 : FVec Ideal S2x4096x8x64 .f32) (x1 x2 : FVec Ideal S2x4096x2x64 .f32) (x3 x4 : FVec Ideal S2x256x2x64 .f32)

/-- The score of key `k`: its product with the query, over eight. -/
theorem s_at (b e : Fin 2) (g : Fin 4) (q : Fin 4096) (k : Fin 4352) :
    val_main_v6 (F := Ideal) x0 x1 x3 (ix5 b e g q k) = (∑ d : Fin 64, val_main_v0 (F := Ideal) x1 x3 (ix4 b k e d)
      * x0 (ix4 b q ⟨e * 4 + g, by omega⟩ d)) * ((8⁻¹ : ℝ) : EReal) := by
  rw [val_main_v6_apply, val_main_v4_apply, val_main_v3_apply, val_main_v5_apply]
  have hc : val_main_cst (F := Ideal) (idx_main_v5 (ix5 b e g q k)) = ((8⁻¹ : ℝ) : EReal) := by
    rw [val_main_cst_apply]
    show Ideal.ofBits .f32 0x3E000000#32 = _
    simp [Ideal.ofBits, Ideal.ieee]
    norm_num
    rw [← EReal.coe_mul]
    norm_num
  rw [hc]
  show _ * _ = _ * _
  congr 1
  refine Finset.sum_congr rfl fun d _ => ?_
  rw [val_main_v2_apply]
  congr 2 <;> idx_ext

/-- The largest score. -/
theorem top_at (b e : Fin 2) (g : Fin 4) (q : Fin 4096) :
    val_main_v9 (F := Ideal) x0 x1 x3 (ix4 b e g q) = Finset.fold max ⊥ (fun k : Fin 4352 => val_main_v6 (F := Ideal) x0 x1 x3 (ix5 b e g q k)) Finset.univ := by
  have hb : Ideal.ofBits .f32 0xFF800000#32 = ⊥ := by simp [Ideal.ofBits, Ideal.ieee]
  rw [val_main_v9_apply, val_main_v8_apply, val_main_cst_1_apply]
  unfold val_main_v7
  pointwise
  rw [val_main_cst_0_apply]
  show max (Ideal.ofBits .f32 0xFF800000#32) (Finset.fold max (Ideal.ofBits .f32 0xFF800000#32) _ _) = _
  rw [hb]
  exact max_eq_right bot_le

/-- The keys: the layer's own, then the cached ones. -/
theorem cat_k (b e : Fin 2) (d : Fin 64) (k : Fin 4352) :
    val_main_v0 (F := Ideal) x1 x3 (ix4 b k e d) = if h : k.val < 4096 then x1 (ix4 b ⟨k, h⟩ e d) else x3 (ix4 b ⟨k - 4096, by omega⟩ e d) := by
  pointwise [val_main_v0]

/-- The values likewise. -/
theorem cat_v (b e : Fin 2) (d : Fin 64) (k : Fin 4352) :
    val_main_v1 (F := Ideal) x2 x4 (ix4 b k e d) = if h : k.val < 4096 then x2 (ix4 b ⟨k, h⟩ e d) else x4 (ix4 b ⟨k - 4096, by omega⟩ e d) := by
  pointwise [val_main_v1]

/-- The exponential of a score less the largest. -/
theorem p_at (b e : Fin 2) (g : Fin 4) (q : Fin 4096) (k : Fin 4352) :
    val_main_v13 (F := Ideal) x0 x1 x3 (ix5 b e g q k) =
     Ideal.exp (val_main_v6 (F := Ideal) x0 x1 x3 (ix5 b e g q k) - val_main_v9 (F := Ideal) x0 x1 x3 (ix4 b e g q)) := by
  rw [val_main_v13_apply, val_main_v12_apply, val_main_v11_apply, val_main_v10_apply]
  have hi : idx_main_v10 (idx_main_v11 (ix5 b e g q k)) = ix4 b e g q := by idx_ext
  rw [hi]; rfl

/-- A weight: an exponential over the sum of all. -/
theorem w_at (b e : Fin 2) (g : Fin 4) (q : Fin 4096) (k : Fin 4352) :
    val_main_v17 (F := Ideal) x0 x1 x3 (ix5 b e g q k) =
     Ideal.div (val_main_v13 (F := Ideal) x0 x1 x3 (ix5 b e g q k)) (∑ j : Fin 4352, val_main_v13 (F := Ideal) x0 x1 x3 (ix5 b e g q j)) := by
  rw [val_main_v17_apply, val_main_v16_apply, val_main_v15_apply, val_main_v14_apply]
  have hi : ∀ j, idx_main_v14 (idx_main_v15 (idx_main_v16 (ix5 b e g q k))) j = ix5 b e g q j := fun j => by idx_ext
  have hz : val_main_cst_2 (F := Ideal) (Shape.Idx.first h_S_) = 0 := by
    rw [val_main_cst_2_apply]
    show Ideal.ofBits .f32 0x00000000#32 = 0
    simp [Ideal.ofBits, Ideal.ieee]
  rw [hz, zero_add]
  simp only [hi]; rfl

/-- The result: the weighted sum of the values. -/
theorem out_at (b e : Fin 2) (g : Fin 4) (q : Fin 4096) (d : Fin 64) :
    val_main_v21 (F := Ideal) x0 x1 x2 x3 x4 (ix2 ⟨b * 4096 + q, by omega⟩ ⟨(e * 4 + g) * 64 + d, by omega⟩) =
     ∑ k : Fin 4352, val_main_v1 (F := Ideal) x2 x4 (ix4 b k e d) * val_main_v17 (F := Ideal) x0 x1 x3 (ix5 b e g q k) := by
  rw [val_main_v21_apply, val_main_v20_apply, val_main_v19_apply, val_main_v18_apply]
  show (∑ k : Fin 4352, _) = _
  refine Finset.sum_congr rfl fun k _ => ?_
  congr 2 <;> idx_ext

/-- When the scores are the reals `s k` and the values the reals `w k`, the result is the softmax average: the sum of
    `w k * exp (s k)` over the sum of `exp (s k)`. -/
theorem soft (b e : Fin 2) (g : Fin 4) (q : Fin 4096) (d : Fin 64) (s w : Fin 4352 → ℝ)
    (hs : ∀ k, val_main_v6 (F := Ideal) x0 x1 x3 (ix5 b e g q k) = (s k : EReal))
    (hw : ∀ k, val_main_v1 (F := Ideal) x2 x4 (ix4 b k e d) = (w k : EReal)) :
    val_main_v21 (F := Ideal) x0 x1 x2 x3 x4 (ix2 ⟨b * 4096 + q, by omega⟩ ⟨(e * 4 + g) * 64 + d, by omega⟩)
      = (((∑ k, w k * Real.exp (s k)) / ∑ k, Real.exp (s k) : ℝ) : EReal) := by
  obtain ⟨μ, hμ⟩ : ∃ μ : ℝ, val_main_v9 (F := Ideal) x0 x1 x3 (ix4 b e g q) = (μ : EReal) := by
    rw [top_at, funext hs]
    exact fold_max_real (by norm_num) s
  have hp : ∀ k, val_main_v13 (F := Ideal) x0 x1 x3 (ix5 b e g q k) = ((Real.exp (s k - μ) : ℝ) : EReal) := fun k => by
    rw [p_at, hs, hμ]; exact Ideal.exp_coe _
  rw [out_at]
  simp only [w_at, hp, hw]
  exact soft_avg (by norm_num) s w μ

end Cert.ReferenceIdeal.Soft

end
-- ==== Proof.Final.lean ====
/- The attention call's result array is the reference's, over the reals, for finite arguments. -/
module

public import proofs.«01_k».proof.Proof.Entry
public import proofs.«01_k».proof.Proof.Block
public import proofs.«01_k».proof.Proof.Ref
public import proofs.«01_k».proof.Proof.Gen.KernelIdeal.Value

@[expose] public section

set_option maxRecDepth 16384

noncomputable section

namespace Cert.KernelIdeal.Steps

open Cert.KernelIdeal Cert.KernelIdeal.Gen Cert.Num Idealize.ShloMosaic Idealize.ShloMosaic.TcCoe Idealize.SL.Sem
open Cert.ReferenceIdeal.Read (val_main_v21)

variable (m : (ℓ : Loc nD τ sig) → Buf (Elt Ideal) ℓ)

/-- One element of one written block: the softmax average of the reference. -/
theorem elem (c : Dev nD) (hq : ∀ i, Qa m c i = ((Qa m c i).toReal : EReal)) (hk : ∀ i, Ka m c i = ((Ka m c i).toReal : EReal))
    (hv : ∀ i, Va m c i = ((Va m c i).toReal : EReal)) (hkc : ∀ i, Kc m c i = ((Kc m c i).toReal : EReal))
    (hvc : ∀ i, Vc m c i = ((Vc m c i).toReal : EReal)) (t : Fin cfg0.N) (h : Fin 4) (y : Fin 1024) (r : Fin 64) :
    out0_5 (grid0.coords t) (iblk m c 0 t) (iblk m c 1 t) (iblk m c 2 t) (iblk m c 3 t) (iblk m c 4 t) (ix2 y ⟨h * 64 + r, by omega⟩)
      = val_main_v21 (F := Ideal) (Qa m c) (Ka m c) (Va m c) (Kc m c) (Vc m c)
          (ix2 ⟨(⟨t.val / 8, by have := tN t; omega⟩ : Fin 2) * 4096 + (⟨t.val % 4 * 1024 + y, by omega⟩ : Fin 4096), by dsimp only; have := tN t; omega⟩
            ⟨((⟨t.val / 4 % 2, by omega⟩ : Fin 2) * 4 + h) * 64 + r, by dsimp only; omega⟩) := by
  have ht := tN t
  have hi : (grid0.coords t 1).val = t.val / 4 % 2 := (idx t).1
  set b : Fin 2 := ⟨t.val / 8, by omega⟩ with hb
  set e : Fin 2 := ⟨t.val / 4 % 2, by omega⟩ with he
  set q : Fin 4096 := ⟨t.val % 4 * 1024 + y, by omega⟩ with hqq
  let KR : Fin 4352 → Fin 64 → ℝ := fun k d => if hk : k.val < 4096 then (Ka m c (ix4 b ⟨k, hk⟩ e d)).toReal else (Kc m c (ix4 b ⟨k - 4096, by omega⟩ e d)).toReal
  let s : Fin 4352 → ℝ := fun k => (∑ d : Fin 64, KR k d * (Qa m c (ix4 b q ⟨e * 4 + h, by omega⟩ d)).toReal) * 8⁻¹
  let w : Fin 4352 → ℝ := fun k => if hk : k.val < 4096 then (Va m c (ix4 b ⟨k, hk⟩ e r)).toReal else (Vc m c (ix4 b ⟨k - 4096, by omega⟩ e r)).toReal
  have hs : ∀ k, Cert.ReferenceIdeal.Read.val_main_v6 (F := Ideal) (Qa m c) (Ka m c) (Kc m c) (ix5 b e h q k) = (s k : EReal) := fun k => by
    rw [Cert.ReferenceIdeal.Soft.s_at, EReal.coe_mul, coe_sum]
    refine congrArg (· * _) (Finset.sum_congr rfl fun d _ => ?_)
    rw [Cert.ReferenceIdeal.Soft.cat_k, EReal.coe_mul, hq]
    refine congrArg (· * _) ?_
    dsimp only [KR]
    split
    · exact hk _
    · exact hkc _
  have hw : ∀ k, Cert.ReferenceIdeal.Read.val_main_v1 (F := Ideal) (Va m c) (Vc m c) (ix4 b k e r) = (w k : EReal) := fun k => by
    rw [Cert.ReferenceIdeal.Soft.cat_v]
    dsimp only [w]
    split
    · exact hv _
    · exact hvc _
  rw [Cert.ReferenceIdeal.Soft.soft _ _ _ _ _ b e h q r s w hs hw, ← base_change, out_eq]
  have hS : ∀ k : Fin 4352, (∑ d : Fin 64, (KR k d : EReal) * ((Qa m c (ix4 b q ⟨e * 4 + h, by omega⟩ d)) * ((scale : ℝ) : EReal)))
      = ((s k * (Real.log 2)⁻¹ : ℝ) : EReal) := fun k => by
    rw [show s k * (Real.log 2)⁻¹ = ∑ d : Fin 64, KR k d * ((Qa m c (ix4 b q ⟨e * 4 + h, by omega⟩ d)).toReal * scale) by
      simp only [s, scale, Finset.sum_mul]
      exact Finset.sum_congr rfl fun d _ => by ring, coe_sum]
    refine Finset.sum_congr rfl fun d _ => ?_
    rw [EReal.coe_mul, EReal.coe_mul, ← hq]
  have hcol : ∀ d : Fin 64, (⟨(grid0.coords t 1).val * 64 + d, by rw [hi]; omega⟩ : Fin 128) = ⟨e * 64 + d, by omega⟩ := fun d => Fin.ext (by simp only [hi, he])
  have key := block_val (σ := ext fun k => s k * (Real.log 2)⁻¹) (w := ext w) (r := r) (grid0.coords t) (iblk m c 0 t) (iblk m c 1 t) (iblk m c 2 t) (iblk m c 3 t)
    (iblk m c 4 t) h y (fun k => ?_) (fun k => ?_) (fun k => ?_) (fun k => ?_)
  · frame_out at key ⊢
    exact key
  · have hlt : k.val < 4352 := by omega
    rw [ext_of _ _ hlt, ← hS]
    refine Finset.sum_congr rfl fun d _ => ?_
    rw [hcol]
    refine congrArg₂ (· * ·) ((k_at m c t k e d).trans ?_) (q_at m c t h d y)
    simp only [KR, k.isLt, dite_true, Fin.eta]
    exact hk _
  · have hlt : 4096 + k.val < 4352 := by omega
    rw [ext_of _ _ hlt, ← hS]
    refine Finset.sum_congr rfl fun d _ => ?_
    rw [hcol]
    refine congrArg₂ (· * ·) ((kc_at m c t k e d).trans ?_) (q_at m c t h d y)
    have hn : ¬ (4096 + k.val < 4096) := by omega
    simp only [KR, hn, dite_false, Nat.add_sub_cancel_left, Fin.eta]
    exact hkc _
  · have hlt : k.val < 4352 := by omega
    rw [ext_of _ _ hlt]
    refine (v_at m c t k r).trans ?_
    simp only [w, k.isLt, dite_true, Fin.eta]
    exact hv _
  · have hlt : 4096 + k.val < 4352 := by omega
    rw [ext_of _ _ hlt]
    refine (vc_at m c t k r).trans ?_
    have hn : ¬ (4096 + k.val < 4096) := by omega
    simp only [w, hn, dite_false, Nat.add_sub_cancel_left, Fin.eta]
    exact hvc _

/-- The same at any element of the block, by its place in the array. -/
theorem elem' (c : Dev nD) (hq : ∀ i, Qa m c i = ((Qa m c i).toReal : EReal)) (hk : ∀ i, Ka m c i = ((Ka m c i).toReal : EReal))
    (hv : ∀ i, Va m c i = ((Va m c i).toReal : EReal)) (hkc : ∀ i, Kc m c i = ((Kc m c i).toReal : EReal))
    (hvc : ∀ i, Vc m c i = ((Vc m c i).toReal : EReal)) (t : Fin cfg0.N) (j : S1024x256.Idx) :
    out0_5 (grid0.coords t) (iblk m c 0 t) (iblk m c 1 t) (iblk m c 2 t) (iblk m c 3 t) (iblk m c 4 t) j
      = val_main_v21 (F := Ideal) (Qa m c) (Ka m c) (Va m c) (Kc m c) (Vc m c)
          (ix2 ⟨(t.val / 8 * 4 + t.val % 4) * 1024 + (j 0).val, by have := tN t; have := (j 0).isLt; simp at this; omega⟩
            ⟨t.val / 4 % 2 * 256 + (j 1).val, by have := (j 1).isLt; simp at this; omega⟩) := by
  have h0 : (j 0).val < 1024 := (j 0).isLt
  have h1 : (j 1).val < 256 := (j 1).isLt
  have hj : j = ix2 (⟨(j 0).val, h0⟩ : Fin 1024) (⟨(⟨(j 1).val / 64, by omega⟩ : Fin 4) * 64 + (⟨(j 1).val % 64, by omega⟩ : Fin 64), by dsimp only; omega⟩ : Fin 256) := by
    idx_ext
  refine Eq.trans (congrArg _ hj) ((elem m c hq hk hv hkc hvc t _ _ _).trans (congrArg _ ?_))
  idx_ext <;> dsimp only <;> omega

/-- The result array of the attention call. -/
theorem final (c : Dev nD) (hq : ∀ i, Qa m c i = ((Qa m c i).toReal : EReal)) (hk : ∀ i, Ka m c i = ((Ka m c i).toReal : EReal))
    (hv : ∀ i, Va m c i = ((Va m c i).toReal : EReal)) (hkc : ∀ i, Kc m c i = ((Kc m c i).toReal : EReal))
    (hvc : ∀ i, Vc m c i = ((Vc m c i).toReal : EReal)) :
    (dats m 0 c).arrAt 5 cfg0.N = val_main_v21 (F := Ideal) (Qa m c) (Ka m c) (Va m c) (Kc m c) (Vc m c) := by
  refine (dats m 0 c).arrAt_eq_of_covers 5 _ (by decide +kernel) fun t _ j => ?_
  blk_simp
  rw [after0_5]
  refine (elem' m c hq hk hv hkc hvc t j).trans (congrArg _ ?_)
  blk_ext [idx t]

end Cert.KernelIdeal.Steps

end
-- ==== Proof.Ffn.lean ====
/- The mixing call's arithmetic at one element, over the reals: the residual stream after the mixing product, the modulated norm, the
   up products, the gated strips and the final norm, each from the blocks that the call reads. -/
module

public import proofs.«01_k».proof.Proof.Gen.Kernel2Ideal.Value
public import Idealize.ShloMosaic.PureOps.Ideal.Laws
public import Idealize.ShloMosaic.Lib.ValueIdx
public import Idealize.ShloMosaic.Lib.Pipeline.ValueKit

@[expose] public section

noncomputable section

namespace Cert.Kernel2Ideal.Ffn

open Idealize.ShloMosaic Cert.Kernel2Ideal Cert.Kernel2Ideal.Gen

/-- One over the root of a row's mean square plus the small constant. -/
def rms (f : Fin 1024 → EReal) : EReal :=
  Ideal.rsqrt (Ideal.div (∑ k, f k * f k) (Ideal.ofBits .f32 0x44800000#32) + Ideal.ofBits .f32 0x358637BD#32)

/-- The three-tap convolution: three neighbouring rows' entries by three taps, and the bias. -/
def conv (p0 p1 p2 w0 w1 w2 b : EReal) : EReal := p0 * w0 + p1 * w1 + p2 * w2 + b

/-- The gated product: the gate, times its logistic function, times the value. -/
def glu (g v : EReal) : EReal := g * Ideal.div 1 (1 + Ideal.exp (-g)) * v

/-- The residual stream after the mixing product: the input, plus the gain times a row of the product. -/
theorem x1_at (A : FVec Ideal S528x1024 .bf16) (X : FVec Ideal S528x1024 .f32) (M : FVec Ideal S1x1024 .f32)
    (W : Vec Ideal S1024x1024 .bf16) (r : Fin 528) (d : Fin 1024) :
    k0_pay5 A X M W (ix2 r d) = X (ix2 r d) + M (ix2 0 d) * ∑ k : Fin 1024, A (ix2 r k) * W (ix2 k d) := by
  pointwise [k0_pay5]

/-- The normed and modulated stream: the root-mean-square norm with its weights, scaled and shifted. -/
theorem hx_at (A : FVec Ideal S528x1024 .bf16) (X : FVec Ideal S528x1024 .f32) (M : FVec Ideal S1x1024 .f32)
    (W : Vec Ideal S1024x1024 .bf16) (n : Vec Ideal S1x1024 .f32) (sc sh : Vec Ideal S1x1x1024 .f32) (r : Fin 528) (d : Fin 1024) :
    k0_pay6 A X M W n sc sh (ix2 r d) = k0_pay5 A X M W (ix2 r d) * rms (fun k => k0_pay5 A X M W (ix2 r k)) * n (ix2 0 d)
      * (1 + sc (ix3 0 0 d)) + sh (ix3 0 0 d) := by
  unfold rms
  generalize h : k0_pay5 A X M W = Y
  simp only [k0_pay6, h]
  pointwise

/-- The stream's rows with their halo: row blocks of 8, 512 and 8, the outer ones zero at the sequence's edges. -/
theorem hb_at (a q : BitVec 32) (h : FVec Ideal S528x1024 .f32) (r : Fin 528) (k : Fin 1024) (first last : Prop) [Decidable first] [Decidable last]
    (h0 : Scalar.cmpi .eq q 0#32 = if first then 1#1 else 0#1)
    (h1 : (Scalar.cmpi .eq (Scalar.select (Scalar.andi (Scalar.xori (Scalar.cmpi .slt (Scalar.remsi a 8#32) 0#32)
      (Scalar.cmpi .slt 8#32 0#32)) (Scalar.cmpi .ne (Scalar.remsi a 8#32) 0#32)) (Scalar.addi (Scalar.remsi a 8#32) 8#32)
      (Scalar.remsi a 8#32)) 7#32) = if last then 1#1 else 0#1) :
    k0_pay8 a h q (ix2 r k) = if (first ∧ r.val < 8) ∨ (last ∧ 520 ≤ r.val) then 0 else h (ix2 r k) := by
  have e8 : Scalar.select (Scalar.cmpi .eq 8#32 0#32) 1#32 8#32 = 8#32 := by decide
  simp only [k0_pay8]
  rw [e8, h0, h1]
  pointwise
  have m1 : ∀ (p : Prop) [Decidable p] (x y : EReal), Scalar.select (if p then 1#1 else 0#1) x y = if p then x else y := by
    intro p _ x y
    split <;> rfl
  simp only [m1]
  by_cases a1 : r.val < 8
  · simp [a1, show ¬ 520 ≤ r.val by omega]
  · by_cases a2 : r.val - 8 < 512
    · simp only [a1, a2, show ¬ 520 ≤ r.val by omega, dif_neg, dif_pos, not_false_eq_true, and_false, or_self, if_false]
      exact congrArg h (by idx_ext)
    · have e : (⟨520 + (r.val - 8 - 512), by omega⟩ : Fin 528) = r := Fin.ext (by simp only; omega)
      simp only [a1, a2, show 520 ≤ r.val by omega, dif_neg, not_false_eq_true, and_false, false_or, and_true, e]

/-- An entry of the up product's first half. -/
theorem pv_at (a q : BitVec 32) (h : FVec Ideal S528x1024 .f32) (w : Vec Ideal S1024x2816 .bf16) (r : Fin 528) (j : Fin 2816) :
    k0_pay9 a h q w (ix3 0 r j) = ∑ k : Fin 1024, k0_pay8 a h q (ix2 r k) * w (ix2 k j) := by
  generalize h : k0_pay8 a h q = Y
  simp only [k0_pay9, h]
  pointwise

/-- An entry of the up product's second half. -/
theorem pg_at (a q : BitVec 32) (h : FVec Ideal S528x1024 .f32) (w : Vec Ideal S1024x2816 .bf16) (r : Fin 528) (j : Fin 2816) :
    k0_pay10 a h q w (ix3 0 r j) = ∑ k : Fin 1024, k0_pay8 a h q (ix2 r k) * w (ix2 k j) := by
  generalize h : k0_pay8 a h q = Y
  simp only [k0_pay10, h]
  pointwise

/-- A strip of 256 columns of the gated product, from the gate's and the value's taps, products and biases. -/
def strip (wg : Vec Ideal S3x256 .f32) (pg : Vec Ideal S1x528x256 .f32) (bg : Vec Ideal S1x256 .f32)
    (wv : Vec Ideal S3x256 .f32) (pv : Vec Ideal S1x528x256 .f32) (bv : Vec Ideal S1x256 .f32) : FVec Ideal S512x256 .bf16 :=
  k0_pay20 (F := Ideal) (k0_pay18 (F := Ideal) wg pg bg) (k0_pay19 (F := Ideal) wg pg bg) wv pv bv

/-- A strip at one element: row `y` reads the products' rows `y + 7`, `y + 8` and `y + 9`. -/
theorem strip_at (wg : Vec Ideal S3x256 .f32) (pg : Vec Ideal S1x528x256 .f32) (bg : Vec Ideal S1x256 .f32)
    (wv : Vec Ideal S3x256 .f32) (pv : Vec Ideal S1x528x256 .f32) (bv : Vec Ideal S1x256 .f32) (y : Fin 512) (j : Fin 256) :
    strip wg pg bg wv pv bv (ix2 y j)
      = glu (conv (pg (ix3 0 ⟨y + 7, by omega⟩ j)) (pg (ix3 0 ⟨y + 8, by omega⟩ j)) (pg (ix3 0 ⟨y + 9, by omega⟩ j))
          (wg (ix2 0 j)) (wg (ix2 1 j)) (wg (ix2 2 j)) (bg (ix2 0 j)))
        (conv (pv (ix3 0 ⟨y + 7, by omega⟩ j)) (pv (ix3 0 ⟨y + 8, by omega⟩ j)) (pv (ix3 0 ⟨y + 9, by omega⟩ j))
          (wv (ix2 0 j)) (wv (ix2 1 j)) (wv (ix2 2 j)) (bv (ix2 0 j))) := by
  have n0 : (y.val + 8 + 528 - 1) % 528 = y + 7 := by omega
  have n1 : 8 + y.val = y + 8 := by omega
  have n2 : (y.val + 8 + 528 - 527) % 528 = y + 9 := by omega
  unfold strip glu conv
  pointwise [k0_pay18, k0_pay19, k0_pay20]
  simp only [n0, n1, n2, sub_eq_add_neg, zero_add]

/-- The stream after the down product, times the norm's factor. -/
theorem down_at (u : FVec Ideal S512x1024 .f32) (md : Vec Ideal S1x1x1024 .f32) (ac : Vec Ideal S512x2816 .bf16)
    (w : Vec Ideal S2816x1024 .bf16) (n : Vec Ideal S1x1024 .f32) (y : Fin 512) (d : Fin 1024) (z : Fin 1024 → EReal)
    (hz : ∀ d, z d = u (ix2 y d) + md (ix3 0 0 d) * ∑ k : Fin 2816, ac (ix2 y k) * w (ix2 k d)) :
    k0_pay1 (k0_pay61 u md ac w) n (ix2 y d) = z d * rms z * n (ix2 0 d) := by
  have hz' : z = fun d => u (ix2 y d) + md (ix3 0 0 d) * ∑ k : Fin 2816, ac (ix2 y k) * w (ix2 k d) := funext hz
  subst hz'
  unfold rms
  pointwise [k0_pay1, k0_pay61]

/-- The middle rows of the stream, without the halo. -/
theorem mid_at (u : FVec Ideal S528x1024 .f32) (y : Fin 512) (d : Fin 1024) :
    k0_pay7 u (ix2 y d) = u (ix2 ⟨y + 8, by omega⟩ d) := by
  have e1 : (⟨8 + y.val, by omega⟩ : Fin 528) = ⟨y + 8, by omega⟩ := Fin.ext (by simp only; omega)
  pointwise [k0_pay7]
  rw [e1]

/-- Strip 0 is the same arithmetic. -/
theorem strip0 (wg : Vec Ideal S3x256 .f32) (pg : Vec Ideal S1x528x256 .f32) (bg : Vec Ideal S1x256 .f32)
    (wv : Vec Ideal S3x256 .f32) (pv : Vec Ideal S1x528x256 .f32) (bv : Vec Ideal S1x256 .f32) :
    k0_pay17 (F := Ideal) (k0_pay11 (F := Ideal) wg pg bg) wv (k0_pay13 (F := Ideal) pv) (k0_pay14 (F := Ideal) wv pv) (k0_pay15 (F := Ideal) pv) (k0_pay16 (F := Ideal) wv) bv = strip wg pg bg wv pv bv := rfl

/-- Strip 2 is the same arithmetic. -/
theorem strip2 (wg : Vec Ideal S3x256 .f32) (pg : Vec Ideal S1x528x256 .f32) (bg : Vec Ideal S1x256 .f32)
    (wv : Vec Ideal S3x256 .f32) (pv : Vec Ideal S1x528x256 .f32) (bv : Vec Ideal S1x256 .f32) :
    k0_pay25 (F := Ideal) (k0_pay24 (F := Ideal) wg (k0_pay21 (F := Ideal) pg) (k0_pay22 (F := Ideal) pg) (k0_pay23 (F := Ideal) wg pg) bg wv pv bv) = strip wg pg bg wv pv bv := rfl

/-- Strip 3 is the same arithmetic. -/
theorem strip3 (wg : Vec Ideal S3x256 .f32) (pg : Vec Ideal S1x528x256 .f32) (bg : Vec Ideal S1x256 .f32)
    (wv : Vec Ideal S3x256 .f32) (pv : Vec Ideal S1x528x256 .f32) (bv : Vec Ideal S1x256 .f32) :
    k0_pay29 (F := Ideal) (k0_pay26 (F := Ideal) wg pg bg) wv (k0_pay27 (F := Ideal) pv) (k0_pay28 (F := Ideal) pv) bv = strip wg pg bg wv pv bv := rfl

/-- Strip 4 is the same arithmetic. -/
theorem strip4 (wg : Vec Ideal S3x256 .f32) (pg : Vec Ideal S1x528x256 .f32) (bg : Vec Ideal S1x256 .f32)
    (wv : Vec Ideal S3x256 .f32) (pv : Vec Ideal S1x528x256 .f32) (bv : Vec Ideal S1x256 .f32) :
    k0_pay32 (F := Ideal) (k0_pay30 (F := Ideal) wg pg) (k0_pay31 (F := Ideal) bg) wv pv bv = strip wg pg bg wv pv bv := rfl

/-- Strip 5 is the same arithmetic. -/
theorem strip5 (wg : Vec Ideal S3x256 .f32) (pg : Vec Ideal S1x528x256 .f32) (bg : Vec Ideal S1x256 .f32)
    (wv : Vec Ideal S3x256 .f32) (pv : Vec Ideal S1x528x256 .f32) (bv : Vec Ideal S1x256 .f32) :
    k0_pay38 (F := Ideal) (k0_pay33 (F := Ideal) wg pg bg) (k0_pay35 (F := Ideal) wv pv) (k0_pay36 (F := Ideal) pv) (k0_pay37 (F := Ideal) wv) bv = strip wg pg bg wv pv bv := rfl

/-- Strip 6 is the same arithmetic. -/
theorem strip6 (wg : Vec Ideal S3x256 .f32) (pg : Vec Ideal S1x528x256 .f32) (bg : Vec Ideal S1x256 .f32)
    (wv : Vec Ideal S3x256 .f32) (pv : Vec Ideal S1x528x256 .f32) (bv : Vec Ideal S1x256 .f32) :
    k0_pay40 (F := Ideal) (k0_pay39 (F := Ideal) wg pg bg) wv pv bv = strip wg pg bg wv pv bv := rfl

/-- Strip 7 is the same arithmetic. -/
theorem strip7 (wg : Vec Ideal S3x256 .f32) (pg : Vec Ideal S1x528x256 .f32) (bg : Vec Ideal S1x256 .f32)
    (wv : Vec Ideal S3x256 .f32) (pv : Vec Ideal S1x528x256 .f32) (bv : Vec Ideal S1x256 .f32) :
    k0_pay45 (F := Ideal) (k0_pay44 (F := Ideal) wg (k0_pay42 (F := Ideal) pg) (k0_pay43 (F := Ideal) wg pg) bg wv pv bv) = strip wg pg bg wv pv bv := rfl

/-- Strip 8 is the same arithmetic. -/
theorem strip8 (wg : Vec Ideal S3x256 .f32) (pg : Vec Ideal S1x528x256 .f32) (bg : Vec Ideal S1x256 .f32)
    (wv : Vec Ideal S3x256 .f32) (pv : Vec Ideal S1x528x256 .f32) (bv : Vec Ideal S1x256 .f32) :
    k0_pay51 (F := Ideal) (k0_pay46 (F := Ideal) wg pg bg) wv (k0_pay47 (F := Ideal) pv) (k0_pay48 (F := Ideal) pv) (k0_pay49 (F := Ideal) pv) (k0_pay50 (F := Ideal) wv) bv = strip wg pg bg wv pv bv := rfl

/-- Strip 9 is the same arithmetic. -/
theorem strip9 (wg : Vec Ideal S3x256 .f32) (pg : Vec Ideal S1x528x256 .f32) (bg : Vec Ideal S1x256 .f32)
    (wv : Vec Ideal S3x256 .f32) (pv : Vec Ideal S1x528x256 .f32) (bv : Vec Ideal S1x256 .f32) :
    k0_pay54 (F := Ideal) (k0_pay52 (F := Ideal) wg pg bg) (k0_pay53 (F := Ideal) wg pg bg) wv pv bv = strip wg pg bg wv pv bv := rfl

/-- Strip 10 is the same arithmetic. -/
theorem strip10 (wg : Vec Ideal S3x256 .f32) (pg : Vec Ideal S1x528x256 .f32) (bg : Vec Ideal S1x256 .f32)
    (wv : Vec Ideal S3x256 .f32) (pv : Vec Ideal S1x528x256 .f32) (bv : Vec Ideal S1x256 .f32) :
    k0_pay60 (F := Ideal) (k0_pay58 (F := Ideal) wg (k0_pay55 (F := Ideal) pg) (k0_pay56 (F := Ideal) pg) (k0_pay57 (F := Ideal) pg) bg) (k0_pay59 (F := Ideal) wv pv) bv = strip wg pg bg wv pv bv := rfl

end Cert.Kernel2Ideal.Ffn

end
-- ==== Proof.RefFfn.lean ====
/- The reference of the mixing and ConvFFN part at one element, over the reals, stage by stage. -/
module

public import proofs.«01_k».proof.Proof.Gen.Reference2Ideal.Read
public import proofs.«01_k».proof.Proof.Ffn

@[expose] public section

noncomputable section

namespace Cert.Reference2Ideal.Ffn

open Cert.Reference2Ideal Cert.Reference2Ideal.Gen Cert.Reference2Ideal.Read Cert.Kernel2Ideal.Ffn Idealize.ShloMosaic

variable (x0 : FVec Ideal S2x4096x1024 .f32) (x1 : FVec Ideal S2x4096x512 .f32) (x2 x3 : FVec Ideal S2x4096x256 .f32)
  (x4 : FVec Ideal S2x6144 .f32) (x5 : FVec Ideal S1024x1024 .f32) (x6 : FVec Ideal S1024 .f32) (x7 : FVec Ideal S1024x5632 .f32)
  (x8 : FVec Ideal S3x5632 .f32) (x9 : FVec Ideal S5632 .f32) (x10 : FVec Ideal S2816x1024 .f32) (x11 : FVec Ideal S1024 .f32)

/-- The stream after the mixing product. -/
theorem x1_at (b : Fin 2) (s : Fin 4096) (d : Fin 1024) :
    val_main_v11 (F := Ideal) x0 x1 x2 x3 x4 x5 (ix3 b s d) = x0 (ix3 b s d)
      + x4 (ix2 b ⟨2048 + d, by omega⟩) * ∑ k : Fin 1024, val_main_v7 (F := Ideal) x1 x2 x3 (ix3 b s k) * x5 (ix2 k d) := by
  generalize h : val_main_v7 (F := Ideal) x1 x2 x3 = Y
  simp only [val_main_v11, val_main_v10, val_main_v9, val_main_v8, h]
  pointwise [val_main_v3, val_main_v0]

/-- The normed and modulated stream. -/
theorem h2_at (b : Fin 2) (s : Fin 4096) (d : Fin 1024) :
    val_main_v30 (F := Ideal) x0 x1 x2 x3 x4 x5 x6 (ix3 b s d) = val_main_v11 (F := Ideal) x0 x1 x2 x3 x4 x5 (ix3 b s d)
      * rms (fun k => val_main_v11 (F := Ideal) x0 x1 x2 x3 x4 x5 (ix3 b s k)) * x6 (ix1 d)
      * (1 + x4 (ix2 b ⟨4096 + d, by omega⟩)) + x4 (ix2 b ⟨3072 + d, by omega⟩) := by
  unfold rms
  simp only [val_main_v30, val_main_v29, val_main_v28, val_main_v27, val_main_v26, val_main_v25, val_main_v24, val_main_v23, val_main_v22, val_main_v21,
    val_main_v20, val_main_v19, val_main_v18, val_main_v17, val_main_v16, val_main_v15, val_main_v14, val_main_v13, val_main_v12]
  generalize h : val_main_v11 (F := Ideal) x0 x1 x2 x3 x4 x5 = Y
  pointwise [val_main_v4, val_main_v5, val_main_v0, val_main_cst, val_main_cst_0, val_main_cst_1, val_main_cst_2]

/-- The up products with a row of zeros before and after each sequence. -/
theorem pad_at (b : Fin 2) (s : Fin 4098) (j : Fin 5632) :
    val_main_v32 (F := Ideal) x0 x1 x2 x3 x4 x5 x6 x7 (ix3 b s j) = if h : 1 ≤ s.val ∧ s.val < 4097 then
      ∑ k : Fin 1024, val_main_v30 (F := Ideal) x0 x1 x2 x3 x4 x5 x6 (ix3 b ⟨s.val - 1, by omega⟩ k) * x7 (ix2 k j) else 0 := by
  simp only [val_main_v32, val_main_v31]
  generalize h : val_main_v30 (F := Ideal) x0 x1 x2 x3 x4 x5 x6 = Y
  pointwise [val_main_cst_3]
  by_cases a : 1 ≤ s.val ∧ s.val < 4097
  · rw [dif_pos a, dif_pos ⟨a.1, by omega⟩]
  · rw [dif_neg a, dif_neg (by omega)]

/-- The convolved products, before the split. -/
theorem conv_at (b : Fin 2) (s : Fin 4096) (j : Fin 5632) :
    val_main_v55 (F := Ideal) x0 x1 x2 x3 x4 x5 x6 x7 x8 x9 (ix3 b s j)
      = conv (val_main_v32 (F := Ideal) x0 x1 x2 x3 x4 x5 x6 x7 (ix3 b ⟨s.val, by omega⟩ j))
          (val_main_v32 (F := Ideal) x0 x1 x2 x3 x4 x5 x6 x7 (ix3 b ⟨s.val + 1, by omega⟩ j))
          (val_main_v32 (F := Ideal) x0 x1 x2 x3 x4 x5 x6 x7 (ix3 b ⟨s.val + 2, by omega⟩ j))
          (x8 (ix2 0 j)) (x8 (ix2 1 j)) (x8 (ix2 2 j)) (x9 (ix1 j)) := by
  unfold conv
  simp only [val_main_v55, val_main_v54, val_main_v53, val_main_v52, val_main_v51, val_main_v50, val_main_v49, val_main_v48, val_main_v47, val_main_v46,
    val_main_v45, val_main_v44, val_main_v43, val_main_v42, val_main_v41, val_main_v40, val_main_v39, val_main_v38, val_main_v37, val_main_v36, val_main_v35,
    val_main_v34, val_main_v33]
  generalize h : val_main_v32 (F := Ideal) x0 x1 x2 x3 x4 x5 x6 x7 = Y
  pointwise
  simp only [Nat.add_comm 1 s.val, Nat.add_comm 2 s.val]

/-- The gated product. -/
theorem act_at (b : Fin 2) (s : Fin 4096) (j : Fin 2816) :
    val_main_v65 (F := Ideal) x0 x1 x2 x3 x4 x5 x6 x7 x8 x9 (ix3 b s j)
      = glu (val_main_v55 (F := Ideal) x0 x1 x2 x3 x4 x5 x6 x7 x8 x9 (ix3 b s ⟨2816 + j, by omega⟩))
          (val_main_v55 (F := Ideal) x0 x1 x2 x3 x4 x5 x6 x7 x8 x9 (ix3 b s ⟨j, by omega⟩)) := by
  unfold glu
  simp only [val_main_v65, val_main_v64, val_main_v63, val_main_v62, val_main_v61, val_main_v60, val_main_v59, val_main_v58, val_main_v57, val_main_v56]
  generalize h : val_main_v55 (F := Ideal) x0 x1 x2 x3 x4 x5 x6 x7 x8 x9 = Y
  pointwise [val_main_cst_4, val_main_cst_5]

/-- The stream after the down product. -/
theorem x2_at (b : Fin 2) (s : Fin 4096) (d : Fin 1024) :
    val_main_v69 (F := Ideal) x0 x1 x2 x3 x4 x5 x6 x7 x8 x9 x10 (ix3 b s d)
      = val_main_v11 (F := Ideal) x0 x1 x2 x3 x4 x5 (ix3 b s d)
        + x4 (ix2 b ⟨5120 + d, by omega⟩) * ∑ k : Fin 2816, val_main_v65 (F := Ideal) x0 x1 x2 x3 x4 x5 x6 x7 x8 x9 (ix3 b s k) * x10 (ix2 k d) := by
  simp only [val_main_v69, val_main_v68, val_main_v67, val_main_v66]
  generalize h : val_main_v65 (F := Ideal) x0 x1 x2 x3 x4 x5 x6 x7 x8 x9 = Y
  generalize h : val_main_v11 (F := Ideal) x0 x1 x2 x3 x4 x5 = Z
  pointwise [val_main_v6, val_main_v0]

/-- The result: the final norm of the stream. -/
theorem out_at (n : Fin 8192) (d : Fin 1024) :
    val_main_v83 (F := Ideal) x0 x1 x2 x3 x4 x5 x6 x7 x8 x9 x10 x11 (ix2 n d)
      = val_main_v69 (F := Ideal) x0 x1 x2 x3 x4 x5 x6 x7 x8 x9 x10 (ix3 ⟨n / 4096, by omega⟩ ⟨n % 4096, by omega⟩ d)
        * rms (fun k => val_main_v69 (F := Ideal) x0 x1 x2 x3 x4 x5 x6 x7 x8 x9 x10 (ix3 ⟨n / 4096, by omega⟩ ⟨n % 4096, by omega⟩ k))
        * x11 (ix1 d) := by
  unfold rms
  simp only [val_main_v83, val_main_v82, val_main_v81, val_main_v80, val_main_v79, val_main_v78, val_main_v77, val_main_v76, val_main_v75, val_main_v74,
    val_main_v73, val_main_v72, val_main_v71, val_main_v70]
  generalize h : val_main_v69 (F := Ideal) x0 x1 x2 x3 x4 x5 x6 x7 x8 x9 x10 = Y
  pointwise [val_main_cst_6, val_main_cst_7, val_main_cst_8]

end Cert.Reference2Ideal.Ffn

end
-- ==== Proof.FfnEntry.lean ====
/- What the mixing call's windows stage: the arguments, as the host code lays them out. -/
module

public import proofs.«01_k».proof.Proof.RefFfn

@[expose] public section

set_option maxRecDepth 16384

noncomputable section

namespace Cert.Kernel2Ideal.Ffn

open Cert.Kernel2Ideal Cert.Kernel2Ideal.Gen Idealize.ShloMosaic Idealize.ShloMosaic.TcCoe Idealize.SL.Sem

variable (m : (ℓ : Loc nD τ sig) → Buf (Elt Ideal) ℓ)

/-- The block indices of the windows at grid point `t`, the tile of 512 tokens. -/
theorem idx : ∀ t : Fin cfg0.N, win0_0.index t = ![t.val, 0]
    ∧ win0_1.index t = ![t.val * 64 - 1, 0] ∧ win0_2.index t = ![min ((t.val + 1) * 64) 1023, 0]
    ∧ win0_3.index t = ![t.val, 0] ∧ win0_4.index t = ![t.val * 32 - 1, 0] ∧ win0_5.index t = ![min ((t.val + 1) * 32) 511, 0]
    ∧ win0_6.index t = ![t.val, 0] ∧ win0_7.index t = ![t.val * 32 - 1, 0] ∧ win0_8.index t = ![min ((t.val + 1) * 32) 511, 0]
    ∧ win0_9.index t = ![t.val, 0] ∧ win0_10.index t = ![t.val * 32 - 1, 0] ∧ win0_11.index t = ![min ((t.val + 1) * 32) 511, 0]
    ∧ win0_12.index t = ![1 + t.val / 8, 0, 0]
    ∧ win0_20.index t = ![t.val, 0] :=
  (by decide +kernel : ∀ t : Fin grid0.N, _)

/-- The blocks that stay the same at every grid point. -/
theorem idx0 : ∀ t : Fin cfg0.N, win0_13.index t = ![0, 0] ∧ win0_14.index t = ![0, 0] ∧ win0_15.index t = ![0, 0]
    ∧ win0_16.index t = ![0, 0] ∧ win0_17.index t = ![0, 0] ∧ win0_18.index t = ![0, 0] ∧ win0_19.index t = ![0, 0] :=
  (by decide +kernel : ∀ t : Fin grid0.N, _)

theorem tN (t : Fin cfg0.N) : t.val < 16 := t.isLt

/-- The twelve arguments. -/
abbrev a0 (c : Dev nD) : FVec Ideal S2x4096x1024 .f32 := m ((c : Thread nD τ).loc main_arg0)
abbrev a1 (c : Dev nD) : FVec Ideal S2x4096x512 .f32 := m ((c : Thread nD τ).loc main_arg1)
abbrev a2 (c : Dev nD) : FVec Ideal S2x4096x256 .f32 := m ((c : Thread nD τ).loc main_arg2)
abbrev a3 (c : Dev nD) : FVec Ideal S2x4096x256 .f32 := m ((c : Thread nD τ).loc main_arg3)
abbrev a4 (c : Dev nD) : FVec Ideal S2x6144 .f32 := m ((c : Thread nD τ).loc main_arg4)
abbrev a5 (c : Dev nD) : FVec Ideal S1024x1024 .f32 := m ((c : Thread nD τ).loc main_arg5)
abbrev a6 (c : Dev nD) : FVec Ideal S1024 .f32 := m ((c : Thread nD τ).loc main_arg6)
abbrev a7 (c : Dev nD) : FVec Ideal S1024x5632 .f32 := m ((c : Thread nD τ).loc main_arg7)
abbrev a8 (c : Dev nD) : FVec Ideal S3x5632 .f32 := m ((c : Thread nD τ).loc main_arg8)
abbrev a9 (c : Dev nD) : FVec Ideal S5632 .f32 := m ((c : Thread nD τ).loc main_arg9)
abbrev a10 (c : Dev nD) : FVec Ideal S2816x1024 .f32 := m ((c : Thread nD τ).loc main_arg10)
abbrev a11 (c : Dev nD) : FVec Ideal S1024 .f32 := m ((c : Thread nD τ).loc main_arg11)

/-- The sequence of a tile. -/
abbrev sq (t : Fin cfg0.N) : Fin 2 := ⟨t.val / 8, by have := tN t; omega⟩

theorem b0_at (c : Dev nD) (t : Fin cfg0.N) (r : Fin 512) (d : Fin 1024) :
    (show EReal from iblk m c 0 t (ix2 r d)) = a0 m c (ix3 (sq t) ⟨t.val % 8 * 512 + r, by omega⟩ d) := by
  blk_simp [iblk]
  entry_read
  pointwise
  blk_ext [idx t]

theorem b1_at (c : Dev nD) (t : Fin cfg0.N) (r : Fin 8) (d : Fin 1024) (h : t.val % 8 ≠ 0) :
    (show EReal from iblk m c 1 t (ix2 r d)) = a0 m c (ix3 (sq t) ⟨t.val % 8 * 512 - 8 + r, by omega⟩ d) := by
  have := tN t
  blk_simp [iblk]
  entry_read
  pointwise
  blk_ext [idx t]

theorem b2_at (c : Dev nD) (t : Fin cfg0.N) (r : Fin 8) (d : Fin 1024) (h : t.val % 8 ≠ 7) :
    (show EReal from iblk m c 2 t (ix2 r d)) = a0 m c (ix3 (sq t) ⟨t.val % 8 * 512 + 512 + r, by omega⟩ d) := by
  have := tN t
  blk_simp [iblk]
  entry_read
  pointwise
  blk_ext [idx t]

theorem b3_at (c : Dev nD) (t : Fin cfg0.N) (r : Fin 512) (d : Fin 512) :
    (show EReal from iblk m c 3 t (ix2 r d)) = a1 m c (ix3 (sq t) ⟨t.val % 8 * 512 + r, by omega⟩ d) := by
  blk_simp [iblk]
  entry_read
  pointwise
  blk_ext [idx t]

theorem b4_at (c : Dev nD) (t : Fin cfg0.N) (r : Fin 8) (d : Fin 512) (h : t.val % 8 ≠ 0) :
    (show EReal from iblk m c 4 t (ix2 (⟨8 + r, by omega⟩ : Fin 16) d)) = a1 m c (ix3 (sq t) ⟨t.val % 8 * 512 - 8 + r, by omega⟩ d) := by
  have := tN t
  blk_simp [iblk]
  entry_read
  pointwise
  blk_ext [idx t]

theorem b5_at (c : Dev nD) (t : Fin cfg0.N) (r : Fin 8) (d : Fin 512) (h : t.val % 8 ≠ 7) :
    (show EReal from iblk m c 5 t (ix2 (⟨r, by omega⟩ : Fin 16) d)) = a1 m c (ix3 (sq t) ⟨t.val % 8 * 512 + 512 + r, by omega⟩ d) := by
  have := tN t
  blk_simp [iblk]
  entry_read
  pointwise
  blk_ext [idx t]

theorem b6_at (c : Dev nD) (t : Fin cfg0.N) (r : Fin 512) (d : Fin 256) :
    (show EReal from iblk m c 6 t (ix2 r d)) = a2 m c (ix3 (sq t) ⟨t.val % 8 * 512 + r, by omega⟩ d) := by
  blk_simp [iblk]
  entry_read
  pointwise
  blk_ext [idx t]

theorem b7_at (c : Dev nD) (t : Fin cfg0.N) (r : Fin 8) (d : Fin 256) (h : t.val % 8 ≠ 0) :
    (show EReal from iblk m c 7 t (ix2 (⟨8 + r, by omega⟩ : Fin 16) d)) = a2 m c (ix3 (sq t) ⟨t.val % 8 * 512 - 8 + r, by omega⟩ d) := by
  have := tN t
  blk_simp [iblk]
  entry_read
  pointwise
  blk_ext [idx t]

theorem b8_at (c : Dev nD) (t : Fin cfg0.N) (r : Fin 8) (d : Fin 256) (h : t.val % 8 ≠ 7) :
    (show EReal from iblk m c 8 t (ix2 (⟨r, by omega⟩ : Fin 16) d)) = a2 m c (ix3 (sq t) ⟨t.val % 8 * 512 + 512 + r, by omega⟩ d) := by
  have := tN t
  blk_simp [iblk]
  entry_read
  pointwise
  blk_ext [idx t]

theorem b9_at (c : Dev nD) (t : Fin cfg0.N) (r : Fin 512) (d : Fin 256) :
    (show EReal from iblk m c 9 t (ix2 r d)) = a3 m c (ix3 (sq t) ⟨t.val % 8 * 512 + r, by omega⟩ d) := by
  blk_simp [iblk]
  entry_read
  pointwise
  blk_ext [idx t]

theorem b10_at (c : Dev nD) (t : Fin cfg0.N) (r : Fin 8) (d : Fin 256) (h : t.val % 8 ≠ 0) :
    (show EReal from iblk m c 10 t (ix2 (⟨8 + r, by omega⟩ : Fin 16) d)) = a3 m c (ix3 (sq t) ⟨t.val % 8 * 512 - 8 + r, by omega⟩ d) := by
  have := tN t
  blk_simp [iblk]
  entry_read
  pointwise
  blk_ext [idx t]

theorem b11_at (c : Dev nD) (t : Fin cfg0.N) (r : Fin 8) (d : Fin 256) (h : t.val % 8 ≠ 7) :
    (show EReal from iblk m c 11 t (ix2 (⟨r, by omega⟩ : Fin 16) d)) = a3 m c (ix3 (sq t) ⟨t.val % 8 * 512 + 512 + r, by omega⟩ d) := by
  have := tN t
  blk_simp [iblk]
  entry_read
  pointwise
  blk_ext [idx t]

/-- The modulation rows as staged: one row of zeros, the two sequences, five rows of zeros. -/
theorem V3 (c : Dev nD) : V m c main_v3 =
    concatenate S8x6x1024 0 [⟨S1x6x1024, broadcastInDim S1x6x1024 ![] bcast_S_S1x6x1024 (constant (F := Ideal) S_ .f32 0x00000000#32)⟩,
      ⟨S2x6x1024, shapeCast S2x6x1024 (a4 m c) shapeCasts_S2x6144_S2x6x1024⟩,
      ⟨S5x6x1024, broadcastInDim S5x6x1024 ![] bcast_S_S5x6x1024 (constant (F := Ideal) S_ .f32 0x00000000#32)⟩]
      concatenates_S1x6x1024_S2x6x1024_S5x6x1024_S8x6x1024_d0 := by
  rfl

theorem b12_at (c : Dev nD) (t : Fin cfg0.N) (r : Fin 6) (d : Fin 1024) :
    (show EReal from iblk m c 12 t (ix3 0 r d)) = a4 m c (ix2 (sq t) ⟨r * 1024 + d, by omega⟩) := by
  have := tN t
  have e : (win0_12.blk t).view.emb (ix3 0 r d) = ix3 (⟨1 + t.val / 8, by omega⟩ : Fin 8) r d := by
    blk_ext [idx t]
  blk_simp [iblk]
  rw [V3]
  rw [e]
  pointwise
  exact dif_pos (by omega)

theorem b13_at (c : Dev nD) (t : Fin cfg0.N) (r : Fin 1024) (d : Fin 1024) :
    (show EReal from iblk m c 13 t (ix2 r d)) = a5 m c (ix2 r d) := by
  blk_simp [iblk]
  entry_read
  pointwise
  blk_ext [idx0 t]

theorem b14_at (c : Dev nD) (t : Fin cfg0.N) (d : Fin 1024) :
    (show EReal from iblk m c 14 t (ix2 0 d)) = a6 m c (ix1 d) := by
  blk_simp [iblk]
  entry_read
  pointwise
  blk_ext [idx0 t]

theorem b15_at (c : Dev nD) (t : Fin cfg0.N) (r : Fin 1024) (d : Fin 5632) :
    (show EReal from iblk m c 15 t (ix2 r d)) = a7 m c (ix2 r d) := by
  blk_simp [iblk]
  entry_read
  pointwise
  blk_ext [idx0 t]

theorem b16_at (c : Dev nD) (t : Fin cfg0.N) (r : Fin 3) (d : Fin 5632) :
    (show EReal from iblk m c 16 t (ix2 r d)) = a8 m c (ix2 r d) := by
  blk_simp [iblk]
  entry_read
  pointwise
  blk_ext [idx0 t]

theorem b17_at (c : Dev nD) (t : Fin cfg0.N) (d : Fin 5632) :
    (show EReal from iblk m c 17 t (ix2 0 d)) = a9 m c (ix1 d) := by
  blk_simp [iblk]
  entry_read
  pointwise
  blk_ext [idx0 t]

theorem b18_at (c : Dev nD) (t : Fin cfg0.N) (r : Fin 2816) (d : Fin 1024) :
    (show EReal from iblk m c 18 t (ix2 r d)) = a10 m c (ix2 r d) := by
  blk_simp [iblk]
  entry_read
  pointwise
  blk_ext [idx0 t]

theorem b19_at (c : Dev nD) (t : Fin cfg0.N) (d : Fin 1024) :
    (show EReal from iblk m c 19 t (ix2 0 d)) = a11 m c (ix1 d) := by
  blk_simp [iblk]
  entry_read
  pointwise
  blk_ext [idx0 t]

end Cert.Kernel2Ideal.Ffn

end
-- ==== Proof.FfnRows.lean ====
/- The mixing call's rows as the reference's: the stream after the mixing product, its norm, the padded up product and the gated strips,
   each row of a tile with the row of the sequence that it stands for. -/
module

public import proofs.«01_k».proof.Proof.FfnEntry

@[expose] public section

set_option maxRecDepth 16384

noncomputable section

namespace Cert.Kernel2Ideal.Ffn

open Cert.Kernel2Ideal Cert.Kernel2Ideal.Gen Idealize.ShloMosaic Idealize.ShloMosaic.TcCoe Idealize.SL.Sem
open Cert.Reference2Ideal.Read (val_main_v7 val_main_v11 val_main_v30 val_main_v32 val_main_v55 val_main_v65 val_main_v69 val_main_v83)

/-- The stream with its halo: eight rows before, the tile's 512, eight rows after. -/
theorem pay3_at (X : Vec Ideal S512x1024 .f32) (P N : Vec Ideal S8x1024 .f32) (r : Fin 528) (d : Fin 1024) :
    k0_pay3 X P N (ix2 r d) = if h : r.val < 8 then P (ix2 ⟨r, h⟩ d) else
      if h2 : r.val - 8 < 512 then X (ix2 ⟨r.val - 8, h2⟩ d) else N (ix2 ⟨r.val - 8 - 512, by omega⟩ d) := by
  pointwise [k0_pay3]

/-- The three mixers' outputs side by side, with their halo rows. -/
theorem pay2_at (A : Vec Ideal S512x512 .bf16) (B C : Vec Ideal S512x256 .bf16) (A' : Vec Ideal S8x512 .bf16) (B' C' : Vec Ideal S8x256 .bf16)
    (A'' : Vec Ideal S8x512 .bf16) (B'' C'' : Vec Ideal S8x256 .bf16) (r : Fin 528) (k : Fin 1024) :
    k0_pay2 A B C A' B' C' A'' B'' C'' (ix2 r k) = if h : r.val < 8 then
        (if a : k.val < 512 then A' (ix2 ⟨r, h⟩ ⟨k, a⟩) else if b : k.val - 512 < 256 then B' (ix2 ⟨r, h⟩ ⟨k.val - 512, b⟩)
          else C' (ix2 ⟨r, h⟩ ⟨k.val - 512 - 256, by omega⟩))
      else if h2 : r.val - 8 < 512 then
        (if a : k.val < 512 then A (ix2 ⟨r.val - 8, h2⟩ ⟨k, a⟩) else if b : k.val - 512 < 256 then B (ix2 ⟨r.val - 8, h2⟩ ⟨k.val - 512, b⟩)
          else C (ix2 ⟨r.val - 8, h2⟩ ⟨k.val - 512 - 256, by omega⟩))
      else
        (if a : k.val < 512 then A'' (ix2 ⟨r.val - 8 - 512, by omega⟩ ⟨k, a⟩) else if b : k.val - 512 < 256 then B'' (ix2 ⟨r.val - 8 - 512, by omega⟩ ⟨k.val - 512, b⟩)
          else C'' (ix2 ⟨r.val - 8 - 512, by omega⟩ ⟨k.val - 512 - 256, by omega⟩)) := by
  pointwise [k0_pay2]

/-- The reference's mixers' outputs side by side. -/
theorem v7_at (x1 : FVec Ideal S2x4096x512 .f32) (x2 x3 : FVec Ideal S2x4096x256 .f32) (b : Fin 2) (s : Fin 4096) (k : Fin 1024) :
    val_main_v7 (F := Ideal) x1 x2 x3 (ix3 b s k) = if a : k.val < 512 then x1 (ix3 b s ⟨k, a⟩) else
      if a2 : k.val - 512 < 256 then x2 (ix3 b s ⟨k.val - 512, a2⟩) else x3 (ix3 b s ⟨k.val - 512 - 256, by omega⟩) := by
  pointwise [val_main_v7]

/-- One element of the modulation row as a one-row array. -/
theorem pay4_at (V : Vec Ideal S1x1x1024 .f32) (d : Fin 1024) : k0_pay4 V (ix2 0 d) = V (ix3 0 0 d) := by
  pointwise [k0_pay4]

variable (m : (ℓ : Loc nD τ sig) → Buf (Elt Ideal) ℓ)

/-- What a tile's operands are, as the reference's arrays: row `r` of the tile stands for row `s` of the sequence. -/
structure Tile (c : Dev nD) (t : Fin cfg0.N) (A : FVec Ideal S528x1024 .bf16) (X : FVec Ideal S528x1024 .f32) (M : FVec Ideal S1x1024 .f32)
    (W : Vec Ideal S1024x1024 .bf16) (n : Vec Ideal S1x1024 .f32) (sc sh : Vec Ideal S1x1x1024 .f32) : Prop where
  mix : ∀ (r : Fin 528) (s : Fin 4096) (k : Fin 1024), s.val + 8 = t.val % 8 * 512 + r →
    A (ix2 r k) = val_main_v7 (F := Ideal) (a1 m c) (a2 m c) (a3 m c) (ix3 (sq t) s k)
  inp : ∀ (r : Fin 528) (s : Fin 4096) (d : Fin 1024), s.val + 8 = t.val % 8 * 512 + r → X (ix2 r d) = a0 m c (ix3 (sq t) s d)
  gain : ∀ d : Fin 1024, M (ix2 0 d) = a4 m c (ix2 (sq t) ⟨2048 + d, by omega⟩)
  wo : ∀ r d : Fin 1024, W (ix2 r d) = a5 m c (ix2 r d)
  nw : ∀ d : Fin 1024, n (ix2 0 d) = a6 m c (ix1 d)
  scale : ∀ d : Fin 1024, sc (ix3 0 0 d) = a4 m c (ix2 (sq t) ⟨4096 + d, by omega⟩)
  shift : ∀ d : Fin 1024, sh (ix3 0 0 d) = a4 m c (ix2 (sq t) ⟨3072 + d, by omega⟩)

variable {m} {c : Dev nD} {t : Fin cfg0.N} {A : FVec Ideal S528x1024 .bf16} {X : FVec Ideal S528x1024 .f32} {M : FVec Ideal S1x1024 .f32}
    {W : Vec Ideal S1024x1024 .bf16} {n : Vec Ideal S1x1024 .f32} {sc sh : Vec Ideal S1x1x1024 .f32}

/-- The stream after the mixing product. -/
theorem x1_row (T : Tile m c t A X M W n sc sh) (r : Fin 528) (s : Fin 4096) (d : Fin 1024) (h : s.val + 8 = t.val % 8 * 512 + r) :
    k0_pay5 A X M W (ix2 r d) = val_main_v11 (F := Ideal) (a0 m c) (a1 m c) (a2 m c) (a3 m c) (a4 m c) (a5 m c) (ix3 (sq t) s d) := by
  rw [x1_at, Cert.Reference2Ideal.Ffn.x1_at, T.inp r s d h, T.gain]
  refine congrArg (fun z => _ + _ * z) (Finset.sum_congr rfl fun k _ => ?_)
  rw [T.mix r s k h, T.wo]

/-- The normed and modulated stream. -/
theorem hx_row (T : Tile m c t A X M W n sc sh) (r : Fin 528) (s : Fin 4096) (d : Fin 1024) (h : s.val + 8 = t.val % 8 * 512 + r) :
    k0_pay6 A X M W n sc sh (ix2 r d)
      = val_main_v30 (F := Ideal) (a0 m c) (a1 m c) (a2 m c) (a3 m c) (a4 m c) (a5 m c) (a6 m c) (ix3 (sq t) s d) := by
  rw [hx_at, Cert.Reference2Ideal.Ffn.h2_at, T.nw, T.scale, T.shift, x1_row T r s d h]
  rw [show (fun k => k0_pay5 A X M W (ix2 r k)) = fun k => val_main_v11 (F := Ideal) (a0 m c) (a1 m c) (a2 m c) (a3 m c) (a4 m c) (a5 m c) (ix3 (sq t) s k)
    from funext fun k => x1_row T r s k h]

/-- The up product's row, zero outside of the sequence: a row of the padded product. -/
theorem up_row (T : Tile m c t A X M W n sc sh) (a q : BitVec 32)
    (h0 : Scalar.cmpi .eq q 0#32 = if t.val % 8 = 0 then 1#1 else 0#1)
    (h1 : (Scalar.cmpi .eq (Scalar.select (Scalar.andi (Scalar.xori (Scalar.cmpi .slt (Scalar.remsi a 8#32) 0#32)
      (Scalar.cmpi .slt 8#32 0#32)) (Scalar.cmpi .ne (Scalar.remsi a 8#32) 0#32)) (Scalar.addi (Scalar.remsi a 8#32) 8#32)
      (Scalar.remsi a 8#32)) 7#32) = if t.val % 8 = 7 then 1#1 else 0#1)
    (w : Vec Ideal S1024x2816 .bf16) (r : Fin 528) (p : Fin 4098) (j : Fin 2816) (J : Fin 5632) (hr : p.val + 7 = t.val % 8 * 512 + r)
    (hw : ∀ k : Fin 1024, w (ix2 k j) = a7 m c (ix2 k J)) :
    ∑ k : Fin 1024, k0_pay8 a (k0_pay6 A X M W n sc sh) q (ix2 r k) * w (ix2 k j)
      = val_main_v32 (F := Ideal) (a0 m c) (a1 m c) (a2 m c) (a3 m c) (a4 m c) (a5 m c) (a6 m c) (a7 m c) (ix3 (sq t) p J) := by
  rw [Cert.Reference2Ideal.Ffn.pad_at]
  by_cases e : 1 ≤ p.val ∧ p.val < 4097
  · rw [dif_pos e]
    refine Finset.sum_congr rfl fun k _ => ?_
    rw [hb_at a q _ r k (t.val % 8 = 0) (t.val % 8 = 7) h0 h1, if_neg (by omega), hw,
      hx_row T r ⟨p.val - 1, by omega⟩ k (by simp only; omega)]
  · rw [dif_neg e]
    refine Finset.sum_eq_zero fun k _ => ?_
    rw [hb_at a q _ r k (t.val % 8 = 0) (t.val % 8 = 7) h0 h1, if_pos (by omega), zero_mul]

/-- A strip of the gated product: the reference's entries of those columns. -/
theorem strip_val (wg : Vec Ideal S3x256 .f32) (pg : Vec Ideal S1x528x256 .f32) (bg : Vec Ideal S1x256 .f32)
    (wv : Vec Ideal S3x256 .f32) (pv : Vec Ideal S1x528x256 .f32) (bv : Vec Ideal S1x256 .f32) (y : Fin 512) (j : Fin 256)
    (s : Fin 4096) (J : Fin 2816) (hs : s.val = t.val % 8 * 512 + y)
    (hwg : ∀ i, wg (ix2 i j) = a8 m c (ix2 i ⟨2816 + J, by omega⟩)) (hbg : bg (ix2 0 j) = a9 m c (ix1 ⟨2816 + J, by omega⟩))
    (hwv : ∀ i, wv (ix2 i j) = a8 m c (ix2 i ⟨J, by omega⟩)) (hbv : bv (ix2 0 j) = a9 m c (ix1 ⟨J, by omega⟩))
    (hpg : ∀ (r : Fin 528) (p : Fin 4098), p.val + 7 = t.val % 8 * 512 + r → pg (ix3 0 r j)
      = val_main_v32 (F := Ideal) (a0 m c) (a1 m c) (a2 m c) (a3 m c) (a4 m c) (a5 m c) (a6 m c) (a7 m c) (ix3 (sq t) p ⟨2816 + J, by omega⟩))
    (hpv : ∀ (r : Fin 528) (p : Fin 4098), p.val + 7 = t.val % 8 * 512 + r → pv (ix3 0 r j)
      = val_main_v32 (F := Ideal) (a0 m c) (a1 m c) (a2 m c) (a3 m c) (a4 m c) (a5 m c) (a6 m c) (a7 m c) (ix3 (sq t) p ⟨J, by omega⟩)) :
    strip wg pg bg wv pv bv (ix2 y j)
      = val_main_v65 (F := Ideal) (a0 m c) (a1 m c) (a2 m c) (a3 m c) (a4 m c) (a5 m c) (a6 m c) (a7 m c) (a8 m c) (a9 m c) (ix3 (sq t) s J) := by
  rw [strip_at, Cert.Reference2Ideal.Ffn.act_at, Cert.Reference2Ideal.Ffn.conv_at, Cert.Reference2Ideal.Ffn.conv_at, hwg, hwg, hwg, hbg, hwv, hwv, hwv, hbv,
    hpg ⟨y + 7, by omega⟩ ⟨s.val, by omega⟩ (by simp only; omega), hpg ⟨y + 8, by omega⟩ ⟨s.val + 1, by omega⟩ (by simp only; omega),
    hpg ⟨y + 9, by omega⟩ ⟨s.val + 2, by omega⟩ (by simp only; omega),
    hpv ⟨y + 7, by omega⟩ ⟨s.val, by omega⟩ (by simp only; omega), hpv ⟨y + 8, by omega⟩ ⟨s.val + 1, by omega⟩ (by simp only; omega),
    hpv ⟨y + 9, by omega⟩ ⟨s.val + 2, by omega⟩ (by simp only; omega)]

/-- The two halves of the up product in the scratch array: a load from the second half. -/
theorem pg_read (v : View sig .tc .vmem S2x528x2816 .f32) (G V : FVec Ideal S1x528x2816 .f32) (i1 i0) (o : ℕ) (inb) (r : Fin 528) (j : Fin 256)
    (J : Fin 2816) (hJ : J.val = o + j) :
    v.readCov [(⟨Rect.unit ![1, 0, 0] ![1, 528, 2816] i1, G⟩ : View.Piece (Elt Ideal) S2x528x2816 .f32), ⟨Rect.unit ![0, 0, 0] ![1, 528, 2816] i0, V⟩]
      (Rect.unit (s := S2x528x2816) ![1, 0, o] ![1, 528, 256] inb).toLoadRect (ix3 0 r j) = G (ix3 0 r J) := by
  rw [View.readCov_eq_canon']
  have e : (Rect.unit (s := S2x528x2816) ![1, 0, o] ![1, 528, 256] inb).toLoadRect.idx (ix3 0 r j)
      = (Rect.unit (s := S2x528x2816) ![1, 0, 0] ![1, 528, 2816] i1).emb (ix3 0 r J) := by
    idx_ext
  exact (congrArg _ e).trans (View.canon_cons_emb _ _ _ _)

/-- A load from the first half. -/
theorem pv_read (v : View sig .tc .vmem S2x528x2816 .f32) (G V : FVec Ideal S1x528x2816 .f32) (i1 i0) (o : ℕ) (inb) (r : Fin 528) (j : Fin 256)
    (J : Fin 2816) (hJ : J.val = o + j) :
    v.readCov [(⟨Rect.unit ![1, 0, 0] ![1, 528, 2816] i1, G⟩ : View.Piece (Elt Ideal) S2x528x2816 .f32), ⟨Rect.unit ![0, 0, 0] ![1, 528, 2816] i0, V⟩]
      (Rect.unit (s := S2x528x2816) ![0, 0, o] ![1, 528, 256] inb).toLoadRect (ix3 0 r j) = V (ix3 0 r J) := by
  rw [View.readCov_eq_canon']
  have e : (Rect.unit (s := S2x528x2816) ![0, 0, o] ![1, 528, 256] inb).toLoadRect.idx (ix3 0 r j)
      = (Rect.unit (s := S2x528x2816) ![0, 0, 0] ![1, 528, 2816] i0).emb (ix3 0 r J) := by
    idx_ext
  have hn : (Rect.unit (s := S2x528x2816) ![0, 0, 0] ![1, 528, 2816] i0).emb (ix3 0 r J) ∉ (Rect.unit (s := S2x528x2816) ![1, 0, 0] ![1, 528, 2816] i1).set := by
    intro h
    rw [Rect.mem_set_unit] at h
    have h' := (h 0).1
    revert h'
    rw [show (((Rect.unit (s := S2x528x2816) ![0, 0, 0] ![1, 528, 2816] i0).emb (ix3 0 r J) 0 : Fin _) : ℕ) = 0 from rfl]
    exact Nat.not_succ_le_zero 0
  beta_reduce
  rw [e]
  exact (View.canon_cons_of_not_mem (Val := Elt Ideal) (e := .f32) ⟨Rect.unit (s := S2x528x2816) ![1, 0, 0] ![1, 528, 2816] i1, G⟩
    [⟨Rect.unit (s := S2x528x2816) ![0, 0, 0] ![1, 528, 2816] i0, V⟩] hn).trans
    (View.canon_cons_emb (Val := Elt Ideal) (e := .f32) (Rect.unit (s := S2x528x2816) ![0, 0, 0] ![1, 528, 2816] i0) V [] (ix3 0 r J))

end Cert.Kernel2Ideal.Ffn

end
-- ==== Proof.FfnTile.lean ====
/- The mixing call's result array is the reference's, over the reals. -/
module

public import proofs.«01_k».proof.Proof.FfnRows

@[expose] public section

set_option maxRecDepth 16384

noncomputable section

namespace Cert.Kernel2Ideal.Ffn

open Cert.Kernel2Ideal Cert.Kernel2Ideal.Gen Idealize.ShloMosaic Idealize.ShloMosaic.TcCoe Idealize.SL.Sem
open Cert.Reference2Ideal.Read (val_main_v7 val_main_v11 val_main_v30 val_main_v32 val_main_v55 val_main_v65 val_main_v69 val_main_v83)

variable (m : (ℓ : Loc nD τ sig) → Buf (Elt Ideal) ℓ)

/-- A load from a whole staged block reads the block. -/
theorem ldw {sg : RefSig} {S : Shape} {e : EltTy} (v : Memref sg .tc .vmem S e) (h : v.IsWhole) (X : S.Idx → Elt Ideal e) (r : Rect S) (x : r.shape.Idx) :
    View.ld (View.read (Elt Ideal) v.view (h.unread X)) r x = X (r.idx x) := by
  rw [h.read_unread]

theorem l0_at (c : Dev nD) (t : Fin cfg0.N) (inb) (r : Fin 512) (s : Fin 4096) (d : Fin 1024) (hs : s.val = t.val % 8 * 512 + r) :
    View.ld (View.read (Elt Ideal) (ms0_0 t).view ((hs0_0 t).unread (iblk m c 0 t))) (Rect.unit (s := S512x1024) ![0, 0] ![512, 1024] inb) (ix2 r d) = a0 m c (ix3 (sq t) s d) := by
  have := tN t
  refine (ldw _ _ _ _ _).trans ((congrArg (iblk m c 0 t) (?_ : _ = ix2 r d)).trans ((b0_at m c t r d).trans (congrArg (fun s => a0 m c (ix3 (sq t) s d)) (Fin.ext (by simp only; omega)))))
  idx_ext

theorem l1_at (c : Dev nD) (t : Fin cfg0.N) (inb) (r : Fin 8) (s : Fin 4096) (d : Fin 1024) (hs : s.val + 8 = t.val % 8 * 512 + r) :
    View.ld (View.read (Elt Ideal) (ms0_1 t).view ((hs0_1 t).unread (iblk m c 1 t))) (Rect.unit (s := S8x1024) ![0, 0] ![8, 1024] inb) (ix2 r d) = a0 m c (ix3 (sq t) s d) := by
  have := tN t
  refine (ldw _ _ _ _ _).trans ((congrArg (iblk m c 1 t) (?_ : _ = ix2 r d)).trans ((b1_at m c t r d (by omega)).trans (congrArg (fun s => a0 m c (ix3 (sq t) s d)) (Fin.ext (by simp only; omega)))))
  idx_ext

theorem l2_at (c : Dev nD) (t : Fin cfg0.N) (inb) (r : Fin 8) (s : Fin 4096) (d : Fin 1024) (hs : s.val = t.val % 8 * 512 + 512 + r) :
    View.ld (View.read (Elt Ideal) (ms0_2 t).view ((hs0_2 t).unread (iblk m c 2 t))) (Rect.unit (s := S8x1024) ![0, 0] ![8, 1024] inb) (ix2 r d) = a0 m c (ix3 (sq t) s d) := by
  have := tN t
  refine (ldw _ _ _ _ _).trans ((congrArg (iblk m c 2 t) (?_ : _ = ix2 r d)).trans ((b2_at m c t r d (by omega)).trans (congrArg (fun s => a0 m c (ix3 (sq t) s d)) (Fin.ext (by simp only; omega)))))
  idx_ext

theorem l3_at (c : Dev nD) (t : Fin cfg0.N) (inb) (r : Fin 512) (s : Fin 4096) (d : Fin 512) (hs : s.val = t.val % 8 * 512 + r) :
    View.ld (View.read (Elt Ideal) (ms0_3 t).view ((hs0_3 t).unread (iblk m c 3 t))) (Rect.unit (s := S512x512) ![0, 0] ![512, 512] inb) (ix2 r d) = a1 m c (ix3 (sq t) s d) := by
  have := tN t
  refine (ldw _ _ _ _ _).trans ((congrArg (iblk m c 3 t) (?_ : _ = ix2 r d)).trans ((b3_at m c t r d).trans (congrArg (fun s => a1 m c (ix3 (sq t) s d)) (Fin.ext (by simp only; omega)))))
  idx_ext

theorem l4_at (c : Dev nD) (t : Fin cfg0.N) (inb) (r : Fin 8) (s : Fin 4096) (d : Fin 512) (hs : s.val + 8 = t.val % 8 * 512 + r) :
    View.ld (View.read (Elt Ideal) (ms0_4 t).view ((hs0_4 t).unread (iblk m c 4 t))) (Rect.unit (s := S16x512) ![8, 0] ![8, 512] inb) (ix2 r d) = a1 m c (ix3 (sq t) s d) := by
  have := tN t
  refine (ldw _ _ _ _ _).trans ((congrArg (iblk m c 4 t) (?_ : _ = ix2 (⟨8 + r, by omega⟩ : Fin 16) d)).trans ((b4_at m c t r d (by omega)).trans (congrArg (fun s => a1 m c (ix3 (sq t) s d)) (Fin.ext (by simp only; omega)))))
  idx_ext

theorem l5_at (c : Dev nD) (t : Fin cfg0.N) (inb) (r : Fin 8) (s : Fin 4096) (d : Fin 512) (hs : s.val = t.val % 8 * 512 + 512 + r) :
    View.ld (View.read (Elt Ideal) (ms0_5 t).view ((hs0_5 t).unread (iblk m c 5 t))) (Rect.unit (s := S16x512) ![0, 0] ![8, 512] inb) (ix2 r d) = a1 m c (ix3 (sq t) s d) := by
  have := tN t
  refine (ldw _ _ _ _ _).trans ((congrArg (iblk m c 5 t) (?_ : _ = ix2 (⟨r, by omega⟩ : Fin 16) d)).trans ((b5_at m c t r d (by omega)).trans (congrArg (fun s => a1 m c (ix3 (sq t) s d)) (Fin.ext (by simp only; omega)))))
  idx_ext

theorem l6_at (c : Dev nD) (t : Fin cfg0.N) (inb) (r : Fin 512) (s : Fin 4096) (d : Fin 256) (hs : s.val = t.val % 8 * 512 + r) :
    View.ld (View.read (Elt Ideal) (ms0_6 t).view ((hs0_6 t).unread (iblk m c 6 t))) (Rect.unit (s := S512x256) ![0, 0] ![512, 256] inb) (ix2 r d) = a2 m c (ix3 (sq t) s d) := by
  have := tN t
  refine (ldw _ _ _ _ _).trans ((congrArg (iblk m c 6 t) (?_ : _ = ix2 r d)).trans ((b6_at m c t r d).trans (congrArg (fun s => a2 m c (ix3 (sq t) s d)) (Fin.ext (by simp only; omega)))))
  idx_ext

theorem l7_at (c : Dev nD) (t : Fin cfg0.N) (inb) (r : Fin 8) (s : Fin 4096) (d : Fin 256) (hs : s.val + 8 = t.val % 8 * 512 + r) :
    View.ld (View.read (Elt Ideal) (ms0_7 t).view ((hs0_7 t).unread (iblk m c 7 t))) (Rect.unit (s := S16x256) ![8, 0] ![8, 256] inb) (ix2 r d) = a2 m c (ix3 (sq t) s d) := by
  have := tN t
  refine (ldw _ _ _ _ _).trans ((congrArg (iblk m c 7 t) (?_ : _ = ix2 (⟨8 + r, by omega⟩ : Fin 16) d)).trans ((b7_at m c t r d (by omega)).trans (congrArg (fun s => a2 m c (ix3 (sq t) s d)) (Fin.ext (by simp only; omega)))))
  idx_ext

theorem l8_at (c : Dev nD) (t : Fin cfg0.N) (inb) (r : Fin 8) (s : Fin 4096) (d : Fin 256) (hs : s.val = t.val % 8 * 512 + 512 + r) :
    View.ld (View.read (Elt Ideal) (ms0_8 t).view ((hs0_8 t).unread (iblk m c 8 t))) (Rect.unit (s := S16x256) ![0, 0] ![8, 256] inb) (ix2 r d) = a2 m c (ix3 (sq t) s d) := by
  have := tN t
  refine (ldw _ _ _ _ _).trans ((congrArg (iblk m c 8 t) (?_ : _ = ix2 (⟨r, by omega⟩ : Fin 16) d)).trans ((b8_at m c t r d (by omega)).trans (congrArg (fun s => a2 m c (ix3 (sq t) s d)) (Fin.ext (by simp only; omega)))))
  idx_ext

theorem l9_at (c : Dev nD) (t : Fin cfg0.N) (inb) (r : Fin 512) (s : Fin 4096) (d : Fin 256) (hs : s.val = t.val % 8 * 512 + r) :
    View.ld (View.read (Elt Ideal) (ms0_9 t).view ((hs0_9 t).unread (iblk m c 9 t))) (Rect.unit (s := S512x256) ![0, 0] ![512, 256] inb) (ix2 r d) = a3 m c (ix3 (sq t) s d) := by
  have := tN t
  refine (ldw _ _ _ _ _).trans ((congrArg (iblk m c 9 t) (?_ : _ = ix2 r d)).trans ((b9_at m c t r d).trans (congrArg (fun s => a3 m c (ix3 (sq t) s d)) (Fin.ext (by simp only; omega)))))
  idx_ext

theorem l10_at (c : Dev nD) (t : Fin cfg0.N) (inb) (r : Fin 8) (s : Fin 4096) (d : Fin 256) (hs : s.val + 8 = t.val % 8 * 512 + r) :
    View.ld (View.read (Elt Ideal) (ms0_10 t).view ((hs0_10 t).unread (iblk m c 10 t))) (Rect.unit (s := S16x256) ![8, 0] ![8, 256] inb) (ix2 r d) = a3 m c (ix3 (sq t) s d) := by
  have := tN t
  refine (ldw _ _ _ _ _).trans ((congrArg (iblk m c 10 t) (?_ : _ = ix2 (⟨8 + r, by omega⟩ : Fin 16) d)).trans ((b10_at m c t r d (by omega)).trans (congrArg (fun s => a3 m c (ix3 (sq t) s d)) (Fin.ext (by simp only; omega)))))
  idx_ext

theorem l11_at (c : Dev nD) (t : Fin cfg0.N) (inb) (r : Fin 8) (s : Fin 4096) (d : Fin 256) (hs : s.val = t.val % 8 * 512 + 512 + r) :
    View.ld (View.read (Elt Ideal) (ms0_11 t).view ((hs0_11 t).unread (iblk m c 11 t))) (Rect.unit (s := S16x256) ![0, 0] ![8, 256] inb) (ix2 r d) = a3 m c (ix3 (sq t) s d) := by
  have := tN t
  refine (ldw _ _ _ _ _).trans ((congrArg (iblk m c 11 t) (?_ : _ = ix2 (⟨r, by omega⟩ : Fin 16) d)).trans ((b11_at m c t r d (by omega)).trans (congrArg (fun s => a3 m c (ix3 (sq t) s d)) (Fin.ext (by simp only; omega)))))
  idx_ext

/-- A load of one of the six modulation rows. -/
theorem l12_at (c : Dev nD) (t : Fin cfg0.N) (q : ℕ) (hq : q < 6) (inb) (d : Fin 1024) (e : Fin 6144) (he : e.val = q * 1024 + d) :
    View.ld (iblk m c 12 t) (Rect.unit (s := S1x6x1024) ![0, q, 0] ![1, 1, 1024] inb) (ix3 0 0 d) = a4 m c (ix2 (sq t) e) := by
  refine (congrArg (iblk m c 12 t) (?_ : _ = ix3 0 (⟨q, hq⟩ : Fin 6) d)).trans ((b12_at m c t ⟨q, hq⟩ d).trans
    (congrArg (fun s => a4 m c (ix2 (sq t) s)) (Fin.ext (by simp only; omega))))
  idx_ext

/-- A load of one half of the up weight. -/
theorem l15_at (c : Dev nD) (t : Fin cfg0.N) (o : ℕ) (inb) (k : Fin 1024) (j : Fin 2816) (J : Fin 5632) (hJ : J.val = o + j) :
    View.ld (iblk m c 15 t) (Rect.unit (s := S1024x5632) ![0, o] ![1024, 2816] inb) (ix2 k j) = a7 m c (ix2 k J) := by
  refine (congrArg (iblk m c 15 t) (?_ : _ = ix2 k J)).trans (b15_at m c t k J)
  idx_ext

/-- A load of 256 columns of the filter. -/
theorem l16_at (c : Dev nD) (t : Fin cfg0.N) (o : ℕ) (inb) (k : Fin 3) (j : Fin 256) (J : Fin 5632) (hJ : J.val = o + j) :
    View.ld (iblk m c 16 t) (Rect.unit (s := S3x5632) ![0, o] ![3, 256] inb) (ix2 k j) = a8 m c (ix2 k J) := by
  refine (congrArg (iblk m c 16 t) (?_ : _ = ix2 k J)).trans (b16_at m c t k J)
  idx_ext

/-- A load of 256 entries of the bias. -/
theorem l17_at (c : Dev nD) (t : Fin cfg0.N) (o : ℕ) (inb) (j : Fin 256) (J : Fin 5632) (hJ : J.val = o + j) :
    View.ld (iblk m c 17 t) (Rect.unit (s := S1x5632) ![0, o] ![1, 256] inb) (ix2 0 j) = a9 m c (ix1 J) := by
  refine (congrArg (iblk m c 17 t) (?_ : _ = ix2 0 J)).trans (b17_at m c t J)
  idx_ext

/-- The operands of a tile, as the body loads them from the staged blocks. -/
theorem tile (c : Dev nD) (t : Fin cfg0.N) : Tile m c t
    (k0_pay2 (View.ld (View.read (Elt Ideal) (ms0_3 t).view ((hs0_3 t).unread (iblk m c 3 t))) (Rect.unit (s := S512x512) ![0, 0] ![512, 512] inb_S512x512_S512x512_0_0)) (View.ld (View.read (Elt Ideal) (ms0_6 t).view ((hs0_6 t).unread (iblk m c 6 t))) (Rect.unit (s := S512x256) ![0, 0] ![512, 256] inb_S512x256_S512x256_0_0)) (View.ld (View.read (Elt Ideal) (ms0_9 t).view ((hs0_9 t).unread (iblk m c 9 t))) (Rect.unit (s := S512x256) ![0, 0] ![512, 256] inb_S512x256_S512x256_0_0)) (View.ld (View.read (Elt Ideal) (ms0_4 t).view ((hs0_4 t).unread (iblk m c 4 t))) (Rect.unit (s := S16x512) ![8, 0] ![8, 512] inb_S16x512_S8x512_8_0)) (View.ld (View.read (Elt Ideal) (ms0_7 t).view ((hs0_7 t).unread (iblk m c 7 t))) (Rect.unit (s := S16x256) ![8, 0] ![8, 256] inb_S16x256_S8x256_8_0)) (View.ld (View.read (Elt Ideal) (ms0_10 t).view ((hs0_10 t).unread (iblk m c 10 t))) (Rect.unit (s := S16x256) ![8, 0] ![8, 256] inb_S16x256_S8x256_8_0)) (View.ld (View.read (Elt Ideal) (ms0_5 t).view ((hs0_5 t).unread (iblk m c 5 t))) (Rect.unit (s := S16x512) ![0, 0] ![8, 512] inb_S16x512_S8x512_0_0)) (View.ld (View.read (Elt Ideal) (ms0_8 t).view ((hs0_8 t).unread (iblk m c 8 t))) (Rect.unit (s := S16x256) ![0, 0] ![8, 256] inb_S16x256_S8x256_0_0)) (View.ld (View.read (Elt Ideal) (ms0_11 t).view ((hs0_11 t).unread (iblk m c 11 t))) (Rect.unit (s := S16x256) ![0, 0] ![8, 256] inb_S16x256_S8x256_0_0)))
    (k0_pay3 (View.ld (View.read (Elt Ideal) (ms0_0 t).view ((hs0_0 t).unread (iblk m c 0 t))) (Rect.unit (s := S512x1024) ![0, 0] ![512, 1024] inb_S512x1024_S512x1024_0_0)) (View.ld (View.read (Elt Ideal) (ms0_1 t).view ((hs0_1 t).unread (iblk m c 1 t))) (Rect.unit (s := S8x1024) ![0, 0] ![8, 1024] inb_S8x1024_S8x1024_0_0)) (View.ld (View.read (Elt Ideal) (ms0_2 t).view ((hs0_2 t).unread (iblk m c 2 t))) (Rect.unit (s := S8x1024) ![0, 0] ![8, 1024] inb_S8x1024_S8x1024_0_0))) (k0_pay4 (View.ld (iblk m c 12 t) (Rect.unit (s := S1x6x1024) ![0, 2, 0] ![1, 1, 1024] inb_S1x6x1024_S1x1x1024_0_2_0))) (iblk m c 13 t) (iblk m c 14 t) (View.ld (iblk m c 12 t) (Rect.unit (s := S1x6x1024) ![0, 4, 0] ![1, 1, 1024] inb_S1x6x1024_S1x1x1024_0_4_0)) (View.ld (iblk m c 12 t) (Rect.unit (s := S1x6x1024) ![0, 3, 0] ![1, 1, 1024] inb_S1x6x1024_S1x1x1024_0_3_0)) where
  mix := fun r s k h => by
    have := tN t
    rw [pay2_at, v7_at]
    by_cases a : k.val < 512
    · simp only [dif_pos a]
      split_ifs with h1 h2
      · exact l4_at m c t _ _ s _ (by simp only; omega)
      · exact l3_at m c t _ _ s _ (by simp only; omega)
      · exact l5_at m c t _ _ s _ (by simp only; omega)
    · by_cases b : k.val - 512 < 256
      · simp only [dif_neg a, dif_pos b]
        split_ifs with h1 h2
        · exact l7_at m c t _ _ s _ (by simp only; omega)
        · exact l6_at m c t _ _ s _ (by simp only; omega)
        · exact l8_at m c t _ _ s _ (by simp only; omega)
      · simp only [dif_neg a, dif_neg b]
        split_ifs with h1 h2
        · exact l10_at m c t _ _ s _ (by simp only; omega)
        · exact l9_at m c t _ _ s _ (by simp only; omega)
        · exact l11_at m c t _ _ s _ (by simp only; omega)
  inp := fun r s d h => by
    have := tN t
    rw [pay3_at]
    split_ifs with h1 h2
    · exact l1_at m c t _ _ s _ (by simp only; omega)
    · exact l0_at m c t _ _ s _ (by simp only; omega)
    · exact l2_at m c t _ _ s _ (by simp only; omega)
  gain := fun d => (pay4_at _ d).trans (l12_at m c t 2 (by decide) _ d _ (by simp only))
  wo := fun r d => b13_at m c t r d
  nw := fun d => b14_at m c t d
  scale := fun d => l12_at m c t 4 (by decide) _ d _ (by simp only)
  shift := fun d => l12_at m c t 3 (by decide) _ d _ (by simp only)

/-- A strip of 256 columns from column `o` on, from the products `G` and `V` in the scratch array: the reference's gated product. -/
theorem strip_row (c : Dev nD) (t : Fin cfg0.N) (o u : ℕ) (hu : u = 2816 + o) (ho : o + 256 ≤ 2816) (v v' : View sig .tc .vmem S2x528x2816 .f32) (G V : FVec Ideal S1x528x2816 .f32)
    (s : Fin 4096) (y : Fin 512) (hs : s.val = t.val % 8 * 512 + y)
    (hG : ∀ (r : Fin 528) (p : Fin 4098) (j : Fin 2816), p.val + 7 = t.val % 8 * 512 + r → G (ix3 0 r j)
      = val_main_v32 (F := Ideal) (a0 m c) (a1 m c) (a2 m c) (a3 m c) (a4 m c) (a5 m c) (a6 m c) (a7 m c) (ix3 (sq t) p ⟨2816 + j, by omega⟩))
    (hV : ∀ (r : Fin 528) (p : Fin 4098) (j : Fin 2816), p.val + 7 = t.val % 8 * 512 + r → V (ix3 0 r j)
      = val_main_v32 (F := Ideal) (a0 m c) (a1 m c) (a2 m c) (a3 m c) (a4 m c) (a5 m c) (a6 m c) (a7 m c) (ix3 (sq t) p ⟨j, by omega⟩))
    (i1 i0) (k1 k2 k3 k4 k5 k6) (j : Fin 256) :
    strip (View.ld (iblk m c 16 t) (Rect.unit (s := S3x5632) ![0, u] ![3, 256] k1))
        (v.readCov [(⟨Rect.unit ![1, 0, 0] ![1, 528, 2816] i1, G⟩ : View.Piece (Elt Ideal) S2x528x2816 .f32), ⟨Rect.unit ![0, 0, 0] ![1, 528, 2816] i0, V⟩]
          (Rect.unit (s := S2x528x2816) ![1, 0, o] ![1, 528, 256] k2).toLoadRect)
        (View.ld (iblk m c 17 t) (Rect.unit (s := S1x5632) ![0, u] ![1, 256] k3))
        (View.ld (iblk m c 16 t) (Rect.unit (s := S3x5632) ![0, o] ![3, 256] k4))
        (v'.readCov [(⟨Rect.unit ![1, 0, 0] ![1, 528, 2816] i1, G⟩ : View.Piece (Elt Ideal) S2x528x2816 .f32), ⟨Rect.unit ![0, 0, 0] ![1, 528, 2816] i0, V⟩]
          (Rect.unit (s := S2x528x2816) ![0, 0, o] ![1, 528, 256] k5).toLoadRect)
        (View.ld (iblk m c 17 t) (Rect.unit (s := S1x5632) ![0, o] ![1, 256] k6)) (ix2 y j)
      = val_main_v65 (F := Ideal) (a0 m c) (a1 m c) (a2 m c) (a3 m c) (a4 m c) (a5 m c) (a6 m c) (a7 m c) (a8 m c) (a9 m c) (ix3 (sq t) s ⟨o + j, by omega⟩) := by
  subst hu
  refine strip_val (m := m) (c := c) (t := t) _ _ _ _ _ _ y j s ⟨o + j, by omega⟩ hs ?_ ?_ ?_ ?_ ?_ ?_
  · exact fun i => l16_at m c t _ _ i j _ (by simp only; omega)
  · exact l17_at m c t _ _ j _ (by simp only; omega)
  · exact fun i => l16_at m c t o _ i j _ rfl
  · exact l17_at m c t o _ j _ rfl
  · exact fun r p hp => (pg_read _ _ _ _ _ o _ r j ⟨o + j, by omega⟩ rfl).trans (hG r p _ hp)
  · exact fun r p hp => (pv_read _ _ _ _ _ o _ r j ⟨o + j, by omega⟩ rfl).trans (hV r p _ hp)

/-- A column of the eleven written strips lies in one of them. -/
theorem strips_read {sg : RefSig} (v : View sg .tc .vmem S512x2816 .bf16) (P0 P1 P2 P3 P4 P5 P6 P7 P8 P9 P10 : FVec Ideal S512x256 .bf16) (i0 i1 i2 i3 i4 i5 i6 i7 i8 i9 i10) (inb)
    (G : S512x2816.Idx → EReal)
    (h0 : ∀ (y : Fin 512) (j : Fin 256), P0 (ix2 y j) = G (ix2 y ⟨0 + j, by omega⟩))
    (h1 : ∀ (y : Fin 512) (j : Fin 256), P1 (ix2 y j) = G (ix2 y ⟨256 + j, by omega⟩))
    (h2 : ∀ (y : Fin 512) (j : Fin 256), P2 (ix2 y j) = G (ix2 y ⟨512 + j, by omega⟩))
    (h3 : ∀ (y : Fin 512) (j : Fin 256), P3 (ix2 y j) = G (ix2 y ⟨768 + j, by omega⟩))
    (h4 : ∀ (y : Fin 512) (j : Fin 256), P4 (ix2 y j) = G (ix2 y ⟨1024 + j, by omega⟩))
    (h5 : ∀ (y : Fin 512) (j : Fin 256), P5 (ix2 y j) = G (ix2 y ⟨1280 + j, by omega⟩))
    (h6 : ∀ (y : Fin 512) (j : Fin 256), P6 (ix2 y j) = G (ix2 y ⟨1536 + j, by omega⟩))
    (h7 : ∀ (y : Fin 512) (j : Fin 256), P7 (ix2 y j) = G (ix2 y ⟨1792 + j, by omega⟩))
    (h8 : ∀ (y : Fin 512) (j : Fin 256), P8 (ix2 y j) = G (ix2 y ⟨2048 + j, by omega⟩))
    (h9 : ∀ (y : Fin 512) (j : Fin 256), P9 (ix2 y j) = G (ix2 y ⟨2304 + j, by omega⟩))
    (h10 : ∀ (y : Fin 512) (j : Fin 256), P10 (ix2 y j) = G (ix2 y ⟨2560 + j, by omega⟩)) (y : Fin 512) (k : Fin 2816) :
    v.readCov [(⟨Rect.unit ![0, 2560] ![512, 256] i10, P10⟩ : View.Piece (Elt Ideal) S512x2816 .bf16), ⟨Rect.unit ![0, 2304] ![512, 256] i9, P9⟩, ⟨Rect.unit ![0, 2048] ![512, 256] i8, P8⟩, ⟨Rect.unit ![0, 1792] ![512, 256] i7, P7⟩, ⟨Rect.unit ![0, 1536] ![512, 256] i6, P6⟩, ⟨Rect.unit ![0, 1280] ![512, 256] i5, P5⟩, ⟨Rect.unit ![0, 1024] ![512, 256] i4, P4⟩, ⟨Rect.unit ![0, 768] ![512, 256] i3, P3⟩, ⟨Rect.unit ![0, 512] ![512, 256] i2, P2⟩, ⟨Rect.unit ![0, 256] ![512, 256] i1, P1⟩, ⟨Rect.unit ![0, 0] ![512, 256] i0, P0⟩]
      (Rect.unit (s := S512x2816) ![0, 0] ![512, 2816] inb).toLoadRect (ix2 y k) = G (ix2 y k) := by
  rw [View.readCov_eq_canon']
  have e : (Rect.unit (s := S512x2816) ![0, 0] ![512, 2816] inb).toLoadRect.idx (ix2 y k) = ix2 y k := by
    idx_ext
  refine (congrArg _ e).trans (View.canon_apply_of_pieces (Val := Elt Ideal) (S := S512x2816) (e := .bf16) G _ ?_ _ ?_)
  · refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_nil _⟩⟩⟩⟩⟩⟩⟩⟩⟩⟩⟩
    · intro x
      have hx : x = ix2 (⟨(x 0).val, (x 0).isLt⟩ : Fin 512) (⟨(x 1).val, (x 1).isLt⟩ : Fin 256) := by idx_ext
      rw [hx]
      refine (h10 _ _).trans (congrArg G ?_)
      idx_ext
    · intro x
      have hx : x = ix2 (⟨(x 0).val, (x 0).isLt⟩ : Fin 512) (⟨(x 1).val, (x 1).isLt⟩ : Fin 256) := by idx_ext
      rw [hx]
      refine (h9 _ _).trans (congrArg G ?_)
      idx_ext
    · intro x
      have hx : x = ix2 (⟨(x 0).val, (x 0).isLt⟩ : Fin 512) (⟨(x 1).val, (x 1).isLt⟩ : Fin 256) := by idx_ext
      rw [hx]
      refine (h8 _ _).trans (congrArg G ?_)
      idx_ext
    · intro x
      have hx : x = ix2 (⟨(x 0).val, (x 0).isLt⟩ : Fin 512) (⟨(x 1).val, (x 1).isLt⟩ : Fin 256) := by idx_ext
      rw [hx]
      refine (h7 _ _).trans (congrArg G ?_)
      idx_ext
    · intro x
      have hx : x = ix2 (⟨(x 0).val, (x 0).isLt⟩ : Fin 512) (⟨(x 1).val, (x 1).isLt⟩ : Fin 256) := by idx_ext
      rw [hx]
      refine (h6 _ _).trans (congrArg G ?_)
      idx_ext
    · intro x
      have hx : x = ix2 (⟨(x 0).val, (x 0).isLt⟩ : Fin 512) (⟨(x 1).val, (x 1).isLt⟩ : Fin 256) := by idx_ext
      rw [hx]
      refine (h5 _ _).trans (congrArg G ?_)
      idx_ext
    · intro x
      have hx : x = ix2 (⟨(x 0).val, (x 0).isLt⟩ : Fin 512) (⟨(x 1).val, (x 1).isLt⟩ : Fin 256) := by idx_ext
      rw [hx]
      refine (h4 _ _).trans (congrArg G ?_)
      idx_ext
    · intro x
      have hx : x = ix2 (⟨(x 0).val, (x 0).isLt⟩ : Fin 512) (⟨(x 1).val, (x 1).isLt⟩ : Fin 256) := by idx_ext
      rw [hx]
      refine (h3 _ _).trans (congrArg G ?_)
      idx_ext
    · intro x
      have hx : x = ix2 (⟨(x 0).val, (x 0).isLt⟩ : Fin 512) (⟨(x 1).val, (x 1).isLt⟩ : Fin 256) := by idx_ext
      rw [hx]
      refine (h2 _ _).trans (congrArg G ?_)
      idx_ext
    · intro x
      have hx : x = ix2 (⟨(x 0).val, (x 0).isLt⟩ : Fin 512) (⟨(x 1).val, (x 1).isLt⟩ : Fin 256) := by idx_ext
      rw [hx]
      refine (h1 _ _).trans (congrArg G ?_)
      idx_ext
    · intro x
      have hx : x = ix2 (⟨(x 0).val, (x 0).isLt⟩ : Fin 512) (⟨(x 1).val, (x 1).isLt⟩ : Fin 256) := by idx_ext
      rw [hx]
      refine (h0 _ _).trans (congrArg G ?_)
      idx_ext
  · obtain a | a | a | a | a | a | a | a | a | a | a : (0 ≤ k.val ∧ k.val < 256) ∨ (256 ≤ k.val ∧ k.val < 512) ∨ (512 ≤ k.val ∧ k.val < 768) ∨ (768 ≤ k.val ∧ k.val < 1024) ∨ (1024 ≤ k.val ∧ k.val < 1280) ∨ (1280 ≤ k.val ∧ k.val < 1536) ∨ (1536 ≤ k.val ∧ k.val < 1792) ∨ (1792 ≤ k.val ∧ k.val < 2048) ∨ (2048 ≤ k.val ∧ k.val < 2304) ∨ (2304 ≤ k.val ∧ k.val < 2560) ∨ (2560 ≤ k.val ∧ k.val < 2816) := by omega
    · refine ⟨_, List.Mem.tail _ (List.Mem.tail _ (List.Mem.tail _ (List.Mem.tail _ (List.Mem.tail _ (List.Mem.tail _ (List.Mem.tail _ (List.Mem.tail _ (List.Mem.tail _ (List.Mem.tail _ (List.Mem.head _)))))))))), ?_⟩
      rw [Rect.mem_set_unit]
      exact Fin.forall_fin_two.2 ⟨⟨Nat.zero_le _, y.isLt.trans_eq (Nat.zero_add _).symm⟩, a⟩
    · refine ⟨_, List.Mem.tail _ (List.Mem.tail _ (List.Mem.tail _ (List.Mem.tail _ (List.Mem.tail _ (List.Mem.tail _ (List.Mem.tail _ (List.Mem.tail _ (List.Mem.tail _ (List.Mem.head _))))))))), ?_⟩
      rw [Rect.mem_set_unit]
      exact Fin.forall_fin_two.2 ⟨⟨Nat.zero_le _, y.isLt.trans_eq (Nat.zero_add _).symm⟩, a⟩
    · refine ⟨_, List.Mem.tail _ (List.Mem.tail _ (List.Mem.tail _ (List.Mem.tail _ (List.Mem.tail _ (List.Mem.tail _ (List.Mem.tail _ (List.Mem.tail _ (List.Mem.head _)))))))), ?_⟩
      rw [Rect.mem_set_unit]
      exact Fin.forall_fin_two.2 ⟨⟨Nat.zero_le _, y.isLt.trans_eq (Nat.zero_add _).symm⟩, a⟩
    · refine ⟨_, List.Mem.tail _ (List.Mem.tail _ (List.Mem.tail _ (List.Mem.tail _ (List.Mem.tail _ (List.Mem.tail _ (List.Mem.tail _ (List.Mem.head _))))))), ?_⟩
      rw [Rect.mem_set_unit]
      exact Fin.forall_fin_two.2 ⟨⟨Nat.zero_le _, y.isLt.trans_eq (Nat.zero_add _).symm⟩, a⟩
    · refine ⟨_, List.Mem.tail _ (List.Mem.tail _ (List.Mem.tail _ (List.Mem.tail _ (List.Mem.tail _ (List.Mem.tail _ (List.Mem.head _)))))), ?_⟩
      rw [Rect.mem_set_unit]
      exact Fin.forall_fin_two.2 ⟨⟨Nat.zero_le _, y.isLt.trans_eq (Nat.zero_add _).symm⟩, a⟩
    · refine ⟨_, List.Mem.tail _ (List.Mem.tail _ (List.Mem.tail _ (List.Mem.tail _ (List.Mem.tail _ (List.Mem.head _))))), ?_⟩
      rw [Rect.mem_set_unit]
      exact Fin.forall_fin_two.2 ⟨⟨Nat.zero_le _, y.isLt.trans_eq (Nat.zero_add _).symm⟩, a⟩
    · refine ⟨_, List.Mem.tail _ (List.Mem.tail _ (List.Mem.tail _ (List.Mem.tail _ (List.Mem.head _)))), ?_⟩
      rw [Rect.mem_set_unit]
      exact Fin.forall_fin_two.2 ⟨⟨Nat.zero_le _, y.isLt.trans_eq (Nat.zero_add _).symm⟩, a⟩
    · refine ⟨_, List.Mem.tail _ (List.Mem.tail _ (List.Mem.tail _ (List.Mem.head _))), ?_⟩
      rw [Rect.mem_set_unit]
      exact Fin.forall_fin_two.2 ⟨⟨Nat.zero_le _, y.isLt.trans_eq (Nat.zero_add _).symm⟩, a⟩
    · refine ⟨_, List.Mem.tail _ (List.Mem.tail _ (List.Mem.head _)), ?_⟩
      rw [Rect.mem_set_unit]
      exact Fin.forall_fin_two.2 ⟨⟨Nat.zero_le _, y.isLt.trans_eq (Nat.zero_add _).symm⟩, a⟩
    · refine ⟨_, List.Mem.tail _ (List.Mem.head _), ?_⟩
      rw [Rect.mem_set_unit]
      exact Fin.forall_fin_two.2 ⟨⟨Nat.zero_le _, y.isLt.trans_eq (Nat.zero_add _).symm⟩, a⟩
    · refine ⟨_, List.Mem.head _, ?_⟩
      rw [Rect.mem_set_unit]
      exact Fin.forall_fin_two.2 ⟨⟨Nat.zero_le _, y.isLt.trans_eq (Nat.zero_add _).symm⟩, a⟩

end Cert.Kernel2Ideal.Ffn

end
-- ==== Proof.FfnFinal.lean ====
/- The mixing call's result array is the reference's, over the reals. -/
module

public import proofs.«01_k».proof.Proof.FfnTile

@[expose] public section

set_option maxRecDepth 16384

noncomputable section

namespace Cert.Kernel2Ideal.Ffn

open Cert.Kernel2Ideal Cert.Kernel2Ideal.Gen Idealize.ShloMosaic Idealize.ShloMosaic.TcCoe Idealize.SL.Sem
open Cert.Reference2Ideal.Read (val_main_v7 val_main_v11 val_main_v30 val_main_v32 val_main_v55 val_main_v65 val_main_v69 val_main_v83)

variable (m : (ℓ : Loc nD τ sig) → Buf (Elt Ideal) ℓ)

/-- The kernel's test for a sequence's first tile. -/
theorem first_at : ∀ t : Fin grid0.N, Scalar.cmpi .eq (Scalar.select (Scalar.andi (Scalar.xori (Scalar.cmpi .slt (Scalar.remsi (BitVec.ofNat 32 (grid0.coords t 0)) 8#32) 0#32)
      0#1) (Scalar.cmpi .ne (Scalar.remsi (BitVec.ofNat 32 (grid0.coords t 0)) 8#32) 0#32)) (Scalar.addi (Scalar.remsi (BitVec.ofNat 32 (grid0.coords t 0)) 8#32) 8#32)
      (Scalar.remsi (BitVec.ofNat 32 (grid0.coords t 0)) 8#32)) 0#32 = if t.val % 8 = 0 then 1#1 else 0#1 := by decide +kernel

/-- The kernel's test for a sequence's last tile. -/
theorem last_at : ∀ t : Fin grid0.N, Scalar.cmpi .eq (Scalar.select (Scalar.andi (Scalar.xori (Scalar.cmpi .slt (Scalar.remsi (BitVec.ofNat 32 (grid0.coords t 0)) 8#32) 0#32)
      (Scalar.cmpi .slt 8#32 0#32)) (Scalar.cmpi .ne (Scalar.remsi (BitVec.ofNat 32 (grid0.coords t 0)) 8#32) 0#32)) (Scalar.addi (Scalar.remsi (BitVec.ofNat 32 (grid0.coords t 0)) 8#32) 8#32)
      (Scalar.remsi (BitVec.ofNat 32 (grid0.coords t 0)) 8#32)) 7#32 = if t.val % 8 = 7 then 1#1 else 0#1 := by decide +kernel

set_option maxHeartbeats 4000000 in
/-- One element of one written block. -/
theorem point (c : Dev nD) (t : Fin cfg0.N) (y : Fin 512) (d : Fin 1024) :
    outsAt0 m c t (ix2 y d) = val_main_v83 (F := Ideal) (a0 m c) (a1 m c) (a2 m c) (a3 m c) (a4 m c) (a5 m c) (a6 m c) (a7 m c) (a8 m c) (a9 m c) (a10 m c) (a11 m c) (ix2 ⟨t.val * 512 + y, by have := tN t; omega⟩ d) := by
  have ht := tN t
  have hb : (⟨(t.val * 512 + y) / 4096, by omega⟩ : Fin 2) = sq t := Fin.ext (by simp only; omega)
  have hs : (⟨(t.val * 512 + y) % 4096, by omega⟩ : Fin 4096) = ⟨t.val % 8 * 512 + y, by omega⟩ := Fin.ext (by simp only; omega)
  rw [Cert.Reference2Ideal.Ffn.out_at]
  simp only [hb, hs]
  set s : Fin 4096 := ⟨t.val % 8 * 512 + y, by omega⟩ with hsd
  unfold outsAt0
  frame_out
  generalize hg : k0_pay10 (F := Ideal) _ _ _ _ = G
  have hG : ∀ (r : Fin 528) (p : Fin 4098) (j : Fin 2816), p.val + 7 = t.val % 8 * 512 + r → G (ix3 0 r j)
      = val_main_v32 (F := Ideal) (a0 m c) (a1 m c) (a2 m c) (a3 m c) (a4 m c) (a5 m c) (a6 m c) (a7 m c) (ix3 (sq t) p ⟨2816 + j, by omega⟩) := fun r p j hp => by
    rw [← hg]
    exact (pg_at _ _ _ _ r j).trans (up_row (tile m c t) _ _ (first_at t) (last_at t) _ r p j _ hp fun k => l15_at m c t 2816 _ k _ _ rfl)
  generalize hv : k0_pay9 (F := Ideal) _ _ _ _ = V
  have hV : ∀ (r : Fin 528) (p : Fin 4098) (j : Fin 2816), p.val + 7 = t.val % 8 * 512 + r → V (ix3 0 r j)
      = val_main_v32 (F := Ideal) (a0 m c) (a1 m c) (a2 m c) (a3 m c) (a4 m c) (a5 m c) (a6 m c) (a7 m c) (ix3 (sq t) p ⟨j, by omega⟩) := fun r p j hp => by
    rw [← hv]
    exact (pv_at _ _ _ _ r j).trans (up_row (tile m c t) _ _ (first_at t) (last_at t) _ r p j _ hp fun k => l15_at m c t 0 _ k _ _ (Nat.zero_add _).symm)
  refine (down_at _ _ _ _ _ y d (fun d => val_main_v69 (F := Ideal) (a0 m c) (a1 m c) (a2 m c) (a3 m c) (a4 m c) (a5 m c) (a6 m c) (a7 m c) (a8 m c) (a9 m c) (a10 m c) (ix3 (sq t) s d)) (fun d => ?_)).trans
    (congrArg (_ * ·) (b19_at m c t d))
  rw [Cert.Reference2Ideal.Ffn.x2_at]
  refine Eq.symm ?_
  refine congrArg₂ (· + ·) ?_ (congrArg₂ (· * ·) ?_ (Finset.sum_congr rfl fun k _ => congrArg₂ (· * ·) ?_ ?_))
  · exact ((mid_at _ y d).trans (x1_row (tile m c t) ⟨y + 8, by omega⟩ s d (by simp only [hsd]; omega)))
  · exact l12_at m c t 5 (by decide) _ d _ rfl
  · refine strips_read (G := fun i => val_main_v65 (F := Ideal) (a0 m c) (a1 m c) (a2 m c) (a3 m c) (a4 m c) (a5 m c) (a6 m c) (a7 m c) (a8 m c) (a9 m c)
      (ix3 (sq t) ⟨t.val % 8 * 512 + (i 0).val, by have := (i 0).isLt; simp at this; omega⟩ (i 1))) _ _ _ _ _ _ _ _ _ _ _ _ _ _ _ _ _ _ _ _ _ _ _ _
      ?_ ?_ ?_ ?_ ?_ ?_ ?_ ?_ ?_ ?_ ?_ y k
    · exact fun y j => Eq.trans (congrFun (strip0 _ _ _ _ _ _) _) (strip_row m c t 0 _ rfl (by decide) _ _ _ _ ⟨t.val % 8 * 512 + y, by omega⟩ y rfl hG hV _ _ _ _ _ _ _ _ j)
    · exact fun y j => Eq.trans (show _ = strip _ _ _ _ _ _ (ix2 y j) from rfl) (strip_row m c t 256 _ rfl (by decide) _ _ _ _ ⟨t.val % 8 * 512 + y, by omega⟩ y rfl hG hV _ _ _ _ _ _ _ _ j)
    · exact fun y j => Eq.trans (congrFun (strip2 _ _ _ _ _ _) _) (strip_row m c t 512 _ rfl (by decide) _ _ _ _ ⟨t.val % 8 * 512 + y, by omega⟩ y rfl hG hV _ _ _ _ _ _ _ _ j)
    · exact fun y j => Eq.trans (congrFun (strip3 _ _ _ _ _ _) _) (strip_row m c t 768 _ rfl (by decide) _ _ _ _ ⟨t.val % 8 * 512 + y, by omega⟩ y rfl hG hV _ _ _ _ _ _ _ _ j)
    · exact fun y j => Eq.trans (congrFun (strip4 _ _ _ _ _ _) _) (strip_row m c t 1024 _ rfl (by decide) _ _ _ _ ⟨t.val % 8 * 512 + y, by omega⟩ y rfl hG hV _ _ _ _ _ _ _ _ j)
    · exact fun y j => Eq.trans (congrFun (strip5 _ _ _ _ _ _) _) (strip_row m c t 1280 _ rfl (by decide) _ _ _ _ ⟨t.val % 8 * 512 + y, by omega⟩ y rfl hG hV _ _ _ _ _ _ _ _ j)
    · exact fun y j => Eq.trans (congrFun (strip6 _ _ _ _ _ _) _) (strip_row m c t 1536 _ rfl (by decide) _ _ _ _ ⟨t.val % 8 * 512 + y, by omega⟩ y rfl hG hV _ _ _ _ _ _ _ _ j)
    · exact fun y j => Eq.trans (congrFun (strip7 _ _ _ _ _ _) _) (strip_row m c t 1792 _ rfl (by decide) _ _ _ _ ⟨t.val % 8 * 512 + y, by omega⟩ y rfl hG hV _ _ _ _ _ _ _ _ j)
    · exact fun y j => Eq.trans (congrFun (strip8 _ _ _ _ _ _) _) (strip_row m c t 2048 _ rfl (by decide) _ _ _ _ ⟨t.val % 8 * 512 + y, by omega⟩ y rfl hG hV _ _ _ _ _ _ _ _ j)
    · exact fun y j => Eq.trans (congrFun (strip9 _ _ _ _ _ _) _) (strip_row m c t 2304 _ rfl (by decide) _ _ _ _ ⟨t.val % 8 * 512 + y, by omega⟩ y rfl hG hV _ _ _ _ _ _ _ _ j)
    · exact fun y j => Eq.trans (congrFun (strip10 _ _ _ _ _ _) _) (strip_row m c t 2560 _ rfl (by decide) _ _ _ _ ⟨t.val % 8 * 512 + y, by omega⟩ y rfl hG hV _ _ _ _ _ _ _ _ j)
  · exact b18_at m c t k d

/-- The result array of the mixing call. -/
theorem final2 (c : Dev nD) : (dats m 0 c).arrAt 20 cfg0.N = val_main_v83 (F := Ideal) (a0 m c) (a1 m c) (a2 m c) (a3 m c) (a4 m c) (a5 m c) (a6 m c) (a7 m c) (a8 m c) (a9 m c) (a10 m c) (a11 m c) := by
  refine (dats m 0 c).arrAt_eq_of_covers 20 _ (by decide +kernel) fun t _ j => ?_
  blk_simp
  rw [after0_20]
  have hj : j = ix2 (⟨(j 0).val, (j 0).isLt⟩ : Fin 512) (⟨(j 1).val, (j 1).isLt⟩ : Fin 1024) := by idx_ext
  refine (congrArg _ hj).trans ((point m c t _ _).trans (congrArg _ ?_))
  blk_ext [idx t]

end Cert.Kernel2Ideal.Ffn

end
-- ==== Proof.Heads.lean ====
/- The norm of one head's row, over the extended reals, and the mean that the input projection takes with a matrix of group means: no program
   is mentioned here. -/
module

public import Idealize.ShloMosaic.PureOps.Ideal.Laws
public import Idealize.ShloMosaic.Lib.ValueIdx
public import Idealize.ShloMosaic.Lib.Pipeline.ValueKit

@[expose] public section

noncomputable section

namespace Cert.Heads

open Idealize.ShloMosaic

/-- One over the root of a row's mean square plus the small constant, for a row of the model's width. -/
def rms (f : Fin 1024 → EReal) : EReal :=
  Ideal.rsqrt (Ideal.div (∑ k, f k * f k) (Ideal.ofBits .f32 0x44800000#32) + Ideal.ofBits .f32 0x358637BD#32)

/-- One over the root of a head's mean square plus the small constant. -/
def hn (f : Fin 64 → EReal) : EReal :=
  Ideal.rsqrt (Ideal.div (∑ d, f d * f d) (Ideal.ofBits .f32 0x42800000#32) + Ideal.ofBits .f32 0x358637BD#32)

/-- The entry of the group-mean matrix: one sixty-fourth inside a head's block, zero outside. -/
def gm (i j : ℕ) : EReal := if i / 64 = j / 64 then ((64⁻¹ : ℝ) : EReal) else 0

theorem ofBits_64 : Ideal.ofBits FTy.f32 0x42800000#32 = ((64 : ℝ) : EReal) := by
  simp [Ideal.ofBits, Ideal.ieee]; norm_num; rw [← EReal.coe_mul]; norm_num

theorem ofBits_eighth : Ideal.ofBits FTy.f32 0x3E000000#32 = ((8⁻¹ : ℝ) : EReal) := by
  simp [Ideal.ofBits, Ideal.ieee]; norm_num; rw [← EReal.coe_mul]; norm_num

theorem ofBits_two : Ideal.ofBits FTy.f32 0x40000000#32 = ((2 : ℝ) : EReal) := by
  simp [Ideal.ofBits, Ideal.ieee]; norm_num; rw [← EReal.coe_mul]; norm_num

/-- A factor that is a real of nonnegative sign moves out of a sum. -/
theorem sum_mul_coe {ι : Type*} (s : Finset ι) (f : ι → EReal) (c : ℝ) (hc : 0 ≤ c) :
    ∑ i ∈ s, f i * (c : EReal) = (∑ i ∈ s, f i) * (c : EReal) := by
  classical
  induction s using Finset.induction_on with
  | empty => simp
  | insert a s ha ih =>
    rw [Finset.sum_insert ha, Finset.sum_insert ha, ih, EReal.right_distrib_of_nonneg_of_ne_top (by exact_mod_cast hc) (EReal.coe_ne_top c)]

/-- A row of squares times a column of the group-mean matrix is the mean over the column's head. -/
theorem group_mean {H : ℕ} (s : Fin (H * 64) → EReal) (e : Fin H) (d : Fin 64) :
    ∑ j : Fin (H * 64), s j * gm j.val (e.val * 64 + d.val)
      = Ideal.div (∑ d : Fin 64, s ⟨e.val * 64 + d.val, by omega⟩) (Ideal.ofBits .f32 0x42800000#32) := by
  rw [ofBits_64, Ideal.div_coe (by norm_num), one_div, ← sum_mul_coe _ _ _ (by norm_num), ← Equiv.sum_comp finProdFinEquiv, Fintype.sum_prod_type,
    Finset.sum_eq_single e]
  · refine Finset.sum_congr rfl fun k _ => ?_
    have hk : (finProdFinEquiv (e, k) : Fin (H * 64)) = ⟨e.val * 64 + k.val, by omega⟩ := Fin.ext (by simp [finProdFinEquiv]; omega)
    rw [hk, gm, if_pos (by simp only; omega)]
  · intro b _ hb
    refine Finset.sum_eq_zero fun k _ => ?_
    have hv : (finProdFinEquiv (b, k) : Fin (H * 64)).val = k.val + 64 * b.val := rfl
    have hb' : b.val ≠ e.val := fun h => hb (Fin.ext h)
    rw [hv, gm, if_neg (by omega), mul_zero]
  · exact fun h => absurd (Finset.mem_univ e) h

/-- A quotient by log 2 of an eighth is the product with the constant that the kernel has rounded. -/
theorem scale_eq (x : EReal) : Ideal.div (x * Ideal.ofBits FTy.f32 0x3E000000#32) (Ideal.log (Ideal.ofBits FTy.f32 0x40000000#32))
    = x * (((1 / 8) * (Real.log 2)⁻¹ : ℝ) : EReal) := by
  rw [ofBits_eighth, ofBits_two, show Ideal.log ((2 : ℝ) : EReal) = ((Real.log 2 : ℝ) : EReal) from by rw [Ideal.log_coe, if_neg (by norm_num)],
    Ideal.div_coe (Real.log_pos one_lt_two).ne', mul_assoc, ← EReal.coe_mul, one_div, one_div]

end Cert.Heads

end
-- ==== Proof.Inproj.lean ====
/- The input projection's arithmetic at one element, over the reals, from the blocks that the call reads: the normed and modulated row times
   the weights, and the normed query and key heads. -/
module

public import proofs.«01_k».proof.Proof.Gen.Kernel3Ideal.Value
public import proofs.«01_k».proof.Proof.Heads

@[expose] public section

noncomputable section

namespace Cert.Kernel3Ideal.Inproj

open Idealize.ShloMosaic Cert.Kernel3Ideal Cert.Kernel3Ideal.Gen Cert.Heads

/-- The projection: the row's root-mean-square norm with its weights, scaled and shifted, times the weights. -/
theorem proj_at (x : Vec Ideal S1024x1024 .f32) (n : Vec Ideal S1x1024 .f32) (sc sh : Vec Ideal S1x1x1024 .f32) (w : Vec Ideal S1024x2048 .bf16)
    (y : Fin 1024) (j : Fin 2048) :
    k0_pay7 x n sc sh w (ix2 y j) = ∑ k : Fin 1024, (x (ix2 y k) * rms (fun k => x (ix2 y k)) * n (ix2 0 k) * (1 + sc (ix3 0 0 k)) + sh (ix3 0 0 k)) * w (ix2 k j) := by
  unfold rms
  pointwise [k0_pay7]

/-- The query heads of the first half of the queries' columns, scaled and transposed. -/
theorem qa_at (x : Vec Ideal S1024x1024 .f32) (n : Vec Ideal S1x1024 .f32) (sc sh : Vec Ideal S1x1x1024 .f32) (w : Vec Ideal S1024x2048 .bf16)
    (g : Vec Ideal S256x256 .bf16) (wq : Vec Ideal S1x256 .f32) (P : FVec Ideal S1024x2048 .f32) (hP : k0_pay7 x n sc sh w = P)
    (hg : ∀ i j : Fin 256, g (ix2 i j) = gm i.val j.val) (e : Fin 4) (d : Fin 64) (y : Fin 1024) :
    k0_pay10 (k0_pay8 x n sc sh w) (k0_pay9 x n sc sh w g) wq (ix2 (⟨e * 64 + d, by omega⟩ : Fin 256) y)
      = P (ix2 y ⟨e * 64 + d, by omega⟩) * hn (fun d => P (ix2 y ⟨e * 64 + d, by omega⟩))
        * wq (ix2 0 ⟨e * 64 + d, by omega⟩) * (((1 / 8) * (Real.log 2)⁻¹ : ℝ) : EReal) := by
  unfold hn
  rw [← group_mean (H := 4) (fun j => P (ix2 y ⟨j.val, by omega⟩) * P (ix2 y ⟨j.val, by omega⟩)) e d]
  simp only [k0_pay10, k0_pay9, k0_pay8, hP]
  pointwise
  simp only [hg]
  rfl

/-- The query heads of the second half of the queries' columns, scaled and transposed. -/
theorem qb_at (P : FVec Ideal S1024x2048 .f32) (g : Vec Ideal S256x256 .bf16) (wq : Vec Ideal S1x256 .f32)
    (hg : ∀ i j : Fin 256, g (ix2 i j) = gm i.val j.val) (e : Fin 4) (d : Fin 64) (y : Fin 1024) :
    k0_pay11 P g wq (ix2 (⟨e * 64 + d, by omega⟩ : Fin 256) y)
      = P (ix2 y ⟨256 + (e * 64 + d), by omega⟩) * hn (fun d => P (ix2 y ⟨256 + (e * 64 + d), by omega⟩))
        * wq (ix2 0 ⟨e * 64 + d, by omega⟩) * (((1 / 8) * (Real.log 2)⁻¹ : ℝ) : EReal) := by
  unfold hn
  rw [← group_mean (H := 4) (fun j => P (ix2 y ⟨256 + j.val, by omega⟩) * P (ix2 y ⟨256 + j.val, by omega⟩)) e d]
  simp only [k0_pay11]
  pointwise
  simp only [hg]
  rfl

/-- The key heads. -/
theorem k_at (P : FVec Ideal S1024x2048 .f32) (g : Vec Ideal S128x128 .bf16) (hg : ∀ i j : Fin 128, g (ix2 i j) = gm i.val j.val)
    (e : Fin 2) (d : Fin 64) (y : Fin 1024) :
    k0_pay12 P g (ix2 y (⟨e * 64 + d, by omega⟩ : Fin 128))
      = P (ix2 y ⟨512 + (e * 64 + d), by omega⟩) * hn (fun d => P (ix2 y ⟨512 + (e * 64 + d), by omega⟩)) := by
  unfold hn
  rw [← group_mean (H := 2) (fun j => P (ix2 y ⟨512 + j.val, by omega⟩) * P (ix2 y ⟨512 + j.val, by omega⟩)) e d]
  simp only [k0_pay12]
  pointwise
  simp only [hg]

end Cert.Kernel3Ideal.Inproj

end
-- ==== Proof.InprojEntry.lean ====
/- What the input projection's windows stage: the arguments, as the host code lays them out. -/
module

public import proofs.«01_k».proof.Proof.Inproj

@[expose] public section

set_option maxRecDepth 16384

noncomputable section

namespace Cert.Kernel3Ideal.Inproj

open Cert.Kernel3Ideal Cert.Kernel3Ideal.Gen Cert.Heads Idealize.ShloMosaic Idealize.ShloMosaic.TcCoe Idealize.SL.Sem

variable (m : (ℓ : Loc nD τ sig) → Buf (Elt Ideal) ℓ)

/-- The block indices of the windows at grid point `t`, the tile of 1024 tokens. -/
theorem idx : ∀ t : Fin cfg0.N, win0_0.index t = ![t.val, 0] ∧ win0_9.index t = ![0, t.val] ∧ win0_10.index t = ![t.val, 0] ∧ win0_11.index t = ![t.val, 0]
    ∧ win0_12.index t = ![t.val, 0] ∧ win0_13.index t = ![0, t.val] ∧ win0_14.index t = ![t.val, 0] ∧ win0_15.index t = ![t.val, 0] :=
  (by decide +kernel : ∀ t : Fin grid0.N, _)

/-- The blocks that stay the same at every grid point. -/
theorem idx0 : ∀ t : Fin cfg0.N, win0_1.index t = ![0, 0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

theorem tN (t : Fin cfg0.N) : t.val < 8 := t.isLt

/-- The six arguments: the stream, the modulation, the norm's weights, the projection's weights, the query and the key norm's weights. -/
abbrev a0 (c : Dev nD) : FVec Ideal S32x256x1024 .f32 := m ((c : Thread nD τ).loc main_arg0)
abbrev a1 (c : Dev nD) : FVec Ideal S1x6144 .f32 := m ((c : Thread nD τ).loc main_arg1)
abbrev a2 (c : Dev nD) : FVec Ideal S1024 .f32 := m ((c : Thread nD τ).loc main_arg2)
abbrev a3 (c : Dev nD) : FVec Ideal S1024x2048 .f32 := m ((c : Thread nD τ).loc main_arg3)
abbrev a4 (c : Dev nD) : FVec Ideal S64 .f32 := m ((c : Thread nD τ).loc main_arg4)
abbrev a5 (c : Dev nD) : FVec Ideal S64 .f32 := m ((c : Thread nD τ).loc main_arg5)

/-- The token that row `y` of tile `t` is. -/
abbrev tok (t : Fin cfg0.N) (y : Fin 1024) : Fin 8192 := ⟨t.val * 1024 + y.val, by have := tN t; omega⟩

theorem b0_at (c : Dev nD) (t : Fin cfg0.N) (y d : Fin 1024) :
    (show EReal from iblk m c 0 t (ix2 y d)) = a0 m c (ix3 ⟨(tok t y).val / 256, by omega⟩ ⟨(tok t y).val % 256, by omega⟩ d) := by
  blk_simp [iblk]
  entry_read
  pointwise
  blk_ext [idx t]

/-- The modulation rows as staged: the modulation's, and seven rows of zeros. -/
theorem V2 (c : Dev nD) : V m c main_v2 =
    concatenate S8x6x1024 0 [⟨S1x6x1024, shapeCast S1x6x1024 (a1 m c) shapeCasts_S1x6144_S1x6x1024⟩,
      ⟨S7x6x1024, broadcastInDim S7x6x1024 ![] bcast_S_S7x6x1024 (constant (F := Ideal) S_ .f32 0x00000000#32)⟩]
      concatenates_S1x6x1024_S7x6x1024_S8x6x1024_d0 := by
  rfl

theorem b1_at (c : Dev nD) (t : Fin cfg0.N) (q : Fin 6) (d : Fin 1024) :
    (show EReal from iblk m c 1 t (ix3 0 q d)) = a1 m c (ix2 0 ⟨q * 1024 + d, by omega⟩) := by
  have e : (win0_1.blk t).view.emb (ix3 0 q d) = ix3 (0 : Fin 8) q d := by
    blk_ext [idx0 t]
  blk_simp [iblk]
  rw [V2]
  rw [e]
  pointwise

theorem b2_at (c : Dev nD) (t : Fin cfg0.N) (d : Fin 1024) : (show EReal from iblk m c 2 t (ix2 0 d)) = a2 m c (ix1 d) := by
  blk_simp [iblk]
  entry_read
  pointwise
  blk_ext [idx0 t]

theorem b3_at (c : Dev nD) (t : Fin cfg0.N) (k : Fin 1024) (j : Fin 2048) : (show EReal from iblk m c 3 t (ix2 k j)) = a3 m c (ix2 k j) := by
  blk_simp [iblk]
  entry_read
  pointwise
  blk_ext [idx0 t]

theorem b4_at (c : Dev nD) (t : Fin cfg0.N) (e : Fin 4) (d : Fin 64) :
    (show EReal from iblk m c 4 t (ix2 0 (⟨e * 64 + d, by omega⟩ : Fin 256))) = a4 m c (ix1 d) := by
  blk_simp [iblk]
  entry_read
  pointwise
  blk_ext [idx0 t]

theorem b5_at (c : Dev nD) (t : Fin cfg0.N) (e : Fin 4) (d : Fin 64) :
    (show EReal from iblk m c 5 t (ix2 0 (⟨e * 64 + d, by omega⟩ : Fin 256))) = a5 m c (ix1 d) := by
  blk_simp [iblk]
  entry_read
  pointwise
  blk_ext [idx0 t]

/-- The identity of four heads over sixty-four. -/
theorem eye_at : ∀ i j : Fin 4, IntOp.cmpi .eq (IntOp.addi (BitVec.ofNat 32 i.val) 0#32) (BitVec.ofNat 32 j.val) = if i.val = j.val then 1#1 else 0#1 := by
  decide +kernel

/-- The staged group-mean matrix. -/
theorem b6_at (c : Dev nD) (t : Fin cfg0.N) (i j : Fin 256) : (show EReal from iblk m c 6 t (ix2 i j)) = gm i.val j.val := by
  have e : ((View.whole main_v59).slice (win0_6.rect t)).emb (ix2 i j) = ix2 i j := by
    blk_ext [idx0 t]
  blk_simp [iblk]
  entry_read
  pointwise
  rw [e]
  have h := eye_at ⟨i.val / 64, by omega⟩ ⟨j.val / 64, by omega⟩
  simp only at h
  refine (congrArg (fun x => Ideal.div (FloatOps.uitofp (F := Ideal) FTy.f32 x) (Ideal.ofBits .f32 1115684864#32)) h).trans ?_
  rw [ofBits_64, Ideal.div_coe (by norm_num), gm]
  split
  · rw [show FloatOps.uitofp (F := Ideal) FTy.f32 1#1 = (1 : EReal) by simp [FloatOps.uitofp], one_mul, one_div]
  · rw [show FloatOps.uitofp (F := Ideal) FTy.f32 0#1 = (0 : EReal) by simp [FloatOps.uitofp], zero_mul]

end Cert.Kernel3Ideal.Inproj

end
-- ==== Proof.RefInproj.lean ====
/- The reference of the input projection at one element, over the reals, stage by stage. -/
module

public import proofs.«01_k».proof.Proof.Gen.Reference3Ideal.Read
public import proofs.«01_k».proof.Proof.Heads

@[expose] public section

noncomputable section

namespace Cert.Reference3Ideal.Inproj

open Cert.Reference3Ideal Cert.Reference3Ideal.Gen Cert.Reference3Ideal.Read Cert.Heads Idealize.ShloMosaic

variable (x0 : FVec Ideal S32x256x1024 .f32) (x1 : FVec Ideal S1x6144 .f32) (x2 : FVec Ideal S1024 .f32) (x3 : FVec Ideal S1024x2048 .f32)
  (x4 x5 : FVec Ideal S64 .f32)

/-- The sequence and the position of a token, numbered through the batch. -/
abbrev tb (n : Fin 8192) : Fin 32 := ⟨n.val / 256, by omega⟩
abbrev ts (n : Fin 8192) : Fin 256 := ⟨n.val % 256, by omega⟩

/-- The normed and modulated stream. -/
theorem h_at (b : Fin 32) (s : Fin 256) (d : Fin 1024) :
    val_main_v25 (F := Ideal) x0 x1 x2 (ix3 b s d) = x0 (ix3 b s d) * rms (fun k => x0 (ix3 b s k)) * x2 (ix1 d)
      * (1 + x1 (ix2 0 ⟨1024 + d, by omega⟩)) + x1 (ix2 0 ⟨d, by omega⟩) := by
  unfold rms
  simp only [val_main_v25, val_main_v24, val_main_v23, val_main_v22, val_main_v21, val_main_v20, val_main_v19, val_main_v18, val_main_v17, val_main_v16,
    val_main_v15, val_main_v14, val_main_v13, val_main_v12, val_main_v11, val_main_v10, val_main_v9, val_main_v8, val_main_v7]
  pointwise [val_main_v1, val_main_v2, val_main_v0, val_main_cst, val_main_cst_0, val_main_cst_1, val_main_cst_2]

/-- The projection. -/
theorem proj_at (b : Fin 32) (s : Fin 256) (j : Fin 2048) :
    val_main_v26 (F := Ideal) x0 x1 x2 x3 (ix3 b s j) = ∑ k : Fin 1024, val_main_v25 (F := Ideal) x0 x1 x2 (ix3 b s k) * x3 (ix2 k j) := by
  simp only [val_main_v26]
  generalize h : val_main_v25 (F := Ideal) x0 x1 x2 = Y
  pointwise

/-- The query heads' norm. -/
theorem qn_at (b : Fin 32) (s : Fin 256) (e : Fin 8) (d : Fin 64) :
    val_main_v45 (F := Ideal) x0 x1 x2 x3 x4 (ix4 b s e d) = val_main_v26 (F := Ideal) x0 x1 x2 x3 (ix3 b s ⟨e * 64 + d, by omega⟩)
      * hn (fun d => val_main_v26 (F := Ideal) x0 x1 x2 x3 (ix3 b s ⟨e * 64 + d, by omega⟩)) * x4 (ix1 d) := by
  unfold hn
  simp only [val_main_v45, val_main_v44, val_main_v43, val_main_v42, val_main_v41, val_main_v40, val_main_v39, val_main_v38, val_main_v37,
    val_main_v36, val_main_v35, val_main_v34, val_main_v33, val_main_v32, val_main_v27]
  generalize h : val_main_v26 (F := Ideal) x0 x1 x2 x3 = Y
  pointwise [val_main_cst_3, val_main_cst_4, val_main_cst_5]

/-- The key heads' norm. -/
theorem kn_at (b : Fin 32) (s : Fin 256) (e : Fin 2) (d : Fin 64) :
    val_main_v59 (F := Ideal) x0 x1 x2 x3 x5 (ix4 b s e d) = val_main_v26 (F := Ideal) x0 x1 x2 x3 (ix3 b s ⟨512 + (e * 64 + d), by omega⟩)
      * hn (fun d => val_main_v26 (F := Ideal) x0 x1 x2 x3 (ix3 b s ⟨512 + (e * 64 + d), by omega⟩)) * x5 (ix1 d) := by
  unfold hn
  simp only [val_main_v59, val_main_v58, val_main_v57, val_main_v56, val_main_v55, val_main_v54, val_main_v53, val_main_v52, val_main_v51, val_main_v50,
    val_main_v49, val_main_v48, val_main_v47, val_main_v46, val_main_v28]
  generalize h : val_main_v26 (F := Ideal) x0 x1 x2 x3 = Y
  pointwise [val_main_cst_6, val_main_cst_7, val_main_cst_8]

/-- The scaled queries, transposed. -/
theorem q_at (n : Fin 8192) (e : Fin 8) (d : Fin 64) :
    val_main_v69 (F := Ideal) x0 x1 x2 x3 x4 (ix2 ⟨e * 64 + d, by omega⟩ n) = val_main_v26 (F := Ideal) x0 x1 x2 x3 (ix3 (tb n) (ts n) ⟨e * 64 + d, by omega⟩)
      * hn (fun d => val_main_v26 (F := Ideal) x0 x1 x2 x3 (ix3 (tb n) (ts n) ⟨e * 64 + d, by omega⟩)) * x4 (ix1 d)
      * (((1 / 8) * (Real.log 2)⁻¹ : ℝ) : EReal) := by
  rw [← qn_at, ← scale_eq]
  simp only [val_main_v69, val_main_v68, val_main_v65, val_main_v64, val_main_v63, val_main_v62, val_main_v61, val_main_v60]
  generalize h : val_main_v45 (F := Ideal) x0 x1 x2 x3 x4 = Y
  pointwise [val_main_cst_9, val_main_cst_10]

/-- The keys. -/
theorem k_at (n : Fin 8192) (e : Fin 2) (d : Fin 64) :
    val_main_v66 (F := Ideal) x0 x1 x2 x3 x5 (ix2 n ⟨e * 64 + d, by omega⟩) = val_main_v26 (F := Ideal) x0 x1 x2 x3 (ix3 (tb n) (ts n) ⟨512 + (e * 64 + d), by omega⟩)
      * hn (fun d => val_main_v26 (F := Ideal) x0 x1 x2 x3 (ix3 (tb n) (ts n) ⟨512 + (e * 64 + d), by omega⟩)) * x5 (ix1 d) := by
  rw [← kn_at]
  simp only [val_main_v66]
  generalize h : val_main_v59 (F := Ideal) x0 x1 x2 x3 x5 = Y
  pointwise

/-- The values. -/
theorem v_at (n : Fin 8192) (j : Fin 128) :
    val_main_v67 (F := Ideal) x0 x1 x2 x3 (ix2 n j) = val_main_v26 (F := Ideal) x0 x1 x2 x3 (ix3 (tb n) (ts n) ⟨640 + j, by omega⟩) := by
  simp only [val_main_v67, val_main_v29]
  generalize h : val_main_v26 (F := Ideal) x0 x1 x2 x3 = Y
  pointwise

/-- The convolution mixer's columns. -/
theorem zc_at (n : Fin 8192) (j : Fin 512) :
    val_main_v74 (F := Ideal) x0 x1 x2 x3 (ix2 n j) = val_main_v26 (F := Ideal) x0 x1 x2 x3 (ix3 (tb n) (ts n) ⟨768 + j, by omega⟩) := by
  simp only [val_main_v74, val_main_v73, val_main_v30]
  generalize h : val_main_v26 (F := Ideal) x0 x1 x2 x3 = Y
  pointwise

/-- The Hyena mixer's columns. -/
theorem zh_at (n : Fin 8192) (j : Fin 768) :
    val_main_v76 (F := Ideal) x0 x1 x2 x3 (ix2 n j) = val_main_v26 (F := Ideal) x0 x1 x2 x3 (ix3 (tb n) (ts n) ⟨1280 + j, by omega⟩) := by
  simp only [val_main_v76, val_main_v75, val_main_v31]
  generalize h : val_main_v26 (F := Ideal) x0 x1 x2 x3 = Y
  pointwise

/-- The transposed values are the values, and the rounded keys the keys. -/
theorem vt_at (n : Fin 8192) (j : Fin 128) : val_main_v72 (F := Ideal) x0 x1 x2 x3 (ix2 j n) = val_main_v67 (F := Ideal) x0 x1 x2 x3 (ix2 n j) := by
  simp only [val_main_v72, val_main_v71]
  generalize h : val_main_v67 (F := Ideal) x0 x1 x2 x3 = Y
  pointwise

end Cert.Reference3Ideal.Inproj

end
-- ==== Proof.InprojFinal.lean ====
/- The seven result arrays of the input projection's call are the reference's, over the reals. -/
module

public import proofs.«01_k».proof.Proof.InprojEntry
public import proofs.«01_k».proof.Proof.RefInproj

@[expose] public section

set_option maxRecDepth 16384

noncomputable section

namespace Cert.Kernel3Ideal.Inproj

open Cert.Kernel3Ideal Cert.Kernel3Ideal.Gen Cert.Heads Idealize.ShloMosaic Idealize.ShloMosaic.TcCoe Idealize.SL.Sem
open Cert.Reference3Ideal.Inproj (tb ts)
open Cert.Reference3Ideal.Read (val_main_v25 val_main_v26 val_main_v66 val_main_v67 val_main_v69 val_main_v70 val_main_v72 val_main_v74 val_main_v76)

variable (m : (ℓ : Loc nD τ sig) → Buf (Elt Ideal) ℓ)

/-- A tile's projection, from the blocks staged for it. -/
abbrev proj (c : Dev nD) (t : Fin cfg0.N) : FVec Ideal S1024x2048 .f32 :=
  k0_pay7 (View.ld (iblk m c 0 t) r0_0) (View.ld (iblk m c 2 t) r0_1) (View.ld (iblk m c 1 t) r0_2) (View.ld (iblk m c 1 t) r0_3) (View.ld (iblk m c 3 t) r0_4)

/-- The reference's projection of a token. -/
abbrev ref (c : Dev nD) (n : Fin 8192) (j : Fin 2048) : EReal := val_main_v26 (F := Ideal) (a0 m c) (a1 m c) (a2 m c) (a3 m c) (ix3 (tb n) (ts n) j)

/-- A tile's projection is the reference's. -/
theorem proj_eq (c : Dev nD) (t : Fin cfg0.N) (y : Fin 1024) (j : Fin 2048) : proj m c t (ix2 y j) = ref m c (tok t y) j := by
  have h0 : ∀ k : Fin 1024, View.ld (iblk m c 0 t) r0_0 (ix2 y k) = a0 m c (ix3 (tb (tok t y)) (ts (tok t y)) k) := fun k =>
    (congrArg (iblk m c 0 t) (show _ = ix2 y k by idx_ext)).trans (b0_at m c t y k)
  have h2 : ∀ k : Fin 1024, View.ld (iblk m c 2 t) r0_1 (ix2 0 k) = a2 m c (ix1 k) := fun k =>
    (congrArg (iblk m c 2 t) (show _ = ix2 0 k by idx_ext)).trans (b2_at m c t k)
  have h1 : ∀ k : Fin 1024, View.ld (iblk m c 1 t) r0_2 (ix3 0 0 k) = a1 m c (ix2 0 ⟨1024 + k, by omega⟩) := fun k =>
    (congrArg (iblk m c 1 t) (show _ = ix3 0 (1 : Fin 6) k by idx_ext)).trans ((b1_at m c t 1 k).trans (congrArg (fun s => a1 m c (ix2 0 s)) (Fin.ext (by simp))))
  have h1' : ∀ k : Fin 1024, View.ld (iblk m c 1 t) r0_3 (ix3 0 0 k) = a1 m c (ix2 0 ⟨k, by omega⟩) := fun k =>
    (congrArg (iblk m c 1 t) (show _ = ix3 0 (0 : Fin 6) k by idx_ext)).trans ((b1_at m c t 0 k).trans (congrArg (fun s => a1 m c (ix2 0 s)) (Fin.ext (by simp))))
  have h3 : ∀ k : Fin 1024, View.ld (iblk m c 3 t) r0_4 (ix2 k j) = a3 m c (ix2 k j) := fun k =>
    (congrArg (iblk m c 3 t) (show _ = ix2 k j by idx_ext)).trans (b3_at m c t k j)
  refine (proj_at _ _ _ _ _ y j).trans ?_
  rw [ref, Cert.Reference3Ideal.Inproj.proj_at]
  refine Finset.sum_congr rfl fun k _ => ?_
  rw [Cert.Reference3Ideal.Inproj.h_at, h2, h1, h1', h3, h0]
  refine congrArg (fun z => (a0 m c _ * z * _ * _ + _) * _) (congrArg rms (funext h0))

/-- The loaded weights of a head's norm, and the loaded group-mean matrices. -/
theorem wq_at (c : Dev nD) (t : Fin cfg0.N) (e : Fin 4) (d : Fin 64) :
    View.ld (iblk m c 4 t) r0_6 (ix2 0 (⟨e * 64 + d, by omega⟩ : Fin 256)) = a4 m c (ix1 d) :=
  (congrArg (iblk m c 4 t) (show _ = ix2 0 (⟨e * 64 + d, by omega⟩ : Fin 256) by idx_ext)).trans (b4_at m c t e d)

theorem wk_at (c : Dev nD) (t : Fin cfg0.N) (e : Fin 2) (d : Fin 64) :
    View.ld (iblk m c 5 t) r0_10 (ix2 0 (⟨e * 64 + d, by omega⟩ : Fin 128)) = a5 m c (ix1 d) :=
  (congrArg (iblk m c 5 t) (show _ = ix2 0 (⟨(⟨e, by omega⟩ : Fin 4) * 64 + d, by simp only; omega⟩ : Fin 256) by idx_ext)).trans (b5_at m c t ⟨e, by omega⟩ d)

theorem g_at (c : Dev nD) (t : Fin cfg0.N) (i j : Fin 256) : View.ld (iblk m c 6 t) r0_5 (ix2 i j) = gm i.val j.val :=
  (congrArg (iblk m c 6 t) (show _ = ix2 i j by idx_ext)).trans (b6_at m c t i j)

theorem g'_at (c : Dev nD) (t : Fin cfg0.N) (i j : Fin 128) : View.ld (iblk m c 6 t) r0_9 (ix2 i j) = gm i.val j.val :=
  (congrArg (iblk m c 6 t) (show _ = ix2 (⟨i, by omega⟩ : Fin 256) (⟨j, by omega⟩ : Fin 256) by idx_ext)).trans (b6_at m c t ⟨i, by omega⟩ ⟨j, by omega⟩)

/-- The reference's query, key and value arrays, and the two mixers' columns. -/
abbrev Q (c : Dev nD) := val_main_v69 (F := Ideal) (a0 m c) (a1 m c) (a2 m c) (a3 m c) (a4 m c)
abbrev K (c : Dev nD) := val_main_v66 (F := Ideal) (a0 m c) (a1 m c) (a2 m c) (a3 m c) (a5 m c)
abbrev K' (c : Dev nD) := val_main_v70 (F := Ideal) (a0 m c) (a1 m c) (a2 m c) (a3 m c) (a5 m c)
abbrev W (c : Dev nD) := val_main_v67 (F := Ideal) (a0 m c) (a1 m c) (a2 m c) (a3 m c)
abbrev W' (c : Dev nD) := val_main_v72 (F := Ideal) (a0 m c) (a1 m c) (a2 m c) (a3 m c)
abbrev Zc (c : Dev nD) := val_main_v74 (F := Ideal) (a0 m c) (a1 m c) (a2 m c) (a3 m c)
abbrev Zh (c : Dev nD) := val_main_v76 (F := Ideal) (a0 m c) (a1 m c) (a2 m c) (a3 m c)

/-- One element of a tile's queries: head `e` of the first half. -/
theorem qa_pt (c : Dev nD) (t : Fin cfg0.N) (e : Fin 4) (d : Fin 64) (y : Fin 1024) :
    k0_pay10 (k0_pay8 (View.ld (iblk m c 0 t) r0_0) (View.ld (iblk m c 2 t) r0_1) (View.ld (iblk m c 1 t) r0_2) (View.ld (iblk m c 1 t) r0_3) (View.ld (iblk m c 3 t) r0_4))
      (k0_pay9 (View.ld (iblk m c 0 t) r0_0) (View.ld (iblk m c 2 t) r0_1) (View.ld (iblk m c 1 t) r0_2) (View.ld (iblk m c 1 t) r0_3) (View.ld (iblk m c 3 t) r0_4) (View.ld (iblk m c 6 t) r0_5))
      (View.ld (iblk m c 4 t) r0_6) (ix2 (⟨e * 64 + d, by omega⟩ : Fin 256) y) = Q m c (ix2 ⟨e * 64 + d, by omega⟩ (tok t y)) := by
  refine (qa_at _ _ _ _ _ _ _ (proj m c t) rfl (g_at m c t) e d y).trans ?_
  rw [wq_at]
  refine Eq.trans ?_ (Cert.Reference3Ideal.Inproj.q_at _ _ _ _ _ (tok t y) ⟨e, by omega⟩ d).symm
  have h : ∀ d : Fin 64, _ := fun d => proj_eq m c t y ⟨e * 64 + d, by omega⟩
  rw [h d, show (fun d : Fin 64 => proj m c t (ix2 y ⟨e * 64 + d, by omega⟩)) = _ from funext h]

/-- One element of a tile's queries: head `e` of the second half. -/
theorem qb_pt (c : Dev nD) (t : Fin cfg0.N) (e : Fin 4) (d : Fin 64) (y : Fin 1024) :
    k0_pay11 (proj m c t) (View.ld (iblk m c 6 t) r0_5) (View.ld (iblk m c 4 t) r0_6) (ix2 (⟨e * 64 + d, by omega⟩ : Fin 256) y)
      = Q m c (ix2 ⟨256 + (e * 64 + d), by omega⟩ (tok t y)) := by
  refine (qb_at _ _ _ (g_at m c t) e d y).trans ?_
  rw [wq_at]
  have h : ∀ d : Fin 64, proj m c t (ix2 y ⟨256 + (e * 64 + d), by omega⟩) = ref m c (tok t y) ⟨(⟨4 + e, by omega⟩ : Fin 8) * 64 + d, by simp only; omega⟩ := fun d =>
    (proj_eq m c t y ⟨256 + (e * 64 + d), by omega⟩).trans (congrArg (ref m c (tok t y)) (Fin.ext (by simp only; omega)))
  refine Eq.trans ?_ ((Cert.Reference3Ideal.Inproj.q_at _ _ _ _ _ (tok t y) ⟨4 + e, by omega⟩ d).symm.trans (congrArg (fun i => Q m c (ix2 i (tok t y))) (Fin.ext (by simp only; omega))))
  rw [h d, show (fun d : Fin 64 => proj m c t (ix2 y ⟨256 + (e * 64 + d), by omega⟩)) = _ from funext h]

/-- One element of a tile's keys. -/
theorem k_pt (c : Dev nD) (t : Fin cfg0.N) (e : Fin 2) (d : Fin 64) (y : Fin 1024) :
    k0_pay12 (proj m c t) (View.ld (iblk m c 6 t) r0_9) (ix2 y (⟨e * 64 + d, by omega⟩ : Fin 128)) * View.ld (iblk m c 5 t) r0_10 (ix2 0 (⟨e * 64 + d, by omega⟩ : Fin 128))
      = K m c (ix2 (tok t y) ⟨e * 64 + d, by omega⟩) := by
  rw [k_at _ _ (g'_at m c t) e d y, wk_at]
  have h : ∀ d : Fin 64, _ := fun d => proj_eq m c t y ⟨512 + (e * 64 + d), by omega⟩
  refine Eq.trans ?_ (Cert.Reference3Ideal.Inproj.k_at _ _ _ _ _ (tok t y) e d).symm
  rw [h d, show (fun d : Fin 64 => proj m c t (ix2 y ⟨512 + (e * 64 + d), by omega⟩)) = _ from funext h]

/-- The queries' result array. -/
theorem final9 (c : Dev nD) : (dats m 0 c).arrAt 9 cfg0.N = Q m c := by
  refine (dats m 0 c).arrAt_eq_of_covers 9 _ (by decide +kernel) fun t _ j => ?_
  blk_simp
  rw [after0_9]
  unfold_out out0_9
  refine (View.canon_apply_of_pieces (fun i => Q m c (ix2 (⟨(i 0).val, (i 0).isLt⟩ : Fin 512) (tok t ⟨(i 1).val, (i 1).isLt⟩))) _ ?_ j (cover0_9 _ _ j)).trans ?_
  · intro pc hpc
    rcases List.mem_cons.mp hpc with rfl | hpc
    · intro x
      have h0 : (x 0).val < 256 := (x 0).isLt
      have hx : x = ix2 (⟨(⟨(x 0).val / 64, by omega⟩ : Fin 4) * 64 + (⟨(x 0).val % 64, by omega⟩ : Fin 64), by simp only; omega⟩ : Fin 256) (⟨(x 1).val, (x 1).isLt⟩ : Fin 1024) := by
        idx_ext
      refine (congrArg _ hx).trans ((qb_pt m c t _ _ _).trans (congrArg _ ?_))
      idx_ext
    rcases List.mem_cons.mp hpc with rfl | hpc
    · intro x
      have h0 : (x 0).val < 256 := (x 0).isLt
      have hx : x = ix2 (⟨(⟨(x 0).val / 64, by omega⟩ : Fin 4) * 64 + (⟨(x 0).val % 64, by omega⟩ : Fin 64), by simp only; omega⟩ : Fin 256) (⟨(x 1).val, (x 1).isLt⟩ : Fin 1024) := by
        idx_ext
      refine (congrArg _ hx).trans ((qa_pt m c t _ _ _).trans (congrArg _ ?_))
      idx_ext
    nomatch hpc
  · refine congrArg _ ?_
    blk_ext [idx t]

/-- The keys' element at a block's index. -/
theorem k_elem (c : Dev nD) (t : Fin cfg0.N) (j : S1024x128.Idx) :
    k0_pay12 (proj m c t) (View.ld (iblk m c 6 t) r0_9) (Value.ix10_0 j) * View.ld (iblk m c 5 t) r0_10 (Value.ix10_1 j)
      = K m c (ix2 (tok t ⟨(j 0).val, (j 0).isLt⟩) (⟨(j 1).val, (j 1).isLt⟩ : Fin 128)) := by
  have h1 : (j 1).val < 128 := (j 1).isLt
  have e0 : Value.ix10_0 j = ix2 (⟨(j 0).val, (j 0).isLt⟩ : Fin 1024) (⟨(⟨(j 1).val / 64, by omega⟩ : Fin 2) * 64 + (⟨(j 1).val % 64, by omega⟩ : Fin 64), by simp only; omega⟩ : Fin 128) := by
    idx_ext
  have e1 : Value.ix10_1 j = ix2 0 (⟨(⟨(j 1).val / 64, by omega⟩ : Fin 2) * 64 + (⟨(j 1).val % 64, by omega⟩ : Fin 64), by simp only; omega⟩ : Fin 128) := by
    idx_ext
  rw [e0, e1]
  refine (k_pt m c t _ _ _).trans (congrArg _ ?_)
  idx_ext

/-- The keys' result array. -/
theorem final10 (c : Dev nD) : (dats m 0 c).arrAt 10 cfg0.N = K m c := by
  refine (dats m 0 c).arrAt_eq_of_covers 10 _ (by decide +kernel) fun t _ j => ?_
  blk_simp
  rw [after0_10]
  unfold_out out0_10
  refine (Value.canon10_eq _ _ _ _ _ _ _ j).trans ((k_elem m c t j).trans (congrArg _ ?_))
  blk_ext [idx t]

/-- The rounded keys' result array. -/
theorem final11 (c : Dev nD) : (dats m 0 c).arrAt 11 cfg0.N = K' m c := by
  refine (dats m 0 c).arrAt_eq_of_covers 11 _ (by decide +kernel) fun t _ j => ?_
  blk_simp
  rw [after0_11]
  unfold_out out0_11
  refine (Value.canon11_eq _ _ _ _ _ _ _ j).trans ((k_elem m c t j).trans (congrArg (K m c) ?_))
  blk_ext [idx t]

/-- One element of a tile's projection at an index. -/
theorem proj_elem (c : Dev nD) (t : Fin cfg0.N) (i : S1024x2048.Idx) : proj m c t i = ref m c (tok t ⟨(i 0).val, (i 0).isLt⟩) ⟨(i 1).val, (i 1).isLt⟩ :=
  (congrArg (proj m c t) (show i = ix2 (⟨(i 0).val, (i 0).isLt⟩ : Fin 1024) (⟨(i 1).val, (i 1).isLt⟩ : Fin 2048) by idx_ext)).trans (proj_eq m c t _ _)

/-- The values' result array. -/
theorem final12 (c : Dev nD) : (dats m 0 c).arrAt 12 cfg0.N = W m c := by
  refine (dats m 0 c).arrAt_eq_of_covers 12 _ (by decide +kernel) fun t _ j => ?_
  blk_simp
  rw [after0_12]
  unfold_out out0_12
  refine (Value.canon12_eq _ _ _ _ _ j).trans ((proj_elem m c t _).trans ?_)
  refine Eq.trans (congrArg (ref m c _) (Fin.ext (Nat.add_comm _ _)))
    ((Cert.Reference3Ideal.Inproj.v_at _ _ _ _ (tok t ⟨(j 0).val, (j 0).isLt⟩) ⟨(j 1).val, (j 1).isLt⟩).symm.trans (congrArg (W m c) ?_))
  blk_ext [idx t]

/-- The transposed values' result array. -/
theorem final13 (c : Dev nD) : (dats m 0 c).arrAt 13 cfg0.N = W' m c := by
  refine (dats m 0 c).arrAt_eq_of_covers 13 _ (by decide +kernel) fun t _ j => ?_
  blk_simp
  rw [after0_13]
  unfold_out out0_13
  refine (Value.canon13_eq _ _ _ _ _ j).trans ((proj_elem m c t _).trans ?_)
  refine Eq.trans (congrArg (ref m c _) (Fin.ext (Nat.add_comm _ _)))
    ((Cert.Reference3Ideal.Inproj.v_at _ _ _ _ (tok t ⟨(j 1).val, (j 1).isLt⟩) ⟨(j 0).val, (j 0).isLt⟩).symm.trans
      ((Cert.Reference3Ideal.Inproj.vt_at _ _ _ _ _ _).symm.trans (congrArg (W' m c) ?_)))
  blk_ext [idx t]

/-- The convolution mixer's result array. -/
theorem final14 (c : Dev nD) : (dats m 0 c).arrAt 14 cfg0.N = Zc m c := by
  refine (dats m 0 c).arrAt_eq_of_covers 14 _ (by decide +kernel) fun t _ j => ?_
  blk_simp
  rw [after0_14]
  unfold_out out0_14
  refine (Value.canon14_eq _ _ _ _ _ j).trans ((proj_elem m c t _).trans ?_)
  refine Eq.trans (congrArg (ref m c _) (Fin.ext (Nat.add_comm _ _)))
    ((Cert.Reference3Ideal.Inproj.zc_at _ _ _ _ (tok t ⟨(j 0).val, (j 0).isLt⟩) ⟨(j 1).val, (j 1).isLt⟩).symm.trans (congrArg (Zc m c) ?_))
  blk_ext [idx t]

/-- The Hyena mixer's result array. -/
theorem final15 (c : Dev nD) : (dats m 0 c).arrAt 15 cfg0.N = Zh m c := by
  refine (dats m 0 c).arrAt_eq_of_covers 15 _ (by decide +kernel) fun t _ j => ?_
  blk_simp
  rw [after0_15]
  unfold_out out0_15
  refine (Value.canon15_eq _ _ _ _ _ j).trans ((proj_elem m c t _).trans ?_)
  refine Eq.trans (congrArg (ref m c _) (Fin.ext (Nat.add_comm _ _)))
    ((Cert.Reference3Ideal.Inproj.zh_at _ _ _ _ (tok t ⟨(j 0).val, (j 0).isLt⟩) ⟨(j 1).val, (j 1).isLt⟩).symm.trans (congrArg (Zh m c) ?_))
  blk_ext [idx t]

end Cert.Kernel3Ideal.Inproj

end
-- ==== Proof.RefCtx.lean ====
/- The reference of the mixing and ConvFFN part at one element, over the reals, stage by stage. -/
module

public import proofs.«01_k».proof.Proof.Gen.Reference4Ideal.Read
public import proofs.«01_k».proof.Proof.Ffn

@[expose] public section

noncomputable section

namespace Cert.Reference4Ideal.Ffn

open Cert.Reference4Ideal Cert.Reference4Ideal.Gen Cert.Reference4Ideal.Read Cert.Kernel2Ideal.Ffn Idealize.ShloMosaic

variable (x0 : FVec Ideal S32x256x1024 .f32) (x1 : FVec Ideal S32x256x512 .f32) (x2 x3 : FVec Ideal S32x256x256 .f32)
  (x4 : FVec Ideal S1x6144 .f32) (x5 : FVec Ideal S1024x1024 .f32) (x6 : FVec Ideal S1024 .f32) (x7 : FVec Ideal S1024x5632 .f32)
  (x8 : FVec Ideal S3x5632 .f32) (x9 : FVec Ideal S5632 .f32) (x10 : FVec Ideal S2816x1024 .f32) (x11 : FVec Ideal S1024 .f32)

/-- The stream after the mixing product. -/
theorem x1_at (b : Fin 32) (s : Fin 256) (d : Fin 1024) :
    val_main_v11 (F := Ideal) x0 x1 x2 x3 x4 x5 (ix3 b s d) = x0 (ix3 b s d)
      + x4 (ix2 0 ⟨2048 + d, by omega⟩) * ∑ k : Fin 1024, val_main_v7 (F := Ideal) x1 x2 x3 (ix3 b s k) * x5 (ix2 k d) := by
  generalize h : val_main_v7 (F := Ideal) x1 x2 x3 = Y
  simp only [val_main_v11, val_main_v10, val_main_v9, val_main_v8, h]
  pointwise [val_main_v3, val_main_v0]

/-- The normed and modulated stream. -/
theorem h2_at (b : Fin 32) (s : Fin 256) (d : Fin 1024) :
    val_main_v30 (F := Ideal) x0 x1 x2 x3 x4 x5 x6 (ix3 b s d) = val_main_v11 (F := Ideal) x0 x1 x2 x3 x4 x5 (ix3 b s d)
      * rms (fun k => val_main_v11 (F := Ideal) x0 x1 x2 x3 x4 x5 (ix3 b s k)) * x6 (ix1 d)
      * (1 + x4 (ix2 0 ⟨4096 + d, by omega⟩)) + x4 (ix2 0 ⟨3072 + d, by omega⟩) := by
  unfold rms
  simp only [val_main_v30, val_main_v29, val_main_v28, val_main_v27, val_main_v26, val_main_v25, val_main_v24, val_main_v23, val_main_v22, val_main_v21,
    val_main_v20, val_main_v19, val_main_v18, val_main_v17, val_main_v16, val_main_v15, val_main_v14, val_main_v13, val_main_v12]
  generalize h : val_main_v11 (F := Ideal) x0 x1 x2 x3 x4 x5 = Y
  pointwise [val_main_v4, val_main_v5, val_main_v0, val_main_cst, val_main_cst_0, val_main_cst_1, val_main_cst_2]

/-- The up products with a row of zeros before and after each sequence. -/
theorem pad_at (b : Fin 32) (s : Fin 258) (j : Fin 5632) :
    val_main_v32 (F := Ideal) x0 x1 x2 x3 x4 x5 x6 x7 (ix3 b s j) = if h : 1 ≤ s.val ∧ s.val < 257 then
      ∑ k : Fin 1024, val_main_v30 (F := Ideal) x0 x1 x2 x3 x4 x5 x6 (ix3 b ⟨s.val - 1, by omega⟩ k) * x7 (ix2 k j) else 0 := by
  simp only [val_main_v32, val_main_v31]
  generalize h : val_main_v30 (F := Ideal) x0 x1 x2 x3 x4 x5 x6 = Y
  pointwise [val_main_cst_3]
  by_cases a : 1 ≤ s.val ∧ s.val < 257
  · rw [dif_pos a, dif_pos ⟨a.1, by omega⟩]
  · rw [dif_neg a, dif_neg (by omega)]

/-- The convolved products, before the split. -/
theorem conv_at (b : Fin 32) (s : Fin 256) (j : Fin 5632) :
    val_main_v55 (F := Ideal) x0 x1 x2 x3 x4 x5 x6 x7 x8 x9 (ix3 b s j)
      = conv (val_main_v32 (F := Ideal) x0 x1 x2 x3 x4 x5 x6 x7 (ix3 b ⟨s.val, by omega⟩ j))
          (val_main_v32 (F := Ideal) x0 x1 x2 x3 x4 x5 x6 x7 (ix3 b ⟨s.val + 1, by omega⟩ j))
          (val_main_v32 (F := Ideal) x0 x1 x2 x3 x4 x5 x6 x7 (ix3 b ⟨s.val + 2, by omega⟩ j))
          (x8 (ix2 0 j)) (x8 (ix2 1 j)) (x8 (ix2 2 j)) (x9 (ix1 j)) := by
  unfold conv
  simp only [val_main_v55, val_main_v54, val_main_v53, val_main_v52, val_main_v51, val_main_v50, val_main_v49, val_main_v48, val_main_v47, val_main_v46,
    val_main_v45, val_main_v44, val_main_v43, val_main_v42, val_main_v41, val_main_v40, val_main_v39, val_main_v38, val_main_v37, val_main_v36, val_main_v35,
    val_main_v34, val_main_v33]
  generalize h : val_main_v32 (F := Ideal) x0 x1 x2 x3 x4 x5 x6 x7 = Y
  pointwise
  simp only [Nat.add_comm 1 s.val, Nat.add_comm 2 s.val]

/-- The gated product. -/
theorem act_at (b : Fin 32) (s : Fin 256) (j : Fin 2816) :
    val_main_v65 (F := Ideal) x0 x1 x2 x3 x4 x5 x6 x7 x8 x9 (ix3 b s j)
      = glu (val_main_v55 (F := Ideal) x0 x1 x2 x3 x4 x5 x6 x7 x8 x9 (ix3 b s ⟨2816 + j, by omega⟩))
          (val_main_v55 (F := Ideal) x0 x1 x2 x3 x4 x5 x6 x7 x8 x9 (ix3 b s ⟨j, by omega⟩)) := by
  unfold glu
  simp only [val_main_v65, val_main_v64, val_main_v63, val_main_v62, val_main_v61, val_main_v60, val_main_v59, val_main_v58, val_main_v57, val_main_v56]
  generalize h : val_main_v55 (F := Ideal) x0 x1 x2 x3 x4 x5 x6 x7 x8 x9 = Y
  pointwise [val_main_cst_4, val_main_cst_5]

/-- The stream after the down product. -/
theorem x2_at (b : Fin 32) (s : Fin 256) (d : Fin 1024) :
    val_main_v69 (F := Ideal) x0 x1 x2 x3 x4 x5 x6 x7 x8 x9 x10 (ix3 b s d)
      = val_main_v11 (F := Ideal) x0 x1 x2 x3 x4 x5 (ix3 b s d)
        + x4 (ix2 0 ⟨5120 + d, by omega⟩) * ∑ k : Fin 2816, val_main_v65 (F := Ideal) x0 x1 x2 x3 x4 x5 x6 x7 x8 x9 (ix3 b s k) * x10 (ix2 k d) := by
  simp only [val_main_v69, val_main_v68, val_main_v67, val_main_v66]
  generalize h : val_main_v65 (F := Ideal) x0 x1 x2 x3 x4 x5 x6 x7 x8 x9 = Y
  generalize h : val_main_v11 (F := Ideal) x0 x1 x2 x3 x4 x5 = Z
  pointwise [val_main_v6, val_main_v0]

/-- The result: the final norm of the stream. -/
theorem out_at (n : Fin 8192) (d : Fin 1024) :
    val_main_v83 (F := Ideal) x0 x1 x2 x3 x4 x5 x6 x7 x8 x9 x10 x11 (ix2 n d)
      = val_main_v69 (F := Ideal) x0 x1 x2 x3 x4 x5 x6 x7 x8 x9 x10 (ix3 ⟨n / 256, by omega⟩ ⟨n % 256, by omega⟩ d)
        * rms (fun k => val_main_v69 (F := Ideal) x0 x1 x2 x3 x4 x5 x6 x7 x8 x9 x10 (ix3 ⟨n / 256, by omega⟩ ⟨n % 256, by omega⟩ k))
        * x11 (ix1 d) := by
  unfold rms
  simp only [val_main_v83, val_main_v82, val_main_v81, val_main_v80, val_main_v79, val_main_v78, val_main_v77, val_main_v76, val_main_v75, val_main_v74,
    val_main_v73, val_main_v72, val_main_v71, val_main_v70]
  generalize h : val_main_v69 (F := Ideal) x0 x1 x2 x3 x4 x5 x6 x7 x8 x9 x10 = Y
  pointwise [val_main_cst_6, val_main_cst_7, val_main_cst_8]

end Cert.Reference4Ideal.Ffn

end
-- ==== Proof.Ctx.lean ====
/- The mixing call on the prompts: its arithmetic at one element, over the reals. A tile holds two prompts of 256 tokens, each with eight
   rows of zeros before and after it. -/
module

public import proofs.«01_k».proof.Proof.Gen.Kernel4Ideal.Skeleton
public import proofs.«01_k».proof.Proof.Ffn

@[expose] public section

noncomputable section

namespace Cert.Kernel4Ideal.Ctx

open Idealize.ShloMosaic Cert.Kernel4Ideal Cert.Kernel4Ideal.Gen
open Cert.Kernel2Ideal.Ffn (rms conv glu)

/-- The three mixers' outputs side by side. -/
def mix (A : Vec Ideal S512x512 .bf16) (B C : Vec Ideal S512x256 .bf16) (r : Fin 512) (k : Fin 1024) : EReal :=
  if a : k.val < 512 then A (ix2 r ⟨k, a⟩) else if b : k.val - 512 < 256 then B (ix2 r ⟨k.val - 512, b⟩)
    else C (ix2 r ⟨k.val - 512 - 256, by omega⟩)

/-- The residual stream after the mixing product: the input, plus the gain times a row of the product. -/
theorem x1_at (A : Vec Ideal S512x512 .bf16) (B C : Vec Ideal S512x256 .bf16) (X : Vec Ideal S512x1024 .f32) (M : Vec Ideal S1x1x1024 .f32)
    (W : Vec Ideal S1024x1024 .bf16) (r : Fin 512) (d : Fin 1024) :
    k0_pay2 A B C X M W (ix2 r d) = X (ix2 r d) + M (ix3 0 0 d) * ∑ k : Fin 1024, mix A B C r k * W (ix2 k d) := by
  unfold mix
  pointwise [k0_pay2]

/-- The normed and modulated stream at row `y`. -/
def hx (Y : FVec Ideal S512x1024 .f32) (n : Vec Ideal S1x1024 .f32) (sc sh : Vec Ideal S1x1x1024 .f32) (y : Fin 512) (k : Fin 1024) : EReal :=
  Y (ix2 y k) * rms (fun k => Y (ix2 y k)) * n (ix2 0 k) * (1 + sc (ix3 0 0 k)) + sh (ix3 0 0 k)

/-- The stream's rows with the zeros around each prompt. -/
theorem hb_at (A : Vec Ideal S512x512 .bf16) (B C : Vec Ideal S512x256 .bf16) (X : Vec Ideal S512x1024 .f32) (M : Vec Ideal S1x1x1024 .f32)
    (W : Vec Ideal S1024x1024 .bf16) (n : Vec Ideal S1x1024 .f32) (sc sh : Vec Ideal S1x1x1024 .f32) (r : Fin 536) (k : Fin 1024) :
    k0_pay7 (k0_pay3 (F := Ideal)) (k0_pay4 A B C X M W n) (k0_pay5 sc) (k0_pay6 (F := Ideal)) sh (ix2 r k)
      = if h : 8 ≤ r.val ∧ r.val < 264 then hx (k0_pay2 A B C X M W) n sc sh ⟨r.val - 8, by omega⟩ k
        else if h : 272 ≤ r.val ∧ r.val < 528 then hx (k0_pay2 A B C X M W) n sc sh ⟨r.val - 16, by omega⟩ k else 0 := by
  generalize hY : k0_pay2 A B C X M W = Y
  unfold hx rms
  simp only [k0_pay7, k0_pay4, hY]
  pointwise [k0_pay3, k0_pay5, k0_pay6]
  by_cases a1 : r.val < 8
  · simp [a1, show ¬ 8 ≤ r.val by omega, show ¬ 272 ≤ r.val by omega]
  by_cases a2 : r.val - 8 < 256
  · simp [a1, a2, hY, show 8 ≤ r.val by omega, show r.val < 264 by omega]
  by_cases a3 : r.val - 8 - 256 < 8
  · simp [a1, a2, a3, show ¬ r.val < 264 by omega, show ¬ 272 ≤ r.val by omega]
  by_cases a4 : r.val - 8 - 256 - 8 < 256
  · have e : (⟨256 + (r.val - 8 - 256 - 8), by omega⟩ : Fin 512) = ⟨r.val - 16, by omega⟩ := Fin.ext (by simp only; omega)
    simp [a1, a2, a3, a4, e, hY, show ¬ r.val < 264 by omega, show 272 ≤ r.val by omega, show r.val < 528 by omega]
  · simp [a1, a2, a3, a4, show ¬ r.val < 264 by omega, show ¬ r.val < 528 by omega]

/-- An entry of the up product's first half. -/
theorem pv_at (z : FVec Ideal S8x1024 .f32) (a : FVec Ideal S512x1024 .f32) (b o : FVec Ideal S1x1024 .f32) (q : Vec Ideal S1x1x1024 .f32)
    (w : Vec Ideal S1024x2816 .bf16) (r : Fin 536) (j : Fin 2816) :
    k0_pay8 z a b o q w (ix3 0 r j) = ∑ k : Fin 1024, k0_pay7 z a b o q (ix2 r k) * w (ix2 k j) := by
  generalize h : k0_pay7 z a b o q = Y
  simp only [k0_pay8, h]
  pointwise

/-- An entry of the up product's second half. -/
theorem pg_at (z : FVec Ideal S8x1024 .f32) (a : FVec Ideal S512x1024 .f32) (b o : FVec Ideal S1x1024 .f32) (q : Vec Ideal S1x1x1024 .f32)
    (w : Vec Ideal S1024x2816 .bf16) (r : Fin 536) (j : Fin 2816) :
    k0_pay9 z a b o q w (ix3 0 r j) = ∑ k : Fin 1024, k0_pay7 z a b o q (ix2 r k) * w (ix2 k j) := by
  generalize h : k0_pay7 z a b o q = Y
  simp only [k0_pay9, h]
  pointwise

/-- A strip of 256 columns of the gated product, from the gate's and the value's taps, products and biases. -/
def strip (wg : Vec Ideal S3x256 .f32) (pg : Vec Ideal S1x536x256 .f32) (bg : Vec Ideal S1x256 .f32)
    (wv : Vec Ideal S3x256 .f32) (pv : Vec Ideal S1x536x256 .f32) (bv : Vec Ideal S1x256 .f32) : FVec Ideal S512x256 .bf16 :=
  k0_pay35 (F := Ideal) (k0_pay34 (F := Ideal) wg pg bg bg) wv pv bv bv

/-- A strip at one element: row `y` reads the products' row `r` and its two neighbours, with `r` the row of the padded tile. -/
theorem strip_at (wg : Vec Ideal S3x256 .f32) (pg : Vec Ideal S1x536x256 .f32) (bg : Vec Ideal S1x256 .f32)
    (wv : Vec Ideal S3x256 .f32) (pv : Vec Ideal S1x536x256 .f32) (bv : Vec Ideal S1x256 .f32) (y : Fin 512) (j : Fin 256)
    (p q r : Fin 536) (hp : p.val = y + 7 + y / 256 * 8) (hq : q.val = y + 8 + y / 256 * 8) (hr : r.val = y + 9 + y / 256 * 8) :
    strip wg pg bg wv pv bv (ix2 y j)
      = glu (conv (pg (ix3 0 p j)) (pg (ix3 0 q j)) (pg (ix3 0 r j)) (wg (ix2 0 j)) (wg (ix2 1 j)) (wg (ix2 2 j)) (bg (ix2 0 j)))
        (conv (pv (ix3 0 p j)) (pv (ix3 0 q j)) (pv (ix3 0 r j)) (wv (ix2 0 j)) (wv (ix2 1 j)) (wv (ix2 2 j)) (bv (ix2 0 j))) := by
  unfold strip glu conv
  pointwise [k0_pay34, k0_pay35]
  by_cases a : y.val < 256
  · have ep : (⟨(8 + y.val + 536 - 1) % 536, by omega⟩ : Fin 536) = p := Fin.ext (by simp only; omega)
    have eq : (⟨8 + y.val, by omega⟩ : Fin 536) = q := Fin.ext (by simp only; omega)
    have er : (⟨(8 + y.val + 536 - 535) % 536, by omega⟩ : Fin 536) = r := Fin.ext (by simp only; omega)
    simp only [a, dif_pos, ep, eq, er, sub_eq_add_neg, zero_add]
  · have ep : (⟨(272 + (y.val - 256) + 536 - 1) % 536, by omega⟩ : Fin 536) = p := Fin.ext (by simp only; omega)
    have eq : (⟨272 + (y.val - 256), by omega⟩ : Fin 536) = q := Fin.ext (by simp only; omega)
    have er : (⟨(272 + (y.val - 256) + 536 - 535) % 536, by omega⟩ : Fin 536) = r := Fin.ext (by simp only; omega)
    simp only [a, dif_neg, not_false_eq_true, ep, eq, er, sub_eq_add_neg, zero_add]

/-- The stream after the down product, times the norm's factor. -/
theorem down_at (u : FVec Ideal S512x1024 .f32) (md : Vec Ideal S1x1x1024 .f32) (ac : Vec Ideal S512x2816 .bf16)
    (w : Vec Ideal S2816x1024 .bf16) (n : Vec Ideal S1x1024 .f32) (y : Fin 512) (d : Fin 1024) (z : Fin 1024 → EReal)
    (hz : ∀ d, z d = u (ix2 y d) + md (ix3 0 0 d) * ∑ k : Fin 2816, ac (ix2 y k) * w (ix2 k d)) :
    k0_pay1 (k0_pay113 u md ac w) (k0_pay114 u md ac w) (Scalar.ofBits (F := Ideal) .f32 0x358637BD#32) n (ix2 y d) = z d * rms z * n (ix2 0 d) := by
  have hz' : z = fun d => u (ix2 y d) + md (ix3 0 0 d) * ∑ k : Fin 2816, ac (ix2 y k) * w (ix2 k d) := funext hz
  subst hz'
  unfold rms
  pointwise [k0_pay1, k0_pay113, k0_pay114]

/-- Strip 0 is the same arithmetic. -/
theorem strip0 (wg : Vec Ideal S3x256 .f32) (pg : Vec Ideal S1x536x256 .f32) (bg : Vec Ideal S1x256 .f32)
    (wv : Vec Ideal S3x256 .f32) (pv : Vec Ideal S1x536x256 .f32) (bv : Vec Ideal S1x256 .f32) :
    k0_pay20 (F := Ideal) (k0_pay15 (F := Ideal) wg (k0_pay10 (F := Ideal) pg) (k0_pay11 (F := Ideal) pg) (k0_pay12 (F := Ideal) pg) (k0_pay13 (F := Ideal) wg pg) (k0_pay14 (F := Ideal) wg pg) bg bg) wv (k0_pay16 (F := Ideal) pv) (k0_pay17 (F := Ideal) pv) (k0_pay18 (F := Ideal) pv) (k0_pay19 (F := Ideal) wv pv) bv bv = strip wg pg bg wv pv bv := rfl

/-- Strip 1 is the same arithmetic. -/
theorem strip1 (wg : Vec Ideal S3x256 .f32) (pg : Vec Ideal S1x536x256 .f32) (bg : Vec Ideal S1x256 .f32)
    (wv : Vec Ideal S3x256 .f32) (pv : Vec Ideal S1x536x256 .f32) (bv : Vec Ideal S1x256 .f32) :
    k0_pay29 (F := Ideal) (k0_pay26 (F := Ideal) wg (k0_pay21 (F := Ideal) pg) (k0_pay22 (F := Ideal) pg) (k0_pay23 (F := Ideal) pg) (k0_pay24 (F := Ideal) pg) (k0_pay25 (F := Ideal) wg) bg bg) wv (k0_pay27 (F := Ideal) pv) (k0_pay28 (F := Ideal) pv) (535#32) bv bv = strip wg pg bg wv pv bv := rfl

/-- Strip 2 is the same arithmetic. -/
theorem strip2 (wg : Vec Ideal S3x256 .f32) (pg : Vec Ideal S1x536x256 .f32) (bg : Vec Ideal S1x256 .f32)
    (wv : Vec Ideal S3x256 .f32) (pv : Vec Ideal S1x536x256 .f32) (bv : Vec Ideal S1x256 .f32) :
    k0_pay33 (F := Ideal) (k0_pay32 (F := Ideal) wg (k0_pay30 (F := Ideal) pg) (k0_pay31 (F := Ideal) pg) bg bg) wv pv bv bv = strip wg pg bg wv pv bv := rfl

/-- Strip 4 is the same arithmetic. -/
theorem strip4 (wg : Vec Ideal S3x256 .f32) (pg : Vec Ideal S1x536x256 .f32) (bg : Vec Ideal S1x256 .f32)
    (wv : Vec Ideal S3x256 .f32) (pv : Vec Ideal S1x536x256 .f32) (bv : Vec Ideal S1x256 .f32) :
    k0_pay39 (F := Ideal) (k0_pay38 (F := Ideal) (k0_pay36 (F := Ideal) wg pg bg bg) (k0_pay37 (F := Ideal) wg pg bg bg) wv pv bv bv) = strip wg pg bg wv pv bv := rfl

/-- Strip 5 is the same arithmetic. -/
theorem strip5 (wg : Vec Ideal S3x256 .f32) (pg : Vec Ideal S1x536x256 .f32) (bg : Vec Ideal S1x256 .f32)
    (wv : Vec Ideal S3x256 .f32) (pv : Vec Ideal S1x536x256 .f32) (bv : Vec Ideal S1x256 .f32) :
    k0_pay49 (F := Ideal) (k0_pay42 (F := Ideal) (k0_pay40 (F := Ideal) wg pg bg bg) (k0_pay41 (F := Ideal))) (k0_pay46 (F := Ideal) wv pv bv) (k0_pay47 (F := Ideal) wv pv) (k0_pay48 (F := Ideal) bv) = strip wg pg bg wv pv bv := rfl

/-- Strip 6 is the same arithmetic. -/
theorem strip6 (wg : Vec Ideal S3x256 .f32) (pg : Vec Ideal S1x536x256 .f32) (bg : Vec Ideal S1x256 .f32)
    (wv : Vec Ideal S3x256 .f32) (pv : Vec Ideal S1x536x256 .f32) (bv : Vec Ideal S1x256 .f32) :
    k0_pay62 (F := Ideal) (k0_pay56 (F := Ideal) (k0_pay53 (F := Ideal) wg pg bg) (k0_pay54 (F := Ideal) wg pg) (k0_pay55 (F := Ideal) bg)) (k0_pay60 (F := Ideal) wv pv bv) (k0_pay61 (F := Ideal) wv pv) bv = strip wg pg bg wv pv bv := rfl

/-- Strip 7 is the same arithmetic. -/
theorem strip7 (wg : Vec Ideal S3x256 .f32) (pg : Vec Ideal S1x536x256 .f32) (bg : Vec Ideal S1x256 .f32)
    (wv : Vec Ideal S3x256 .f32) (pv : Vec Ideal S1x536x256 .f32) (bv : Vec Ideal S1x256 .f32) :
    k0_pay75 (F := Ideal) (k0_pay69 (F := Ideal) (k0_pay66 (F := Ideal) wg pg bg) (k0_pay67 (F := Ideal) wg pg) (k0_pay68 (F := Ideal) wg pg) bg) wv (k0_pay72 (F := Ideal) pv) (k0_pay73 (F := Ideal) wv pv bv) (k0_pay74 (F := Ideal) wv pv) bv = strip wg pg bg wv pv bv := rfl

/-- Strip 8 is the same arithmetic. -/
theorem strip8 (wg : Vec Ideal S3x256 .f32) (pg : Vec Ideal S1x536x256 .f32) (bg : Vec Ideal S1x256 .f32)
    (wv : Vec Ideal S3x256 .f32) (pv : Vec Ideal S1x536x256 .f32) (bv : Vec Ideal S1x256 .f32) :
    k0_pay88 (F := Ideal) (k0_pay82 (F := Ideal) wg (k0_pay78 (F := Ideal) pg) (k0_pay79 (F := Ideal) wg pg bg) (k0_pay80 (F := Ideal) wg pg) (k0_pay81 (F := Ideal) wg pg) bg) wv (k0_pay83 (F := Ideal) pv) (k0_pay85 (F := Ideal) pv) (k0_pay86 (F := Ideal) wv pv bv) (k0_pay87 (F := Ideal) wv pv) bv = strip wg pg bg wv pv bv := rfl

/-- Strip 9 is the same arithmetic. -/
theorem strip9 (wg : Vec Ideal S3x256 .f32) (pg : Vec Ideal S1x536x256 .f32) (bg : Vec Ideal S1x256 .f32)
    (wv : Vec Ideal S3x256 .f32) (pv : Vec Ideal S1x536x256 .f32) (bv : Vec Ideal S1x256 .f32) :
    k0_pay101 (F := Ideal) (k0_pay95 (F := Ideal) wg (k0_pay89 (F := Ideal) pg) (k0_pay91 (F := Ideal) pg) (k0_pay92 (F := Ideal) wg pg bg) (k0_pay93 (F := Ideal) pg) (k0_pay94 (F := Ideal) wg) bg) wv (k0_pay96 (F := Ideal) pv) (k0_pay97 (F := Ideal) pv) (k0_pay98 (F := Ideal) pv) (k0_pay99 (F := Ideal) wv pv) (k0_pay100 (F := Ideal) bv) bv = strip wg pg bg wv pv bv := rfl

/-- Strip 10 is the same arithmetic. -/
theorem strip10 (wg : Vec Ideal S3x256 .f32) (pg : Vec Ideal S1x536x256 .f32) (bg : Vec Ideal S1x256 .f32)
    (wv : Vec Ideal S3x256 .f32) (pv : Vec Ideal S1x536x256 .f32) (bv : Vec Ideal S1x256 .f32) :
    k0_pay112 (F := Ideal) (k0_pay107 (F := Ideal) wg (k0_pay102 (F := Ideal) pg) (k0_pay103 (F := Ideal) pg) (k0_pay104 (F := Ideal) pg) (k0_pay105 (F := Ideal) wg pg) (k0_pay106 (F := Ideal) bg) bg) wv (k0_pay108 (F := Ideal) pv) (k0_pay109 (F := Ideal) pv) (k0_pay110 (F := Ideal) pv) (k0_pay111 (F := Ideal) wv pv) bv bv = strip wg pg bg wv pv bv := rfl

end Cert.Kernel4Ideal.Ctx

end
-- ==== Proof.CtxEntry.lean ====
/- What the mixing call's windows stage on the prompts: the arguments, as the host code lays them out. -/
module

public import proofs.«01_k».proof.Proof.RefCtx
public import proofs.«01_k».proof.Proof.Ctx
public import proofs.«01_k».proof.Proof.Gen.Kernel4Ideal.Value

@[expose] public section

set_option maxRecDepth 16384

noncomputable section

namespace Cert.Kernel4Ideal.Ctx

open Cert.Kernel4Ideal Cert.Kernel4Ideal.Gen Idealize.ShloMosaic Idealize.ShloMosaic.TcCoe Idealize.SL.Sem

variable (m : (ℓ : Loc nD τ sig) → Buf (Elt Ideal) ℓ)

/-- The block indices of the windows at grid point `t`, the tile of 512 tokens. -/
theorem idx : ∀ t : Fin cfg0.N, win0_0.index t = ![t.val, 0] ∧ win0_3.index t = ![t.val, 0] ∧ win0_6.index t = ![t.val, 0]
    ∧ win0_9.index t = ![t.val, 0] ∧ win0_20.index t = ![t.val, 0] :=
  (by decide +kernel : ∀ t : Fin grid0.N, _)

/-- The blocks that stay the same at every grid point. -/
theorem idx0 : ∀ t : Fin cfg0.N, win0_12.index t = ![0, 0, 0] ∧ win0_13.index t = ![0, 0] ∧ win0_14.index t = ![0, 0] ∧ win0_15.index t = ![0, 0]
    ∧ win0_16.index t = ![0, 0] ∧ win0_17.index t = ![0, 0] ∧ win0_18.index t = ![0, 0] ∧ win0_19.index t = ![0, 0] :=
  (by decide +kernel : ∀ t : Fin grid0.N, _)

theorem tN (t : Fin cfg0.N) : t.val < 16 := t.isLt

/-- The twelve arguments. -/
abbrev a0 (c : Dev nD) : FVec Ideal S32x256x1024 .f32 := m ((c : Thread nD τ).loc main_arg0)
abbrev a1 (c : Dev nD) : FVec Ideal S32x256x512 .f32 := m ((c : Thread nD τ).loc main_arg1)
abbrev a2 (c : Dev nD) : FVec Ideal S32x256x256 .f32 := m ((c : Thread nD τ).loc main_arg2)
abbrev a3 (c : Dev nD) : FVec Ideal S32x256x256 .f32 := m ((c : Thread nD τ).loc main_arg3)
abbrev a4 (c : Dev nD) : FVec Ideal S1x6144 .f32 := m ((c : Thread nD τ).loc main_arg4)
abbrev a5 (c : Dev nD) : FVec Ideal S1024x1024 .f32 := m ((c : Thread nD τ).loc main_arg5)
abbrev a6 (c : Dev nD) : FVec Ideal S1024 .f32 := m ((c : Thread nD τ).loc main_arg6)
abbrev a7 (c : Dev nD) : FVec Ideal S1024x5632 .f32 := m ((c : Thread nD τ).loc main_arg7)
abbrev a8 (c : Dev nD) : FVec Ideal S3x5632 .f32 := m ((c : Thread nD τ).loc main_arg8)
abbrev a9 (c : Dev nD) : FVec Ideal S5632 .f32 := m ((c : Thread nD τ).loc main_arg9)
abbrev a10 (c : Dev nD) : FVec Ideal S2816x1024 .f32 := m ((c : Thread nD τ).loc main_arg10)
abbrev a11 (c : Dev nD) : FVec Ideal S1024 .f32 := m ((c : Thread nD τ).loc main_arg11)

theorem b0_at (c : Dev nD) (t : Fin cfg0.N) (r : Fin 512) (d : Fin 1024) (b : Fin 32) (s : Fin 256) (h : t.val * 512 + r = b.val * 256 + s) :
    (show EReal from iblk m c 0 t (ix2 r d)) = a0 m c (ix3 b s d) := by
  blk_simp [iblk]
  entry_read
  pointwise
  blk_ext [idx t]

theorem b3_at (c : Dev nD) (t : Fin cfg0.N) (r : Fin 512) (d : Fin 512) (b : Fin 32) (s : Fin 256) (h : t.val * 512 + r = b.val * 256 + s) :
    (show EReal from iblk m c 3 t (ix2 r d)) = a1 m c (ix3 b s d) := by
  blk_simp [iblk]
  entry_read
  pointwise
  blk_ext [idx t]

theorem b6_at (c : Dev nD) (t : Fin cfg0.N) (r : Fin 512) (d : Fin 256) (b : Fin 32) (s : Fin 256) (h : t.val * 512 + r = b.val * 256 + s) :
    (show EReal from iblk m c 6 t (ix2 r d)) = a2 m c (ix3 b s d) := by
  blk_simp [iblk]
  entry_read
  pointwise
  blk_ext [idx t]

theorem b9_at (c : Dev nD) (t : Fin cfg0.N) (r : Fin 512) (d : Fin 256) (b : Fin 32) (s : Fin 256) (h : t.val * 512 + r = b.val * 256 + s) :
    (show EReal from iblk m c 9 t (ix2 r d)) = a3 m c (ix3 b s d) := by
  blk_simp [iblk]
  entry_read
  pointwise
  blk_ext [idx t]

/-- The modulation rows as staged: the prompts' row and seven rows of zeros. -/
theorem V2 (c : Dev nD) : V m c main_v2 =
    concatenate S8x6x1024 0 [⟨S1x6x1024, shapeCast S1x6x1024 (a4 m c) shapeCasts_S1x6144_S1x6x1024⟩,
      ⟨S7x6x1024, broadcastInDim S7x6x1024 ![] bcast_S_S7x6x1024 (constant (F := Ideal) S_ .f32 0x00000000#32)⟩]
      concatenates_S1x6x1024_S7x6x1024_S8x6x1024_d0 := by
  rfl

theorem b12_at (c : Dev nD) (t : Fin cfg0.N) (r : Fin 6) (d : Fin 1024) :
    (show EReal from iblk m c 12 t (ix3 0 r d)) = a4 m c (ix2 0 ⟨r * 1024 + d, by omega⟩) := by
  have e : (win0_12.blk t).view.emb (ix3 0 r d) = ix3 (0 : Fin 8) r d := by
    blk_ext [idx0 t]
  blk_simp [iblk]
  rw [V2]
  rw [e]
  pointwise

theorem b13_at (c : Dev nD) (t : Fin cfg0.N) (r : Fin 1024) (d : Fin 1024) :
    (show EReal from iblk m c 13 t (ix2 r d)) = a5 m c (ix2 r d) := by
  blk_simp [iblk]
  entry_read
  pointwise
  blk_ext [idx0 t]

theorem b14_at (c : Dev nD) (t : Fin cfg0.N) (d : Fin 1024) :
    (show EReal from iblk m c 14 t (ix2 0 d)) = a6 m c (ix1 d) := by
  blk_simp [iblk]
  entry_read
  pointwise
  blk_ext [idx0 t]

theorem b15_at (c : Dev nD) (t : Fin cfg0.N) (r : Fin 1024) (d : Fin 5632) :
    (show EReal from iblk m c 15 t (ix2 r d)) = a7 m c (ix2 r d) := by
  blk_simp [iblk]
  entry_read
  pointwise
  blk_ext [idx0 t]

theorem b16_at (c : Dev nD) (t : Fin cfg0.N) (r : Fin 3) (d : Fin 5632) :
    (show EReal from iblk m c 16 t (ix2 r d)) = a8 m c (ix2 r d) := by
  blk_simp [iblk]
  entry_read
  pointwise
  blk_ext [idx0 t]

theorem b17_at (c : Dev nD) (t : Fin cfg0.N) (d : Fin 5632) :
    (show EReal from iblk m c 17 t (ix2 0 d)) = a9 m c (ix1 d) := by
  blk_simp [iblk]
  entry_read
  pointwise
  blk_ext [idx0 t]

theorem b18_at (c : Dev nD) (t : Fin cfg0.N) (r : Fin 2816) (d : Fin 1024) :
    (show EReal from iblk m c 18 t (ix2 r d)) = a10 m c (ix2 r d) := by
  blk_simp [iblk]
  entry_read
  pointwise
  blk_ext [idx0 t]

theorem b19_at (c : Dev nD) (t : Fin cfg0.N) (d : Fin 1024) :
    (show EReal from iblk m c 19 t (ix2 0 d)) = a11 m c (ix1 d) := by
  blk_simp [iblk]
  entry_read
  pointwise
  blk_ext [idx0 t]

end Cert.Kernel4Ideal.Ctx

end
-- ==== Proof.CtxRows.lean ====
/- The mixing call on the prompts, row by row as the reference's: the stream after the mixing product, its norm, the padded up product and
   the gated strips, each row of a tile with the token of the prompt that it stands for. -/
module

public import proofs.«01_k».proof.Proof.CtxEntry

@[expose] public section

set_option maxRecDepth 16384

noncomputable section

namespace Cert.Kernel4Ideal.Ctx

open Cert.Kernel4Ideal Cert.Kernel4Ideal.Gen Idealize.ShloMosaic Idealize.ShloMosaic.TcCoe Idealize.SL.Sem
open Cert.Reference4Ideal.Read (val_main_v7 val_main_v11 val_main_v30 val_main_v32 val_main_v55 val_main_v65 val_main_v69 val_main_v83)

/-- The reference's mixers' outputs side by side. -/
theorem v7_at (x1 : FVec Ideal S32x256x512 .f32) (x2 x3 : FVec Ideal S32x256x256 .f32) (b : Fin 32) (s : Fin 256) (k : Fin 1024) :
    val_main_v7 (F := Ideal) x1 x2 x3 (ix3 b s k) = if a : k.val < 512 then x1 (ix3 b s ⟨k, a⟩) else
      if a2 : k.val - 512 < 256 then x2 (ix3 b s ⟨k.val - 512, a2⟩) else x3 (ix3 b s ⟨k.val - 512 - 256, by omega⟩) := by
  pointwise [val_main_v7]

variable (m : (ℓ : Loc nD τ sig) → Buf (Elt Ideal) ℓ)

/-- What a tile's operands are, as the reference's arrays: row `y` of the tile stands for token `s` of prompt `b`. -/
structure Tile (c : Dev nD) (t : Fin cfg0.N) (A : Vec Ideal S512x512 .bf16) (B C : Vec Ideal S512x256 .bf16) (X : Vec Ideal S512x1024 .f32)
    (M : Vec Ideal S1x1x1024 .f32) (W : Vec Ideal S1024x1024 .bf16) (n : Vec Ideal S1x1024 .f32) (sc sh : Vec Ideal S1x1x1024 .f32) : Prop where
  mixed : ∀ (y : Fin 512) (b : Fin 32) (s : Fin 256) (k : Fin 1024), t.val * 512 + y = b.val * 256 + s →
    mix A B C y k = val_main_v7 (F := Ideal) (a1 m c) (a2 m c) (a3 m c) (ix3 b s k)
  inp : ∀ (y : Fin 512) (b : Fin 32) (s : Fin 256) (d : Fin 1024), t.val * 512 + y = b.val * 256 + s → X (ix2 y d) = a0 m c (ix3 b s d)
  gain : ∀ d : Fin 1024, M (ix3 0 0 d) = a4 m c (ix2 0 ⟨2048 + d, by omega⟩)
  wo : ∀ r d : Fin 1024, W (ix2 r d) = a5 m c (ix2 r d)
  nw : ∀ d : Fin 1024, n (ix2 0 d) = a6 m c (ix1 d)
  scale : ∀ d : Fin 1024, sc (ix3 0 0 d) = a4 m c (ix2 0 ⟨4096 + d, by omega⟩)
  shift : ∀ d : Fin 1024, sh (ix3 0 0 d) = a4 m c (ix2 0 ⟨3072 + d, by omega⟩)

variable {m} {c : Dev nD} {t : Fin cfg0.N} {A : Vec Ideal S512x512 .bf16} {B C : Vec Ideal S512x256 .bf16} {X : Vec Ideal S512x1024 .f32}
    {M : Vec Ideal S1x1x1024 .f32} {W : Vec Ideal S1024x1024 .bf16} {n : Vec Ideal S1x1024 .f32} {sc sh : Vec Ideal S1x1x1024 .f32}

/-- The stream after the mixing product. -/
theorem x1_row (T : Tile m c t A B C X M W n sc sh) (y : Fin 512) (b : Fin 32) (s : Fin 256) (d : Fin 1024) (h : t.val * 512 + y = b.val * 256 + s) :
    k0_pay2 A B C X M W (ix2 y d) = val_main_v11 (F := Ideal) (a0 m c) (a1 m c) (a2 m c) (a3 m c) (a4 m c) (a5 m c) (ix3 b s d) := by
  rw [x1_at, Cert.Reference4Ideal.Ffn.x1_at, T.inp y b s d h, T.gain]
  refine congrArg (fun z => _ + _ * z) (Finset.sum_congr rfl fun k _ => ?_)
  rw [T.mixed y b s k h, T.wo]

/-- The normed and modulated stream. -/
theorem hx_row (T : Tile m c t A B C X M W n sc sh) (y : Fin 512) (b : Fin 32) (s : Fin 256) (d : Fin 1024) (h : t.val * 512 + y = b.val * 256 + s) :
    hx (k0_pay2 A B C X M W) n sc sh y d = val_main_v30 (F := Ideal) (a0 m c) (a1 m c) (a2 m c) (a3 m c) (a4 m c) (a5 m c) (a6 m c) (ix3 b s d) := by
  unfold hx
  rw [Cert.Reference4Ideal.Ffn.h2_at, T.nw, T.scale, T.shift, x1_row T y b s d h]
  rw [show (fun k => k0_pay2 A B C X M W (ix2 y k)) = fun k => val_main_v11 (F := Ideal) (a0 m c) (a1 m c) (a2 m c) (a3 m c) (a4 m c) (a5 m c) (ix3 b s k) from funext fun k => x1_row T y b s k h]

/-- The up product's row, zero outside of the prompt: a row of the padded product. Row `r` stands for row `p` of padded prompt `g` of the tile. -/
theorem up_row (T : Tile m c t A B C X M W n sc sh) (w : Vec Ideal S1024x2816 .bf16) (r : Fin 536) (b : Fin 32) (p : Fin 258) (g : ℕ) (hg : g < 2)
    (hb : b.val = 2 * t.val + g) (hr : r.val = 264 * g + p + 7) (j : Fin 2816) (J : Fin 5632) (hw : ∀ k : Fin 1024, w (ix2 k j) = a7 m c (ix2 k J)) :
    ∑ k : Fin 1024, k0_pay7 (k0_pay3 (F := Ideal)) (k0_pay4 A B C X M W n) (k0_pay5 sc) (k0_pay6 (F := Ideal)) sh (ix2 r k) * w (ix2 k j)
      = val_main_v32 (F := Ideal) (a0 m c) (a1 m c) (a2 m c) (a3 m c) (a4 m c) (a5 m c) (a6 m c) (a7 m c) (ix3 b p J) := by
  have hp := p.isLt
  have hg' : g = 0 ∨ g = 1 := by omega
  rw [Cert.Reference4Ideal.Ffn.pad_at]
  by_cases e : 1 ≤ p.val ∧ p.val < 257
  · rw [dif_pos e]
    refine Finset.sum_congr rfl fun k _ => ?_
    rw [hb_at, hw]
    refine congrArg (· * _) ?_
    obtain rfl | rfl := hg'
    · rw [dif_pos ⟨by omega, by omega⟩]
      exact hx_row T _ b ⟨p.val - 1, by omega⟩ k (by simp only; omega)
    · rw [dif_neg (by omega), dif_pos ⟨by omega, by omega⟩]
      exact hx_row T _ b ⟨p.val - 1, by omega⟩ k (by simp only; omega)
  · rw [dif_neg e]
    refine Finset.sum_eq_zero fun k _ => ?_
    rw [hb_at, dif_neg (by omega), dif_neg (by omega), zero_mul]

/-- A strip of the gated product: the reference's entries of those columns. -/
theorem strip_val (wg : Vec Ideal S3x256 .f32) (pg : Vec Ideal S1x536x256 .f32) (bg : Vec Ideal S1x256 .f32)
    (wv : Vec Ideal S3x256 .f32) (pv : Vec Ideal S1x536x256 .f32) (bv : Vec Ideal S1x256 .f32) (y : Fin 512) (j : Fin 256)
    (b : Fin 32) (s : Fin 256) (J : Fin 2816) (hs : s.val = y % 256)
    (hwg : ∀ i, wg (ix2 i j) = a8 m c (ix2 i ⟨2816 + J, by omega⟩)) (hbg : bg (ix2 0 j) = a9 m c (ix1 ⟨2816 + J, by omega⟩))
    (hwv : ∀ i, wv (ix2 i j) = a8 m c (ix2 i ⟨J, by omega⟩)) (hbv : bv (ix2 0 j) = a9 m c (ix1 ⟨J, by omega⟩))
    (hpg : ∀ (r : Fin 536) (p : Fin 258), r.val = 264 * (y / 256) + p + 7 → pg (ix3 0 r j)
      = val_main_v32 (F := Ideal) (a0 m c) (a1 m c) (a2 m c) (a3 m c) (a4 m c) (a5 m c) (a6 m c) (a7 m c) (ix3 b p ⟨2816 + J, by omega⟩))
    (hpv : ∀ (r : Fin 536) (p : Fin 258), r.val = 264 * (y / 256) + p + 7 → pv (ix3 0 r j)
      = val_main_v32 (F := Ideal) (a0 m c) (a1 m c) (a2 m c) (a3 m c) (a4 m c) (a5 m c) (a6 m c) (a7 m c) (ix3 b p ⟨J, by omega⟩)) :
    strip wg pg bg wv pv bv (ix2 y j) = val_main_v65 (F := Ideal) (a0 m c) (a1 m c) (a2 m c) (a3 m c) (a4 m c) (a5 m c) (a6 m c) (a7 m c) (a8 m c) (a9 m c) (ix3 b s J) := by
  rw [strip_at _ _ _ _ _ _ y j ⟨y + 7 + y / 256 * 8, by omega⟩ ⟨y + 8 + y / 256 * 8, by omega⟩ ⟨y + 9 + y / 256 * 8, by omega⟩ rfl rfl rfl,
    Cert.Reference4Ideal.Ffn.act_at, Cert.Reference4Ideal.Ffn.conv_at, Cert.Reference4Ideal.Ffn.conv_at, hwg, hwg, hwg, hbg, hwv, hwv, hwv, hbv,
    hpg ⟨y + 7 + y / 256 * 8, by omega⟩ ⟨s.val, by omega⟩ (by simp only; omega), hpg ⟨y + 8 + y / 256 * 8, by omega⟩ ⟨s.val + 1, by omega⟩ (by simp only; omega),
    hpg ⟨y + 9 + y / 256 * 8, by omega⟩ ⟨s.val + 2, by omega⟩ (by simp only; omega),
    hpv ⟨y + 7 + y / 256 * 8, by omega⟩ ⟨s.val, by omega⟩ (by simp only; omega), hpv ⟨y + 8 + y / 256 * 8, by omega⟩ ⟨s.val + 1, by omega⟩ (by simp only; omega),
    hpv ⟨y + 9 + y / 256 * 8, by omega⟩ ⟨s.val + 2, by omega⟩ (by simp only; omega)]

/-- The two halves of the up product in the scratch array: a load from the second half. -/
theorem pg_read (v : View sig .tc .vmem S2x536x2816 .f32) (G V : FVec Ideal S1x536x2816 .f32) (i1 i0) (o : ℕ) (inb) (r : Fin 536) (j : Fin 256)
    (J : Fin 2816) (hJ : J.val = o + j) :
    v.readCov [(⟨Rect.unit ![1, 0, 0] ![1, 536, 2816] i1, G⟩ : View.Piece (Elt Ideal) S2x536x2816 .f32), ⟨Rect.unit ![0, 0, 0] ![1, 536, 2816] i0, V⟩]
      (Rect.unit (s := S2x536x2816) ![1, 0, o] ![1, 536, 256] inb).toLoadRect (ix3 0 r j) = G (ix3 0 r J) := by
  rw [View.readCov_eq_canon']
  have e : (Rect.unit (s := S2x536x2816) ![1, 0, o] ![1, 536, 256] inb).toLoadRect.idx (ix3 0 r j)
      = (Rect.unit (s := S2x536x2816) ![1, 0, 0] ![1, 536, 2816] i1).emb (ix3 0 r J) := by
    idx_ext
  exact (congrArg _ e).trans (View.canon_cons_emb _ _ _ _)

/-- A load from the first half. -/
theorem pv_read (v : View sig .tc .vmem S2x536x2816 .f32) (G V : FVec Ideal S1x536x2816 .f32) (i1 i0) (o : ℕ) (inb) (r : Fin 536) (j : Fin 256)
    (J : Fin 2816) (hJ : J.val = o + j) :
    v.readCov [(⟨Rect.unit ![1, 0, 0] ![1, 536, 2816] i1, G⟩ : View.Piece (Elt Ideal) S2x536x2816 .f32), ⟨Rect.unit ![0, 0, 0] ![1, 536, 2816] i0, V⟩]
      (Rect.unit (s := S2x536x2816) ![0, 0, o] ![1, 536, 256] inb).toLoadRect (ix3 0 r j) = V (ix3 0 r J) := by
  rw [View.readCov_eq_canon']
  have e : (Rect.unit (s := S2x536x2816) ![0, 0, o] ![1, 536, 256] inb).toLoadRect.idx (ix3 0 r j)
      = (Rect.unit (s := S2x536x2816) ![0, 0, 0] ![1, 536, 2816] i0).emb (ix3 0 r J) := by
    idx_ext
  have hn : (Rect.unit (s := S2x536x2816) ![0, 0, 0] ![1, 536, 2816] i0).emb (ix3 0 r J) ∉ (Rect.unit (s := S2x536x2816) ![1, 0, 0] ![1, 536, 2816] i1).set := by
    intro h
    rw [Rect.mem_set_unit] at h
    have h' := (h 0).1
    revert h'
    rw [show (((Rect.unit (s := S2x536x2816) ![0, 0, 0] ![1, 536, 2816] i0).emb (ix3 0 r J) 0 : Fin _) : ℕ) = 0 from rfl]
    exact Nat.not_succ_le_zero 0
  beta_reduce
  rw [e]
  exact (View.canon_cons_of_not_mem (Val := Elt Ideal) (e := .f32) ⟨Rect.unit (s := S2x536x2816) ![1, 0, 0] ![1, 536, 2816] i1, G⟩
    [⟨Rect.unit (s := S2x536x2816) ![0, 0, 0] ![1, 536, 2816] i0, V⟩] hn).trans
    (View.canon_cons_emb (Val := Elt Ideal) (e := .f32) (Rect.unit (s := S2x536x2816) ![0, 0, 0] ![1, 536, 2816] i0) V [] (ix3 0 r J))

end Cert.Kernel4Ideal.Ctx

end
-- ==== Proof.CtxTile.lean ====
/- The mixing call on the prompts: what the body loads from the staged blocks, and its strips as the reference's entries. -/
module

public import proofs.«01_k».proof.Proof.CtxRows
public import proofs.«01_k».proof.Proof.FfnTile

@[expose] public section

set_option maxRecDepth 16384

noncomputable section

namespace Cert.Kernel4Ideal.Ctx

open Cert.Kernel4Ideal Cert.Kernel4Ideal.Gen Idealize.ShloMosaic Idealize.ShloMosaic.TcCoe Idealize.SL.Sem
open Cert.Kernel2Ideal.Ffn (ldw strips_read)
open Cert.Reference4Ideal.Read (val_main_v7 val_main_v11 val_main_v30 val_main_v32 val_main_v55 val_main_v65 val_main_v69 val_main_v83)

variable (m : (ℓ : Loc nD τ sig) → Buf (Elt Ideal) ℓ)

/-- A load of one of the six modulation rows. -/
theorem l12_at (c : Dev nD) (t : Fin cfg0.N) (q : ℕ) (hq : q < 6) (inb) (d : Fin 1024) (e : Fin 6144) (he : e.val = q * 1024 + d) :
    View.ld (iblk m c 12 t) (Rect.unit (s := S1x6x1024) ![0, q, 0] ![1, 1, 1024] inb) (ix3 0 0 d) = a4 m c (ix2 0 e) := by
  refine (congrArg (iblk m c 12 t) (?_ : _ = ix3 0 (⟨q, hq⟩ : Fin 6) d)).trans ((b12_at m c t ⟨q, hq⟩ d).trans
    (congrArg (fun s => a4 m c (ix2 0 s)) (Fin.ext (by simp only; omega))))
  idx_ext

/-- A load of one half of the up weight. -/
theorem l15_at (c : Dev nD) (t : Fin cfg0.N) (o : ℕ) (inb) (k : Fin 1024) (j : Fin 2816) (J : Fin 5632) (hJ : J.val = o + j) :
    View.ld (iblk m c 15 t) (Rect.unit (s := S1024x5632) ![0, o] ![1024, 2816] inb) (ix2 k j) = a7 m c (ix2 k J) := by
  refine (congrArg (iblk m c 15 t) (?_ : _ = ix2 k J)).trans (b15_at m c t k J)
  idx_ext

/-- A load of 256 columns of the filter. -/
theorem l16_at (c : Dev nD) (t : Fin cfg0.N) (o : ℕ) (inb) (k : Fin 3) (j : Fin 256) (J : Fin 5632) (hJ : J.val = o + j) :
    View.ld (iblk m c 16 t) (Rect.unit (s := S3x5632) ![0, o] ![3, 256] inb) (ix2 k j) = a8 m c (ix2 k J) := by
  refine (congrArg (iblk m c 16 t) (?_ : _ = ix2 k J)).trans (b16_at m c t k J)
  idx_ext

/-- A load of 256 entries of the bias. -/
theorem l17_at (c : Dev nD) (t : Fin cfg0.N) (o : ℕ) (inb) (j : Fin 256) (J : Fin 5632) (hJ : J.val = o + j) :
    View.ld (iblk m c 17 t) (Rect.unit (s := S1x5632) ![0, o] ![1, 256] inb) (ix2 0 j) = a9 m c (ix1 J) := by
  refine (congrArg (iblk m c 17 t) (?_ : _ = ix2 0 J)).trans (b17_at m c t J)
  idx_ext

/-- The operands of a tile, as the body loads them from the staged blocks. -/
theorem tile (c : Dev nD) (t : Fin cfg0.N) : Tile m c t (iblk m c 3 t) (iblk m c 6 t) (iblk m c 9 t) (iblk m c 0 t)
    (View.ld (iblk m c 12 t) (Rect.unit (s := S1x6x1024) ![0, 2, 0] ![1, 1, 1024] inb_S1x6x1024_S1x1x1024_0_2_0)) (iblk m c 13 t) (iblk m c 14 t)
    (View.ld (iblk m c 12 t) (Rect.unit (s := S1x6x1024) ![0, 4, 0] ![1, 1, 1024] inb_S1x6x1024_S1x1x1024_0_4_0))
    (View.ld (iblk m c 12 t) (Rect.unit (s := S1x6x1024) ![0, 3, 0] ![1, 1, 1024] inb_S1x6x1024_S1x1x1024_0_3_0)) where
  mixed := fun y b s k h => by
    rw [v7_at]
    unfold mix
    split_ifs
    · exact b3_at m c t _ _ b s h
    · exact b6_at m c t _ _ b s h
    · exact b9_at m c t _ _ b s h
  inp := fun y b s d h => b0_at m c t y d b s h
  gain := fun d => l12_at m c t 2 (by decide) _ d _ (by simp only)
  wo := fun r d => b13_at m c t r d
  nw := fun d => b14_at m c t d
  scale := fun d => l12_at m c t 4 (by decide) _ d _ (by simp only)
  shift := fun d => l12_at m c t 3 (by decide) _ d _ (by simp only)

/-- A strip of 256 columns from column `o` on, from the products `G` and `V` in the scratch array: the reference's gated product. -/
theorem strip_row (c : Dev nD) (t : Fin cfg0.N) (o u : ℕ) (hu : u = 2816 + o) (ho : o + 256 ≤ 2816) (v v' : View sig .tc .vmem S2x536x2816 .f32) (G V : FVec Ideal S1x536x2816 .f32)
    (b : Fin 32) (s : Fin 256) (y : Fin 512) (hs : s.val = y % 256)
    (hG : ∀ (r : Fin 536) (p : Fin 258) (j : Fin 2816), r.val = 264 * (y / 256) + p + 7 → G (ix3 0 r j)
      = val_main_v32 (F := Ideal) (a0 m c) (a1 m c) (a2 m c) (a3 m c) (a4 m c) (a5 m c) (a6 m c) (a7 m c) (ix3 b p ⟨2816 + j, by omega⟩))
    (hV : ∀ (r : Fin 536) (p : Fin 258) (j : Fin 2816), r.val = 264 * (y / 256) + p + 7 → V (ix3 0 r j)
      = val_main_v32 (F := Ideal) (a0 m c) (a1 m c) (a2 m c) (a3 m c) (a4 m c) (a5 m c) (a6 m c) (a7 m c) (ix3 b p ⟨j, by omega⟩))
    (i1 i0) (k1 k2 k3 k4 k5 k6) (j : Fin 256) :
    strip (View.ld (iblk m c 16 t) (Rect.unit (s := S3x5632) ![0, u] ![3, 256] k1))
        (v.readCov [(⟨Rect.unit ![1, 0, 0] ![1, 536, 2816] i1, G⟩ : View.Piece (Elt Ideal) S2x536x2816 .f32), ⟨Rect.unit ![0, 0, 0] ![1, 536, 2816] i0, V⟩]
          (Rect.unit (s := S2x536x2816) ![1, 0, o] ![1, 536, 256] k2).toLoadRect)
        (View.ld (iblk m c 17 t) (Rect.unit (s := S1x5632) ![0, u] ![1, 256] k3))
        (View.ld (iblk m c 16 t) (Rect.unit (s := S3x5632) ![0, o] ![3, 256] k4))
        (v'.readCov [(⟨Rect.unit ![1, 0, 0] ![1, 536, 2816] i1, G⟩ : View.Piece (Elt Ideal) S2x536x2816 .f32), ⟨Rect.unit ![0, 0, 0] ![1, 536, 2816] i0, V⟩]
          (Rect.unit (s := S2x536x2816) ![0, 0, o] ![1, 536, 256] k5).toLoadRect)
        (View.ld (iblk m c 17 t) (Rect.unit (s := S1x5632) ![0, o] ![1, 256] k6)) (ix2 y j)
      = val_main_v65 (F := Ideal) (a0 m c) (a1 m c) (a2 m c) (a3 m c) (a4 m c) (a5 m c) (a6 m c) (a7 m c) (a8 m c) (a9 m c) (ix3 b s ⟨o + j, by omega⟩) := by
  subst hu
  refine strip_val (m := m) (c := c) _ _ _ _ _ _ y j b s ⟨o + j, by omega⟩ hs ?_ ?_ ?_ ?_ ?_ ?_
  · exact fun i => l16_at m c t _ _ i j _ (by simp only; omega)
  · exact l17_at m c t _ _ j _ (by simp only; omega)
  · exact fun i => l16_at m c t o _ i j _ rfl
  · exact l17_at m c t o _ j _ rfl
  · exact fun r p hp => (pg_read _ _ _ _ _ o _ r j ⟨o + j, by omega⟩ rfl).trans (hG r p _ hp)
  · exact fun r p hp => (pv_read _ _ _ _ _ o _ r j ⟨o + j, by omega⟩ rfl).trans (hV r p _ hp)

end Cert.Kernel4Ideal.Ctx

end
-- ==== Proof.CtxFinal.lean ====
/- The mixing call's result array on the prompts is the reference's, over the reals. -/
module

public import proofs.«01_k».proof.Proof.CtxTile

@[expose] public section

set_option maxRecDepth 16384

noncomputable section

namespace Cert.Kernel4Ideal.Ctx

open Cert.Kernel4Ideal Cert.Kernel4Ideal.Gen Idealize.ShloMosaic Idealize.ShloMosaic.TcCoe Idealize.SL.Sem
open Cert.Kernel2Ideal.Ffn (ldw strips_read)
open Cert.Reference4Ideal.Read (val_main_v7 val_main_v11 val_main_v30 val_main_v32 val_main_v55 val_main_v65 val_main_v69 val_main_v83)

variable (m : (ℓ : Loc nD τ sig) → Buf (Elt Ideal) ℓ)

/-- The prompt that row `y` of tile `t` belongs to. -/
def bs (t : Fin cfg0.N) (y : Fin 512) : Fin 32 := ⟨2 * t.val + y / 256, by have := tN t; omega⟩

/-- The token of the prompt that row `y` of a tile stands for. -/
def sm (y : Fin 512) : Fin 256 := ⟨y % 256, by omega⟩

set_option maxHeartbeats 4000000 in
/-- One element of one written block. -/
theorem point (c : Dev nD) (t : Fin cfg0.N) (y : Fin 512) (d : Fin 1024) :
    outsAt0 m c t (ix2 y d) = val_main_v83 (F := Ideal) (a0 m c) (a1 m c) (a2 m c) (a3 m c) (a4 m c) (a5 m c) (a6 m c) (a7 m c) (a8 m c) (a9 m c) (a10 m c) (a11 m c)
      (ix2 ⟨t.val * 512 + y, by have := tN t; omega⟩ d) := by
  have ht := tN t
  have hb : (⟨(t.val * 512 + y) / 256, by omega⟩ : Fin 32) = bs t y := Fin.ext (by simp only [bs]; omega)
  have hs : (⟨(t.val * 512 + y) % 256, by omega⟩ : Fin 256) = sm y := Fin.ext (by simp only [sm]; omega)
  rw [Cert.Reference4Ideal.Ffn.out_at]
  simp only [hb, hs]
  unfold outsAt0
  frame_out
  have hG : ∀ (y : Fin 512) (r : Fin 536) (p : Fin 258) (j : Fin 2816), r.val = 264 * (y / 256) + p + 7 → k0_pay9 (k0_pay3 (F := Ideal))
      (k0_pay4 (iblk m c 3 t) (iblk m c 6 t) (iblk m c 9 t) (iblk m c 0 t)
        (View.ld (iblk m c 12 t) (Rect.unit (s := S1x6x1024) ![0, 2, 0] ![1, 1, 1024] inb_S1x6x1024_S1x1x1024_0_2_0)) (iblk m c 13 t) (iblk m c 14 t))
      (k0_pay5 (View.ld (iblk m c 12 t) (Rect.unit (s := S1x6x1024) ![0, 4, 0] ![1, 1, 1024] inb_S1x6x1024_S1x1x1024_0_4_0))) (k0_pay6 (F := Ideal))
      (View.ld (iblk m c 12 t) (Rect.unit (s := S1x6x1024) ![0, 3, 0] ![1, 1, 1024] inb_S1x6x1024_S1x1x1024_0_3_0))
      (View.ld (iblk m c 15 t) (Rect.unit (s := S1024x5632) ![0, 2816] ![1024, 2816] inb_S1024x5632_S1024x2816_0_2816)) (ix3 0 r j)
      = val_main_v32 (F := Ideal) (a0 m c) (a1 m c) (a2 m c) (a3 m c) (a4 m c) (a5 m c) (a6 m c) (a7 m c) (ix3 (bs t y) p ⟨2816 + j, by omega⟩) := fun y r p j hp => (pg_at _ _ _ _ _ _ r j).trans
    (up_row (tile m c t) _ r _ p (y / 256) (by omega) rfl hp j _ fun k => l15_at m c t 2816 _ k _ _ rfl)
  have hV : ∀ (y : Fin 512) (r : Fin 536) (p : Fin 258) (j : Fin 2816), r.val = 264 * (y / 256) + p + 7 → k0_pay8 (k0_pay3 (F := Ideal))
      (k0_pay4 (iblk m c 3 t) (iblk m c 6 t) (iblk m c 9 t) (iblk m c 0 t)
        (View.ld (iblk m c 12 t) (Rect.unit (s := S1x6x1024) ![0, 2, 0] ![1, 1, 1024] inb_S1x6x1024_S1x1x1024_0_2_0)) (iblk m c 13 t) (iblk m c 14 t))
      (k0_pay5 (View.ld (iblk m c 12 t) (Rect.unit (s := S1x6x1024) ![0, 4, 0] ![1, 1, 1024] inb_S1x6x1024_S1x1x1024_0_4_0))) (k0_pay6 (F := Ideal))
      (View.ld (iblk m c 12 t) (Rect.unit (s := S1x6x1024) ![0, 3, 0] ![1, 1, 1024] inb_S1x6x1024_S1x1x1024_0_3_0))
      (View.ld (iblk m c 15 t) (Rect.unit (s := S1024x5632) ![0, 0] ![1024, 2816] inb_S1024x5632_S1024x2816_0_0)) (ix3 0 r j)
      = val_main_v32 (F := Ideal) (a0 m c) (a1 m c) (a2 m c) (a3 m c) (a4 m c) (a5 m c) (a6 m c) (a7 m c) (ix3 (bs t y) p ⟨j, by omega⟩) := fun y r p j hp => (pv_at _ _ _ _ _ _ r j).trans
    (up_row (tile m c t) _ r _ p (y / 256) (by omega) rfl hp j _ fun k => l15_at m c t 0 _ k _ _ (Nat.zero_add _).symm)
  generalize k0_pay9 (F := Ideal) _ _ _ _ _ _ = G at hG ⊢
  generalize k0_pay8 (F := Ideal) _ _ _ _ _ _ = V at hV ⊢
  refine (down_at _ _ _ _ _ y d (fun d => val_main_v69 (F := Ideal) (a0 m c) (a1 m c) (a2 m c) (a3 m c) (a4 m c) (a5 m c) (a6 m c) (a7 m c) (a8 m c) (a9 m c) (a10 m c) (ix3 (bs t y) (sm y) d)) (fun d => ?_)).trans
    (congrArg (_ * ·) (b19_at m c t d))
  rw [Cert.Reference4Ideal.Ffn.x2_at]
  refine Eq.symm ?_
  refine congrArg₂ (· + ·) ?_ (congrArg₂ (· * ·) ?_ (Finset.sum_congr rfl fun k _ => congrArg₂ (· * ·) ?_ ?_))
  · exact x1_row (tile m c t) y _ _ d (by simp only [bs, sm]; omega)
  · exact l12_at m c t 5 (by decide) _ d _ rfl
  · refine strips_read (G := fun i => val_main_v65 (F := Ideal) (a0 m c) (a1 m c) (a2 m c) (a3 m c) (a4 m c) (a5 m c) (a6 m c) (a7 m c) (a8 m c) (a9 m c)
      (ix3 (bs t (i 0)) (sm (i 0)) (i 1))) _ _ _ _ _ _ _ _ _ _ _ _ _ _ _ _ _ _ _ _ _ _ _ _ ?_ ?_ ?_ ?_ ?_ ?_ ?_ ?_ ?_ ?_ ?_ y k
    · exact fun y j => Eq.trans (congrFun (strip0 _ _ _ _ _ _) _) (strip_row m c t 0 _ rfl (by decide) _ _ _ _ (bs t y) (sm y) y rfl (hG y) (hV y) _ _ _ _ _ _ _ _ j)
    · exact fun y j => Eq.trans (congrFun (strip1 _ _ _ _ _ _) _) (strip_row m c t 256 _ rfl (by decide) _ _ _ _ (bs t y) (sm y) y rfl (hG y) (hV y) _ _ _ _ _ _ _ _ j)
    · exact fun y j => Eq.trans (congrFun (strip2 _ _ _ _ _ _) _) (strip_row m c t 512 _ rfl (by decide) _ _ _ _ (bs t y) (sm y) y rfl (hG y) (hV y) _ _ _ _ _ _ _ _ j)
    · exact fun y j => Eq.trans (show _ = strip _ _ _ _ _ _ (ix2 y j) from rfl) (strip_row m c t 768 _ rfl (by decide) _ _ _ _ (bs t y) (sm y) y rfl (hG y) (hV y) _ _ _ _ _ _ _ _ j)
    · exact fun y j => Eq.trans (congrFun (strip4 _ _ _ _ _ _) _) (strip_row m c t 1024 _ rfl (by decide) _ _ _ _ (bs t y) (sm y) y rfl (hG y) (hV y) _ _ _ _ _ _ _ _ j)
    · exact fun y j => Eq.trans (congrFun (strip5 _ _ _ _ _ _) _) (strip_row m c t 1280 _ rfl (by decide) _ _ _ _ (bs t y) (sm y) y rfl (hG y) (hV y) _ _ _ _ _ _ _ _ j)
    · exact fun y j => Eq.trans (congrFun (strip6 _ _ _ _ _ _) _) (strip_row m c t 1536 _ rfl (by decide) _ _ _ _ (bs t y) (sm y) y rfl (hG y) (hV y) _ _ _ _ _ _ _ _ j)
    · exact fun y j => Eq.trans (congrFun (strip7 _ _ _ _ _ _) _) (strip_row m c t 1792 _ rfl (by decide) _ _ _ _ (bs t y) (sm y) y rfl (hG y) (hV y) _ _ _ _ _ _ _ _ j)
    · exact fun y j => Eq.trans (congrFun (strip8 _ _ _ _ _ _) _) (strip_row m c t 2048 _ rfl (by decide) _ _ _ _ (bs t y) (sm y) y rfl (hG y) (hV y) _ _ _ _ _ _ _ _ j)
    · exact fun y j => Eq.trans (congrFun (strip9 _ _ _ _ _ _) _) (strip_row m c t 2304 _ rfl (by decide) _ _ _ _ (bs t y) (sm y) y rfl (hG y) (hV y) _ _ _ _ _ _ _ _ j)
    · exact fun y j => Eq.trans (congrFun (strip10 _ _ _ _ _ _) _) (strip_row m c t 2560 _ rfl (by decide) _ _ _ _ (bs t y) (sm y) y rfl (hG y) (hV y) _ _ _ _ _ _ _ _ j)
  · exact b18_at m c t k d

/-- The result array of the mixing call on the prompts. -/
theorem final4 (c : Dev nD) : (dats m 0 c).arrAt 20 cfg0.N = val_main_v83 (F := Ideal) (a0 m c) (a1 m c) (a2 m c) (a3 m c) (a4 m c) (a5 m c) (a6 m c) (a7 m c) (a8 m c) (a9 m c) (a10 m c) (a11 m c) := by
  refine (dats m 0 c).arrAt_eq_of_covers 20 _ (by decide +kernel) fun t _ j => ?_
  blk_simp
  rw [after0_20]
  have hj : j = ix2 (⟨(j 0).val, (j 0).isLt⟩ : Fin 512) (⟨(j 1).val, (j 1).isLt⟩ : Fin 1024) := by idx_ext
  refine (congrArg _ hj).trans ((point m c t _ _).trans (congrArg _ ?_))
  blk_ext [idx t]

end Cert.Kernel4Ideal.Ctx

end
-- ==== Proof.CtxAttn.lean ====
/- The attention on the prompts: one key head's block, over reals, from the staged queries, keys and values.
   A prompt's 256 keys are one block, so the recurrence of the attention kernel takes a single step; the body takes
   it once for each of the two key heads. -/
module

public import proofs.«01_k».proof.Proof.Gen.Kernel5Ideal.Value
public import proofs.«01_k».proof.Proof.Num
public import Idealize.ShloMosaic.Lib.Pipeline.ValueKit

@[expose] public section

set_option maxRecDepth 16384

noncomputable section

namespace Cert.Kernel5Ideal.Attn

open Cert.Kernel5Ideal Cert.Kernel5Ideal.Gen Idealize.ShloMosaic Idealize.ShloMosaic.TcCoe Idealize.SL.Sem Cert.Num

section
variable {F : FTy → Type} [FloatOps F] [Named F]

/-- The maximum of the initial one and the scores. -/
def top (s : FVec F S256x1024 .f32) : FVec F S1x1024 .f32 :=
  maximumf (k0_pay2 (F := F)) (shapeCast S1x1024
    (multiReduction .maximumf [0] S1024 s 0xFF800000#32 reduces_S256x1024_S1024 (.inl rfl) rfl) shapeCasts_S1024_S1x1024)

/-- The values with 16 rows below them, of which the first is ones and the others zeros. -/
def vals (v : Vec F S64x256 .bf16) : FVec F S80x256 .bf16 :=
  concatenate S80x256 0 [⟨S64x256, k0_pay5 v⟩, ⟨S16x256, k0_pay9 (F := F)⟩] concatenates_S64x256_S16x256_S80x256_d0

/-- The weighted values and, in row 64, the weights. -/
def acc (s : FVec F S256x1024 .f32) (v : Vec F S64x256 .bf16) : FVec F S80x1024 .f32 :=
  addf (mulf (k0_pay3 (F := F)) (broadcastTo S80x1024 (exp2 (subf (k0_pay2 (F := F)) (top s))) broadcasts_S1x1024_S80x1024))
    (matmul dot_S80x256_S256x1024_S80x1024_1_0_0_1_n_n none (vals v)
      (truncf .bf16 (exp2 (subf s (broadcastTo S256x1024 (top s) broadcasts_S1x1024_S256x1024))) bitsLt_bf16_f32)
      (constant S80x1024 .f32 0x00000000#32))

/-- The quotient of the weighted values by the weights. -/
def quot (a : FVec F S80x1024 .f32) : FVec F S64x1024 .f32 :=
  divf (extractStridedSlice S64x1024 ![0, 0] a slices_S80x1024_o0_0_S64x1024)
    (broadcastTo S64x1024 (extractStridedSlice S1x1024 ![64, 0] a slices_S80x1024_o64_0_S1x1024) broadcasts_S1x1024_S64x1024)

/-- A key head's block: its four query heads' quotients side by side. -/
def outv (a : FVec F S80x1024 .f32) : FVec F S256x256 .bf16 :=
  truncf .bf16 (transpose S256x256 [1, 0] (concatenate S256x256 0 [⟨S64x256, extractStridedSlice S64x256 ![0, 0] (quot a) slices_S64x1024_o0_0_S64x256⟩,
    ⟨S64x256, extractStridedSlice S64x256 ![0, 256] (quot a) slices_S64x1024_o0_256_S64x256⟩,
    ⟨S64x256, extractStridedSlice S64x256 ![0, 512] (quot a) slices_S64x1024_o0_512_S64x256⟩,
    ⟨S64x256, extractStridedSlice S64x256 ![0, 768] (quot a) slices_S64x1024_o0_768_S64x256⟩] concatenates_S64x256_S64x256_S64x256_S64x256_S256x256_d0)
    transposes_S256x256_p1_0_S256x256) bitsLt_bf16_f32

variable (q0 q1 q2 q3 : Vec F S64x256 .bf16) (kb : Vec F S256x128 .bf16) (v : Vec F S64x256 .bf16)

/-- The block of the first key head, -/
theorem head0 : k0_pay10 (k0_pay3 (F := F)) (k0_pay5 v) (k0_pay7 q0 q1 q2 q3 kb) (k0_pay8 q0 q1 q2 q3 kb) (k0_pay9 (F := F))
    = outv (acc (k0_pay4 q0 q1 q2 q3 kb) v) := rfl

/-- and of the second. -/
theorem head1 : k0_pay1 (k0_pay11 (F := F)) (k0_pay12 (F := F)) (k0_pay13 q0 q1 q2 q3 kb) (k0_pay14 v) (k0_pay15 q0 q1 q2 q3 kb)
    = outv (acc (k0_pay13 q0 q1 q2 q3 kb) v) := rfl
end

theorem neg_inf : Ideal.ofBits .f32 0xFF800000#32 = (⊥ : EReal) := by
  simp [Ideal.ofBits, Ideal.ieee]

theorem top_at (s : FVec Ideal S256x1024 .f32) (j : Fin 1024) :
    top (F := Ideal) s (ix2 0 j) = max (k0_pay2 (F := Ideal) (ix2 0 j)) (Finset.univ.fold max ⊥ fun k : Fin 256 => s (ix2 k j)) := by
  generalize h : k0_pay2 (F := Ideal) = M
  unfold top
  rw [h]
  pointwise
  rw [neg_inf]

theorem acc_at (s : FVec Ideal S256x1024 .f32) (v : FVec Ideal S64x256 .bf16) (r : Fin 80) (j : Fin 1024) :
    acc (F := Ideal) s v (ix2 r j) = k0_pay3 (F := Ideal) (ix2 r j) * Ideal.exp2 (k0_pay2 (F := Ideal) (ix2 0 j) - top (F := Ideal) s (ix2 0 j))
      + ∑ k : Fin 256, vals (F := Ideal) v (ix2 r k) * Ideal.exp2 (s (ix2 k j) - top (F := Ideal) s (ix2 0 j)) := by
  unfold acc
  generalize k0_pay2 (F := Ideal) = M
  generalize k0_pay3 (F := Ideal) = Z
  generalize top (F := Ideal) s = T
  generalize vals (F := Ideal) v = V
  pointwise
  rfl

/-- The first 64 rows are the values, -/
theorem vals_lt (v : FVec Ideal S64x256 .bf16) (r : Fin 64) (k : Fin 256) :
    vals (F := Ideal) v (ix2 ⟨r, by omega⟩ k) = v (ix2 r k) := by
  pointwise [vals, k0_pay5, k0_pay9]

/-- and row 64 is ones. -/
theorem vals_one (v : FVec Ideal S64x256 .bf16) (k : Fin 256) : vals (F := Ideal) v (ix2 64 k) = 1 := by
  pointwise [vals, k0_pay5, k0_pay9]

theorem quot_at (a : FVec Ideal S80x1024 .f32) (d : Fin 64) (j : Fin 1024) :
    quot (F := Ideal) a (ix2 d j) = Ideal.div (a (ix2 ⟨d, by omega⟩ j)) (a (ix2 64 j)) := by
  pointwise [quot]

/-- Row `y`, column `h·64 + d` of a block is row `d` of the quotient at column `h·256 + y`. -/
theorem outv_at (a : FVec Ideal S80x1024 .f32) (y : Fin 256) (h : Fin 4) (d : Fin 64) :
    outv (F := Ideal) a (ix2 y ⟨h * 64 + d, by omega⟩)
      = Ideal.div (a (ix2 ⟨d, by omega⟩ ⟨h * 256 + y, by omega⟩)) (a (ix2 64 ⟨h * 256 + y, by omega⟩)) := by
  rw [← quot_at]
  unfold outv
  generalize quot (F := Ideal) a = Q
  pointwise
  have hd := d.isLt
  fin_vals h with hh
  · rw [dif_pos (by omega)]
    refine congrArg Q ?_; idx_ext
  · rw [dif_neg (by omega), dif_pos (by omega)]
    refine congrArg Q ?_; idx_ext
  · rw [dif_neg (by omega), dif_neg (by omega), dif_pos (by omega)]
    refine congrArg Q ?_; idx_ext
  · rw [dif_neg (by omega), dif_neg (by omega), dif_neg (by omega)]
    refine congrArg Q ?_; idx_ext

/-- The four row slices of the staged queries side by side, at row `d` of column `j`. -/
def qrow (q0 q1 q2 q3 : FVec Ideal S64x256 .bf16) (d : Fin 64) (j : Fin 1024) : EReal :=
  if h : (j : ℕ) < 256 then q0 (ix2 d ⟨j, h⟩)
  else if h1 : (j : ℕ) - 256 < 256 then q1 (ix2 d ⟨j - 256, h1⟩)
  else if h2 : (j : ℕ) - 256 - 256 < 256 then q2 (ix2 d ⟨j - 256 - 256, h2⟩)
  else q3 (ix2 d ⟨j - 256 - 256 - 256, by have := j.isLt; omega⟩)

/-- Column `h·256 + y` of the slices side by side is column `y` of slice `h`. -/
theorem qrow_at (q0 q1 q2 q3 : FVec Ideal S64x256 .bf16) (G : Fin 4 → Fin 64 → Fin 256 → EReal) (h0 : ∀ d y, q0 (ix2 d y) = G 0 d y)
    (h1 : ∀ d y, q1 (ix2 d y) = G 1 d y) (h2 : ∀ d y, q2 (ix2 d y) = G 2 d y) (h3 : ∀ d y, q3 (ix2 d y) = G 3 d y) (d : Fin 64) (h : Fin 4) (y : Fin 256) :
    qrow q0 q1 q2 q3 d ⟨h * 256 + y, by omega⟩ = G h d y := by
  have hy := y.isLt
  unfold qrow
  dsimp only
  rcases (by omega : h.val = 0 ∨ h.val = 1 ∨ h.val = 2 ∨ h.val = 3) with hh | hh | hh | hh
  · obtain rfl : h = 0 := Fin.ext hh
    rw [dif_pos (by omega), ← h0]
    refine congrArg q0 ?_; idx_ext
  · obtain rfl : h = 1 := Fin.ext hh
    rw [dif_neg (by omega), dif_pos (by omega), ← h1]
    refine congrArg q1 ?_; idx_ext
  · obtain rfl : h = 2 := Fin.ext hh
    rw [dif_neg (by omega), dif_neg (by omega), dif_pos (by omega), ← h2]
    refine congrArg q2 ?_; idx_ext
  · obtain rfl : h = 3 := Fin.ext hh
    rw [dif_neg (by omega), dif_neg (by omega), dif_neg (by omega), ← h3]
    refine congrArg q3 ?_; idx_ext

/-- The scores against the first key head's padded queries: only the first 64 lanes of a key contribute, -/
theorem scores0_at (q0 q1 q2 q3 : FVec Ideal S64x256 .bf16) (kb : FVec Ideal S256x128 .bf16) (k : Fin 256) (j : Fin 1024) :
    k0_pay4 (F := Ideal) q0 q1 q2 q3 kb (ix2 k j) = ∑ d : Fin 64, kb (ix2 k ⟨d, by omega⟩) * qrow q0 q1 q2 q3 d j := by
  unfold k0_pay4
  pointwise [qrow]
  simp only [mul_zero, Finset.sum_const_zero, add_zero]

/-- and against the second's: only the last 64. -/
theorem scores1_at (q0 q1 q2 q3 : FVec Ideal S64x256 .bf16) (kb : FVec Ideal S256x128 .bf16) (k : Fin 256) (j : Fin 1024) :
    k0_pay13 (F := Ideal) q0 q1 q2 q3 kb (ix2 k j) = ∑ d : Fin 64, kb (ix2 k ⟨64 + d, by omega⟩) * qrow q0 q1 q2 q3 d j := by
  unfold k0_pay13
  pointwise [qrow]
  simp only [mul_zero, Finset.sum_const_zero, zero_add]

/-- The word of the initial maximum is a real. -/
theorem init_real : ∃ μ : ℝ, (Named.named (F := Ideal) (φ := .f32) κ "lowest" 0xF149F2CA#32 : EReal) = (μ : EReal) :=
  ⟨_, IdealRules.named_const.ideal_named_scalar _ _ _ _ rfl⟩

/-- A key head's block over reals: at real scores `σ k` and values `w k`, the sum of `w k * 2 ^ σ k` over the sum of `2 ^ σ k`. -/
theorem head_val (s : FVec Ideal S256x1024 .f32) (v : FVec Ideal S64x256 .bf16) (σ w : ℕ → ℝ) (h : Fin 4) (y : Fin 256) (r : Fin 64)
    (hs : ∀ k : Fin 256, s (ix2 k ⟨h * 256 + y, by omega⟩) = (σ k : EReal)) (hv : ∀ k : Fin 256, v (ix2 r k) = (w k : EReal)) :
    outv (F := Ideal) (acc (F := Ideal) s v) (ix2 y ⟨h * 64 + r, by omega⟩)
      = (((∑ k ∈ Finset.range 256, w k * 2 ^ σ k) / (∑ k ∈ Finset.range 256, 2 ^ σ k) : ℝ) : EReal) := by
  obtain ⟨μ, hμ⟩ := init_real
  have hm : k0_pay2 (F := Ideal) (ix2 0 ⟨h * 256 + y, by omega⟩) = (μ : EReal) := by pointwise [k0_pay2]; exact hμ
  have hz : ∀ (r : Fin 80) (w : ℕ → ℝ), k0_pay3 (F := Ideal) (ix2 r ⟨h * 256 + y, by omega⟩)
      = (((∑ k ∈ Finset.range 0, w k * 2 ^ σ k) * 2 ^ (-μ) : ℝ) : EReal) := fun r w => by pointwise [k0_pay3]; simp
  have hs' : ∀ k : Fin 256, s (ix2 k ⟨h * 256 + y, by omega⟩) = (σ (0 + k) : EReal) := fun k => by rw [zero_add]; exact hs k
  obtain ⟨μ', hμ'⟩ := max_real (by decide) _ μ hm (fun k : Fin 256 => s (ix2 k ⟨h * 256 + y, by omega⟩)) (fun k => σ k) hs
  have htop : top (F := Ideal) s (ix2 0 ⟨h * 256 + y, by omega⟩) = (μ' : EReal) := (top_at s _).trans hμ'
  have ha : acc (F := Ideal) s v (ix2 ⟨r, by omega⟩ ⟨h * 256 + y, by omega⟩)
      = (((∑ k ∈ Finset.range 256, w k * 2 ^ σ k) * 2 ^ (-μ') : ℝ) : EReal) := by
    rw [acc_at]
    exact step_real 0 σ w μ μ' _ _ _ _ _ hm htop (hz _ w) hs' fun k => (vals_lt v r k).trans (by rw [zero_add]; exact hv k)
  have hb : acc (F := Ideal) s v (ix2 64 ⟨h * 256 + y, by omega⟩)
      = (((∑ k ∈ Finset.range 256, 1 * 2 ^ σ k) * 2 ^ (-μ') : ℝ) : EReal) := by
    rw [acc_at]
    exact step_real 0 σ (fun _ => 1) μ μ' _ _ _ _ _ hm htop (hz _ _) hs' fun k => (vals_one v k).trans EReal.coe_one.symm
  have hp : (0 : ℝ) < ∑ k ∈ Finset.range 256, (2 : ℝ) ^ σ k :=
    Finset.sum_pos (fun k _ => Real.rpow_pos_of_pos two_pos _) ⟨0, Finset.mem_range.2 (by decide)⟩
  have hq : (0 : ℝ) < 2 ^ (-μ') := Real.rpow_pos_of_pos two_pos _
  rw [outv_at, ha, hb]
  simp only [one_mul]
  rw [div_coe _ _ (mul_pos hp hq).ne', mul_div_mul_right _ _ hq.ne']

end Cert.Kernel5Ideal.Attn

end
-- ==== Proof.CtxAttnEntry.lean ====
/- What the windows of the attention on the prompts stage: the arguments, as the host code lays them out. -/
module

public import proofs.«01_k».proof.Proof.CtxAttn

@[expose] public section

set_option maxRecDepth 16384

noncomputable section

namespace Cert.Kernel5Ideal.Attn

open Cert.Kernel5Ideal Cert.Kernel5Ideal.Gen Idealize.ShloMosaic Idealize.ShloMosaic.TcCoe Idealize.SL.Sem

variable (m : (ℓ : Loc nD τ sig) → Buf (Elt Ideal) ℓ)

/-- The block indices of the four windows at grid point `t`, the prompt. -/
theorem idx : ∀ t : Fin cfg0.N, win0_0.index t = ![0, t.val] ∧ win0_1.index t = ![t.val, 0] ∧ win0_2.index t = ![0, t.val] ∧ win0_3.index t = ![t.val, 0] :=
  (by decide +kernel : ∀ t : Fin grid0.N, _)

theorem tN (t : Fin cfg0.N) : t.val < 32 := t.isLt

/-- The three arguments: queries, keys, values. -/
abbrev Qa (c : Dev nD) : FVec Ideal S32x256x8x64 .f32 := m ((c : Thread nD τ).loc main_arg0)
abbrev Ka (c : Dev nD) : FVec Ideal S32x256x2x64 .f32 := m ((c : Thread nD τ).loc main_arg1)
abbrev Va (c : Dev nD) : FVec Ideal S32x256x2x64 .f32 := m ((c : Thread nD τ).loc main_arg2)

/-- The scale the host code folds into the queries: 1/8 over log 2. -/
def scale : ℝ := 8⁻¹ * (Real.log 2)⁻¹

/-- The staged queries: argument 0 times the folded scale, transposed. -/
theorem q_at (c : Dev nD) (t : Fin cfg0.N) (h : Fin 8) (d : Fin 64) (y : Fin 256) :
    (show EReal from iblk m c 0 t (ix2 (⟨h * 64 + d, by omega⟩ : Fin 512) y))
      = Qa m c (ix4 ⟨t.val, tN t⟩ y h d) * ((scale : ℝ) : EReal) := by
  blk_simp [iblk]
  entry_read
  pointwise
  rw [show Ideal.ofBits FTy.f32 1040187392#32 = ((8⁻¹ : ℝ) : EReal) by
      simp [Ideal.ofBits, Ideal.ieee]; norm_num; rw [← EReal.coe_mul]; norm_num,
    show Ideal.ofBits FTy.f32 1073741824#32 = ((2 : ℝ) : EReal) by
      simp [Ideal.ofBits, Ideal.ieee]; norm_num; rw [← EReal.coe_mul]; norm_num,
    show Ideal.log ((2 : ℝ) : EReal) = ((Real.log 2 : ℝ) : EReal) from by rw [Ideal.log_coe, if_neg (by norm_num)],
    Ideal.div_coe (Real.log_pos one_lt_two).ne', mul_assoc, ← EReal.coe_mul, one_div]
  refine congrArg₂ (· * ·) ?_ rfl
  blk_ext [idx t]

theorem k_at (c : Dev nD) (t : Fin cfg0.N) (k : Fin 256) (e : Fin 2) (d : Fin 64) :
    (show EReal from iblk m c 1 t (ix2 k (⟨e * 64 + d, by omega⟩ : Fin 128))) = Ka m c (ix4 ⟨t.val, tN t⟩ k e d) := by
  blk_simp [iblk]
  entry_read
  pointwise
  blk_ext [idx t]

theorem v_at (c : Dev nD) (t : Fin cfg0.N) (k : Fin 256) (e : Fin 2) (d : Fin 64) :
    (show EReal from iblk m c 2 t (ix2 (⟨e * 64 + d, by omega⟩ : Fin 128) k)) = Va m c (ix4 ⟨t.val, tN t⟩ k e d) := by
  blk_simp [iblk]
  entry_read
  pointwise
  blk_ext [idx t]

end Cert.Kernel5Ideal.Attn

end
-- ==== Proof.RefCtxAttn.lean ====
/- The reference of the attention on the prompts at one element of its result, over the reals. -/
module

public import proofs.«01_k».proof.Proof.Gen.Reference5Ideal.Read
public import proofs.«01_k».proof.Proof.Num

@[expose] public section

set_option maxRecDepth 16384

noncomputable section

namespace Cert.Reference5Ideal.Soft

open Cert.Reference5Ideal Cert.Reference5Ideal.Gen Cert.Reference5Ideal.Read Cert.Num Idealize.ShloMosaic Idealize.ShloMosaic.TcCoe Idealize.SL.Sem Idealize.ShloMosaic.StableHlo

variable (x0 : FVec Ideal S32x256x8x64 .f32) (x1 x2 : FVec Ideal S32x256x2x64 .f32)

/-- The score of key `k`: its product with the query, over eight. -/
theorem s_at (b : Fin 32) (e : Fin 2) (g : Fin 4) (q : Fin 256) (k : Fin 256) :
    val_main_v4 (F := Ideal) x0 x1 (ix5 b e g q k) = (∑ d : Fin 64, x1 (ix4 b k e d)
      * x0 (ix4 b q ⟨e * 4 + g, by omega⟩ d)) * ((8⁻¹ : ℝ) : EReal) := by
  rw [val_main_v4_apply, val_main_v2_apply, val_main_v1_apply, val_main_v3_apply]
  have hc : val_main_cst (F := Ideal) (idx_main_v3 (ix5 b e g q k)) = ((8⁻¹ : ℝ) : EReal) := by
    rw [val_main_cst_apply]
    show Ideal.ofBits .f32 0x3E000000#32 = _
    simp [Ideal.ofBits, Ideal.ieee]
    norm_num
    rw [← EReal.coe_mul]
    norm_num
  rw [hc]
  show _ * _ = _ * _
  congr 1
  refine Finset.sum_congr rfl fun d _ => ?_
  rw [val_main_v0_apply]
  congr 2 <;> idx_ext

/-- The largest score. -/
theorem top_at (b : Fin 32) (e : Fin 2) (g : Fin 4) (q : Fin 256) :
    val_main_v7 (F := Ideal) x0 x1 (ix4 b e g q) = Finset.fold max ⊥ (fun k : Fin 256 => val_main_v4 (F := Ideal) x0 x1 (ix5 b e g q k)) Finset.univ := by
  have hb : Ideal.ofBits .f32 0xFF800000#32 = ⊥ := by simp [Ideal.ofBits, Ideal.ieee]
  rw [val_main_v7_apply, val_main_v6_apply, val_main_cst_1_apply]
  unfold val_main_v5
  pointwise
  rw [val_main_cst_0_apply]
  show max (Ideal.ofBits .f32 0xFF800000#32) (Finset.fold max (Ideal.ofBits .f32 0xFF800000#32) _ _) = _
  rw [hb]
  exact max_eq_right bot_le

/-- The exponential of a score less the largest. -/
theorem p_at (b : Fin 32) (e : Fin 2) (g : Fin 4) (q : Fin 256) (k : Fin 256) :
    val_main_v11 (F := Ideal) x0 x1 (ix5 b e g q k) =
     Ideal.exp (val_main_v4 (F := Ideal) x0 x1 (ix5 b e g q k) - val_main_v7 (F := Ideal) x0 x1 (ix4 b e g q)) := by
  rw [val_main_v11_apply, val_main_v10_apply, val_main_v9_apply, val_main_v8_apply]
  have hi : idx_main_v8 (idx_main_v9 (ix5 b e g q k)) = ix4 b e g q := by idx_ext
  rw [hi]; rfl

/-- A weight: an exponential over the sum of all. -/
theorem w_at (b : Fin 32) (e : Fin 2) (g : Fin 4) (q : Fin 256) (k : Fin 256) :
    val_main_v15 (F := Ideal) x0 x1 (ix5 b e g q k) =
     Ideal.div (val_main_v11 (F := Ideal) x0 x1 (ix5 b e g q k)) (∑ j : Fin 256, val_main_v11 (F := Ideal) x0 x1 (ix5 b e g q j)) := by
  rw [val_main_v15_apply, val_main_v14_apply, val_main_v13_apply, val_main_v12_apply]
  have hi : ∀ j, idx_main_v12 (idx_main_v13 (idx_main_v14 (ix5 b e g q k))) j = ix5 b e g q j := fun j => by idx_ext
  have hz : val_main_cst_2 (F := Ideal) (Shape.Idx.first h_S_) = 0 := by
    rw [val_main_cst_2_apply]
    show Ideal.ofBits .f32 0x00000000#32 = 0
    simp [Ideal.ofBits, Ideal.ieee]
  rw [hz, zero_add]
  simp only [hi]; rfl

/-- The result: the weighted sum of the values. -/
theorem out_at (b : Fin 32) (e : Fin 2) (g : Fin 4) (q : Fin 256) (d : Fin 64) :
    val_main_v19 (F := Ideal) x0 x1 x2 (ix2 ⟨b * 256 + q, by omega⟩ ⟨(e * 4 + g) * 64 + d, by omega⟩) =
     ∑ k : Fin 256, x2 (ix4 b k e d) * val_main_v15 (F := Ideal) x0 x1 (ix5 b e g q k) := by
  rw [val_main_v19_apply, val_main_v18_apply, val_main_v17_apply, val_main_v16_apply]
  show (∑ k : Fin 256, _) = _
  refine Finset.sum_congr rfl fun k _ => ?_
  congr 2 <;> idx_ext

/-- When the scores are the reals `s k` and the values the reals `w k`, the result is the softmax average: the sum of
    `w k * exp (s k)` over the sum of `exp (s k)`. -/
theorem soft (b : Fin 32) (e : Fin 2) (g : Fin 4) (q : Fin 256) (d : Fin 64) (s w : Fin 256 → ℝ)
    (hs : ∀ k, val_main_v4 (F := Ideal) x0 x1 (ix5 b e g q k) = (s k : EReal))
    (hw : ∀ k, x2 (ix4 b k e d) = (w k : EReal)) :
    val_main_v19 (F := Ideal) x0 x1 x2 (ix2 ⟨b * 256 + q, by omega⟩ ⟨(e * 4 + g) * 64 + d, by omega⟩)
      = (((∑ k, w k * Real.exp (s k)) / ∑ k, Real.exp (s k) : ℝ) : EReal) := by
  obtain ⟨μ, hμ⟩ : ∃ μ : ℝ, val_main_v7 (F := Ideal) x0 x1 (ix4 b e g q) = (μ : EReal) := by
    rw [top_at, funext hs]
    exact fold_max_real (by norm_num) s
  have hp : ∀ k, val_main_v11 (F := Ideal) x0 x1 (ix5 b e g q k) = ((Real.exp (s k - μ) : ℝ) : EReal) := fun k => by
    rw [p_at, hs, hμ]; exact Ideal.exp_coe _
  rw [out_at]
  simp only [w_at, hp, hw]
  exact soft_avg (by norm_num) s w μ

end Cert.Reference5Ideal.Soft

end
-- ==== Proof.CtxAttnFinal.lean ====
/- The result array of the attention on the prompts is the reference's, over the reals, for finite arguments. -/
module

public import proofs.«01_k».proof.Proof.CtxAttnEntry
public import proofs.«01_k».proof.Proof.RefCtxAttn

@[expose] public section

set_option maxRecDepth 16384

noncomputable section

namespace Cert.Kernel5Ideal.Attn

open Cert.Kernel5Ideal Cert.Kernel5Ideal.Gen Cert.Num Idealize.ShloMosaic Idealize.ShloMosaic.TcCoe Idealize.SL.Sem
open Cert.Reference5Ideal.Read (val_main_v19)

/-- What the body stores at row `y`, column `h·64 + r` of key head `e`'s half, given the real score `σ k` of every key
    `k` and its real value `w k`. -/
theorem block_val (x0 : Vec Ideal S512x256 .bf16) (x1 : Vec Ideal S256x128 .bf16) (x2 : Vec Ideal S128x256 .bf16) (σ w : ℕ → ℝ)
    (e : Fin 2) (h : Fin 4) (y : Fin 256) (r : Fin 64)
    (hk : ∀ k : Fin 256, ∑ d : Fin 64, (x1 (ix2 k (⟨e * 64 + d, by omega⟩ : Fin 128)) : EReal) * (x0 (ix2 (⟨(e * 4 + h) * 64 + d, by omega⟩ : Fin 512) y) : EReal) = (σ k : EReal))
    (hv : ∀ k : Fin 256, (x2 (ix2 (⟨e * 64 + r, by omega⟩ : Fin 128) k) : EReal) = (w k : EReal)) :
    out0_3 (F := Ideal) x0 x1 x2 (ix2 y ⟨e * 256 + (h * 64 + r), by omega⟩)
      = (((∑ k ∈ Finset.range 256, w k * 2 ^ σ k) / (∑ k ∈ Finset.range 256, 2 ^ σ k) : ℝ) : EReal) := by
  have hy := y.isLt
  have hr := r.isLt
  unfold out0_3
  rw [head0, head1]
  rcases (by omega : e.val = 0 ∨ e.val = 1) with he | he
  · obtain rfl : e = 0 := Fin.ext he
    have key := head_val (k0_pay4 (F := Ideal) (View.ld x0 r0_0) (View.ld x0 r0_1) (View.ld x0 r0_2) (View.ld x0 r0_3) (View.ld x1 r0_4)) (View.ld x2 r0_5) σ w h y r
      (fun k => ?_) (fun k => ?_)
    · generalize outv (F := Ideal) (acc (F := Ideal) (k0_pay4 (F := Ideal) _ _ _ _ _) _) = A at key ⊢
      generalize outv (F := Ideal) (acc (F := Ideal) (k0_pay13 (F := Ideal) _ _ _ _ _) _) = B
      canon_tiles x hx
      · exfalso
        dsimp only [ix2] at hx1
        omega
      · refine Eq.trans (congrArg A ?_) key
        idx_ext
    · rw [scores0_at, ← hk]
      refine Finset.sum_congr rfl fun d _ => congrArg₂ (· * ·) ?_ ((qrow_at _ _ _ _ (fun h d y => x0 (ix2 (⟨((0 : Fin 2) * 4 + h) * 64 + d, by simp; omega⟩ : Fin 512) y)) (fun d y => ?_)
        (fun d y => ?_) (fun d y => ?_) (fun d y => ?_) d h y).trans rfl)
      all_goals pointwise
      all_goals first | rfl | (refine congrArg x0 ?_; idx_ext) | (refine congrArg x1 ?_; idx_ext)
    · refine Eq.trans ?_ (hv k)
      pointwise
  · obtain rfl : e = 1 := Fin.ext he
    have key := head_val (k0_pay13 (F := Ideal) (View.ld x0 r0_7) (View.ld x0 r0_8) (View.ld x0 r0_9) (View.ld x0 r0_10) (View.ld x1 r0_4)) (View.ld x2 r0_11) σ w h y r
      (fun k => ?_) (fun k => ?_)
    · generalize outv (F := Ideal) (acc (F := Ideal) (k0_pay4 (F := Ideal) _ _ _ _ _) _) = A
      generalize outv (F := Ideal) (acc (F := Ideal) (k0_pay13 (F := Ideal) _ _ _ _ _) _) = B at key ⊢
      canon_tiles x hx
      · refine Eq.trans (congrArg B ?_) key
        idx_ext
      · exfalso
        dsimp only [ix2] at hx1 x1_lt
        omega
    · rw [scores1_at, ← hk]
      refine Finset.sum_congr rfl fun d _ => congrArg₂ (· * ·) ?_ ((qrow_at _ _ _ _ (fun h d y => x0 (ix2 (⟨((1 : Fin 2) * 4 + h) * 64 + d, by simp; omega⟩ : Fin 512) y)) (fun d y => ?_)
        (fun d y => ?_) (fun d y => ?_) (fun d y => ?_) d h y).trans rfl)
      all_goals pointwise
      all_goals first | rfl | (refine congrArg x0 ?_; idx_ext) | (refine congrArg x1 ?_; idx_ext)
    · refine Eq.trans ?_ (hv k)
      pointwise

variable (m : (ℓ : Loc nD τ sig) → Buf (Elt Ideal) ℓ)

/-- One element of one written block: the softmax average of the reference. -/
theorem elem (c : Dev nD) (hq : ∀ i, Qa m c i = ((Qa m c i).toReal : EReal)) (hk : ∀ i, Ka m c i = ((Ka m c i).toReal : EReal))
    (hv : ∀ i, Va m c i = ((Va m c i).toReal : EReal)) (t : Fin cfg0.N) (e : Fin 2) (h : Fin 4) (y : Fin 256) (r : Fin 64) :
    out0_3 (iblk m c 0 t) (iblk m c 1 t) (iblk m c 2 t) (ix2 y ⟨e * 256 + (h * 64 + r), by omega⟩)
      = val_main_v19 (F := Ideal) (Qa m c) (Ka m c) (Va m c)
          (ix2 ⟨(⟨t.val, tN t⟩ : Fin 32) * 256 + y, by have := tN t; dsimp only; omega⟩ ⟨(e * 4 + h) * 64 + r, by omega⟩) := by
  have ht := tN t
  set b : Fin 32 := ⟨t.val, ht⟩ with hb
  let s : Fin 256 → ℝ := fun k => (∑ d : Fin 64, (Ka m c (ix4 b k e d)).toReal * (Qa m c (ix4 b y ⟨e * 4 + h, by omega⟩ d)).toReal) * 8⁻¹
  let w : Fin 256 → ℝ := fun k => (Va m c (ix4 b k e r)).toReal
  have hs : ∀ k, Cert.Reference5Ideal.Read.val_main_v4 (F := Ideal) (Qa m c) (Ka m c) (ix5 b e h y k) = (s k : EReal) := fun k => by
    rw [Cert.Reference5Ideal.Soft.s_at, EReal.coe_mul, coe_sum]
    refine congrArg (· * _) (Finset.sum_congr rfl fun d _ => ?_)
    rw [EReal.coe_mul, ← hk, ← hq]
  rw [Cert.Reference5Ideal.Soft.soft _ _ _ b e h y r s w hs fun k => hv _, ← base_change]
  refine block_val _ _ _ (ext fun k => s k * (Real.log 2)⁻¹) (ext w) e h y r (fun k => ?_) (fun k => ?_)
  · rw [ext_of _ _ k.isLt]
    rw [show s ⟨k.val, k.isLt⟩ * (Real.log 2)⁻¹ = ∑ d : Fin 64, (Ka m c (ix4 b k e d)).toReal * ((Qa m c (ix4 b y ⟨e * 4 + h, by omega⟩ d)).toReal * scale) by
      simp only [s, scale, Finset.sum_mul]
      exact Finset.sum_congr rfl fun d _ => by ring, coe_sum]
    refine Finset.sum_congr rfl fun d _ => ?_
    rw [EReal.coe_mul, EReal.coe_mul, ← hk, ← hq]
    exact congrArg₂ (· * ·) (k_at m c t k e d) (q_at m c t ⟨e * 4 + h, by omega⟩ d y)
  · rw [ext_of _ _ k.isLt]
    exact (v_at m c t k e r).trans (hv _)

/-- The result array of the attention on the prompts. -/
theorem final5 (c : Dev nD) (hq : ∀ i, Qa m c i = ((Qa m c i).toReal : EReal)) (hk : ∀ i, Ka m c i = ((Ka m c i).toReal : EReal))
    (hv : ∀ i, Va m c i = ((Va m c i).toReal : EReal)) :
    (dats m 0 c).arrAt 3 cfg0.N = val_main_v19 (F := Ideal) (Qa m c) (Ka m c) (Va m c) := by
  refine (dats m 0 c).arrAt_eq_of_covers 3 _ (by decide +kernel) fun t _ j => ?_
  blk_simp
  rw [after0_3]
  have h0 : (j 0).val < 256 := (j 0).isLt
  have h1 : (j 1).val < 512 := (j 1).isLt
  have hj : j = ix2 (⟨(j 0).val, h0⟩ : Fin 256) (⟨(⟨(j 1).val / 256, by omega⟩ : Fin 2) * 256 + ((⟨(j 1).val / 64 % 4, by omega⟩ : Fin 4) * 64 + (⟨(j 1).val % 64, by omega⟩ : Fin 64)),
      by dsimp only; omega⟩ : Fin 512) := by
    idx_ext
  refine (congrArg _ hj).trans ((elem m c hq hk hv t _ _ _ _).trans (congrArg _ ?_))
  blk_ext [idx t]

end Cert.Kernel5Ideal.Attn

end
-- ==== Proof.Modulation.lean ====
/- The modulation call's result array is the reference's, over the reals. -/
module

public import proofs.«01_k».proof.Proof.Gen.Kernel6Ideal.Value
public import proofs.«01_k».proof.Proof.Gen.Reference6Ideal.Read
public import Idealize.ShloMosaic.Lib.Pipeline.ValueKit

@[expose] public section

set_option maxRecDepth 16384

noncomputable section

namespace Cert.Kernel6Ideal.Mod

open Cert.Kernel6Ideal Cert.Kernel6Ideal.Gen Idealize.ShloMosaic Idealize.ShloMosaic.TcCoe Idealize.SL.Sem
open Cert.Reference6Ideal.Read

/-- A conditioning number times its logistic. -/
def silu (x : EReal) : EReal := x * Ideal.div 1 (1 + Ideal.exp (-x))

/-- One stored block: the activated conditioning rows times a block of weights, plus the bias. -/
theorem pay_at (v0 : FVec Ideal S8x1024 .f32) (v10 : FVec Ideal S1x1024x1024 .f32) (v14 : FVec Ideal S1x1x1024 .f32) (b : Fin 8) (e : Fin 1024) :
    k0_pay1 (F := Ideal) v0 v10 v14 (ix4 0 0 b e) = (∑ k : Fin 1024, silu (v0 (ix2 b k)) * v10 (ix3 0 k e)) + v14 (ix3 0 0 e) := by
  pointwise [k0_pay1, silu]
  simp only [zero_sub]

/-- The same of whole staged blocks. -/
theorem out_at (v0 : Vec Ideal S8x1024 .f32) (v10 : Vec Ideal S1x1024x1024 .f32) (v14 : Vec Ideal S1x1x1024 .f32) (b : Fin 8) (e : Fin 1024) :
    out0_3 (F := Ideal) v0 v10 v14 (ix4 0 0 b e) = (∑ k : Fin 1024, silu (v0 (ix2 b k)) * (v10 (ix3 0 k e) : EReal)) + (v14 (ix3 0 0 e) : EReal) := by
  have key := pay_at (View.ld v0 r0_0) (View.ld v10 r0_1) (View.ld v14 r0_2) b e
  unfold out0_3
  frame_out at key ⊢
  refine key.trans ?_
  pointwise

/-- The reference at one element: layer `l`, conditioning row `b`, column `e` of the block `s` of 1024 columns. -/
theorem ref_at (x0 : FVec Ideal S8x1024 .f32) (x1 : FVec Ideal S2x1024x6144 .f32) (x2 : FVec Ideal S2x6144 .f32) (l : Fin 2) (s : Fin 6) (b : Fin 8) (e : Fin 1024) :
    val_main_v13 (F := Ideal) x0 x1 x2 (ix4 l s b e)
      = (∑ k : Fin 1024, x1 (ix3 l k ⟨s * 1024 + e, by omega⟩) * silu (x0 (ix2 b k))) + x2 (ix2 l ⟨s * 1024 + e, by omega⟩) := by
  have hact : ∀ k, val_main_v6 (F := Ideal) x0 (ix2 b k) = silu (x0 (ix2 b k)) := fun k => by
    unfold silu val_main_v6 val_main_v5 val_main_v4 val_main_v3 val_main_v2 val_main_v1 val_main_v0
    pointwise [val_main_cst, val_main_cst_0]
  rw [val_main_v13_apply, val_main_v12_apply, val_main_v11_apply, val_main_v8_apply, val_main_v7_apply, val_main_v10_apply, val_main_v9_apply]
  refine congrArg₂ (· + ·) (Finset.sum_congr rfl fun k _ => congrArg₂ (· * ·) (congrArg x1 ?_) (Eq.trans (congrArg _ ?_) (hact k))) (congrArg x2 ?_)
  all_goals idx_ext

variable (m : (ℓ : Loc nD τ sig) → Buf (Elt Ideal) ℓ)

/-- The block indices of the four windows at grid point `t` = (layer, block of columns). -/
theorem idx : ∀ t : Fin cfg0.N, win0_0.index t = ![0, 0] ∧ win0_1.index t = ![t.val / 6, 0, t.val % 6] ∧ win0_2.index t = ![t.val / 6, 0, t.val % 6]
    ∧ win0_3.index t = ![t.val / 6, t.val % 6, 0, 0] :=
  (by decide +kernel : ∀ t : Fin grid0.N, _)

theorem tN (t : Fin cfg0.N) : t.val < 12 := t.isLt

/-- The three arguments: conditioning rows, weights, biases. -/
abbrev Ca (c : Dev nD) : FVec Ideal S8x1024 .f32 := m ((c : Thread nD τ).loc main_arg0)
abbrev Wa (c : Dev nD) : FVec Ideal S2x1024x6144 .f32 := m ((c : Thread nD τ).loc main_arg1)
abbrev Ba (c : Dev nD) : FVec Ideal S2x6144 .f32 := m ((c : Thread nD τ).loc main_arg2)

theorem c_at (c : Dev nD) (t : Fin cfg0.N) (b : Fin 8) (k : Fin 1024) : (show EReal from iblk m c 0 t (ix2 b k)) = Ca m c (ix2 b k) := by
  blk_simp [iblk]
  entry_read
  pointwise
  blk_ext [idx t]

theorem w_at (c : Dev nD) (t : Fin cfg0.N) (k e : Fin 1024) :
    (show EReal from iblk m c 1 t (ix3 0 k e)) = Wa m c (ix3 ⟨t.val / 6, by have := tN t; omega⟩ k ⟨t.val % 6 * 1024 + e, by omega⟩) := by
  blk_simp [iblk]
  entry_read
  pointwise
  blk_ext [idx t]

theorem b_at (c : Dev nD) (t : Fin cfg0.N) (e : Fin 1024) :
    (show EReal from iblk m c 2 t (ix3 0 0 e)) = Ba m c (ix2 ⟨t.val / 6, by have := tN t; omega⟩ ⟨t.val % 6 * 1024 + e, by omega⟩) := by
  blk_simp [iblk]
  entry_read
  pointwise
  blk_ext [idx t]

/-- One element of one written block. -/
theorem elem (c : Dev nD) (t : Fin cfg0.N) (b : Fin 8) (e : Fin 1024) :
    out0_3 (iblk m c 0 t) (iblk m c 1 t) (iblk m c 2 t) (ix4 0 0 b e)
      = val_main_v13 (F := Ideal) (Ca m c) (Wa m c) (Ba m c) (ix4 ⟨t.val / 6, by have := tN t; omega⟩ ⟨t.val % 6, by omega⟩ b e) := by
  rw [ref_at]
  refine (out_at _ _ _ b e).trans (congrArg₂ (· + ·) (Finset.sum_congr rfl fun k _ => ?_) (b_at m c t e))
  rw [mul_comm]
  exact congrArg₂ (· * ·) (w_at m c t k e) (congrArg silu (c_at m c t b k))

/-- The result array of the modulation call. -/
theorem final6 (c : Dev nD) : (dats m 0 c).arrAt 3 cfg0.N = val_main_v13 (F := Ideal) (Ca m c) (Wa m c) (Ba m c) := by
  refine (dats m 0 c).arrAt_eq_of_covers 3 _ (by decide +kernel) fun t _ j => ?_
  blk_simp
  rw [after0_3]
  have h0 : (j 0).val < 1 := (j 0).isLt
  have h1 : (j 1).val < 1 := (j 1).isLt
  have hj : j = ix4 0 0 (⟨(j 2).val, (j 2).isLt⟩ : Fin 8) (⟨(j 3).val, (j 3).isLt⟩ : Fin 1024) := by idx_ext <;> omega
  refine (congrArg _ hj).trans ((elem m c t _ _).trans (congrArg _ ?_))
  blk_ext [idx t]

end Cert.Kernel6Ideal.Mod

end
-- ==== Proof.lean ====
/- The certificate's claims, put together. -/
module

public import proofs.«01_k».proof.Proof.Pre
public import proofs.«01_k».proof.Proof.Gen.Kernel2Ideal.Value
public import proofs.«01_k».proof.Proof.Gen.Reference2Ideal.Read
public import proofs.«01_k».proof.Proof.Gen.Reference2Ideal.Run
public import proofs.«01_k».proof.Proof.Final
public import proofs.«01_k».proof.Proof.FfnFinal
public import proofs.«01_k».proof.Proof.InprojFinal
public import proofs.«01_k».proof.Proof.CtxFinal
public import proofs.«01_k».proof.Proof.CtxAttnFinal
public import proofs.«01_k».proof.Proof.Modulation
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Pre_finite
public import proofs.«01_k».proof.Proof.Gen.Pre_finite5
public import Idealize.ShloMosaic.Adequacy
public import Idealize.ShloMosaic.Init

@[expose] public section

noncomputable section

namespace Cert.Proof

open Idealize.ShloMosaic Idealize.SL.Sem

/-- The initial maximum of the running maximum is the named constant -10^30, and the two programs differ in nothing else. -/
theorem preserves : Cert.preserves_Kernel_KernelIdeal :=
  IdealRules.named_const.statement Cert.KernelIdeal.κ "lowest" .f32 0xF149F2CA#32 _ rfl

/-- For finite arguments the attention call's result is the reference's, over the reals. -/
theorem algebraic : Cert.algebraic_KernelIdeal_ReferenceIdeal_pre_finite (hKernelIdeal := Cert.KernelIdeal.Gen.facts) (hReferenceIdeal := Cert.ReferenceIdeal.Gen.facts)
    (hPre_finite := Cert.Pre_finite.Gen.facts) := by
  pair_intro
  · run_from Cert.KernelIdeal.Gen.run_main m g
  · refine Idealize.ShloMosaic.θ_run_mono (Cert.ReferenceIdeal.Value.run m' g') (fun r hr => ?_)
    intro c
    have hc := hr c
    obtain ⟨e0, e1, e2, e3, e4⟩ := hagree c
    obtain ⟨h0, h1, h2, h3, h4⟩ := Cert.Pre.real m hpre c
    refine ⟨?_, hc.2⟩
    refine hc.1.trans ((Cert.ReferenceIdeal.Read.val_main_v21_eq _ _ _ _ _).trans ?_)
    rw [e0, e1, e2, e3, e4]
    exact (Cert.KernelIdeal.Steps.final m c h0 h1 h2 h3 h4).symm

/-- The mixing call's result is the reference's, over the reals. -/
theorem algebraic2 : Cert.algebraic_Kernel2Ideal_Reference2Ideal (hKernel2Ideal := Cert.Kernel2Ideal.Gen.facts)
    (hReference2Ideal := Cert.Reference2Ideal.Gen.facts) := by
  intro m g m' g' hpre hagree
  refine ⟨fun c => (Cert.Kernel2Ideal.Gen.dats m 0 c).arrAt 20 Cert.Kernel2Ideal.cfg0.N, ?_, ?_⟩
  · exact Idealize.ShloMosaic.θ_run_mono (Cert.Kernel2Ideal.Gen.run_main m g) (fun r h c => ⟨(h c).1 20, Cert.Kernel2Ideal.Value.kept_main_arg0 m r h c, Cert.Kernel2Ideal.Value.kept_main_arg1 m r h c, Cert.Kernel2Ideal.Value.kept_main_arg2 m r h c, Cert.Kernel2Ideal.Value.kept_main_arg3 m r h c, Cert.Kernel2Ideal.Value.kept_main_arg4 m r h c, Cert.Kernel2Ideal.Value.kept_main_arg5 m r h c, Cert.Kernel2Ideal.Value.kept_main_arg6 m r h c, Cert.Kernel2Ideal.Value.kept_main_arg7 m r h c, Cert.Kernel2Ideal.Value.kept_main_arg8 m r h c, Cert.Kernel2Ideal.Value.kept_main_arg9 m r h c, Cert.Kernel2Ideal.Value.kept_main_arg10 m r h c, Cert.Kernel2Ideal.Value.kept_main_arg11 m r h c⟩)
  · refine Idealize.ShloMosaic.θ_run_mono (Cert.Reference2Ideal.Value.run m' g') (fun r hr => ?_)
    intro c
    have hc := hr c
    obtain ⟨e0, e1, e2, e3, e4, e5, e6, e7, e8, e9, e10, e11⟩ := hagree c
    refine ⟨?_, hc.2⟩
    refine hc.1.trans ((Cert.Reference2Ideal.Read.val_main_v83_eq _).trans ?_)
    refine Eq.trans ?_ (Cert.Kernel2Ideal.Ffn.final2 m c).symm
    unfold Cert.Kernel2Ideal.Ffn.a0 Cert.Kernel2Ideal.Ffn.a1 Cert.Kernel2Ideal.Ffn.a2 Cert.Kernel2Ideal.Ffn.a3 Cert.Kernel2Ideal.Ffn.a4 Cert.Kernel2Ideal.Ffn.a5 Cert.Kernel2Ideal.Ffn.a6 Cert.Kernel2Ideal.Ffn.a7 Cert.Kernel2Ideal.Ffn.a8 Cert.Kernel2Ideal.Ffn.a9 Cert.Kernel2Ideal.Ffn.a10 Cert.Kernel2Ideal.Ffn.a11
    rw [← e0, ← e1, ← e2, ← e3, ← e4, ← e5, ← e6, ← e7, ← e8, ← e9, ← e10, ← e11]

/-- The scale of the queries in the projection's call is the named constant one eighth over log 2, and the two programs differ in nothing else. -/
theorem preserves3 : Cert.preserves_Kernel3_Kernel3Ideal :=
  IdealRules.named_const.statement Cert.Kernel3Ideal.κ "scale" .f32 0x3E38AA3B#32 _ rfl

set_option maxHeartbeats 4000000 in
/-- The input projection's seven results are the reference's, over the reals. -/
theorem algebraic3 : Cert.algebraic_Kernel3Ideal_Reference3Ideal (hKernel3Ideal := Cert.Kernel3Ideal.Gen.facts)
    (hReference3Ideal := Cert.Reference3Ideal.Gen.facts) := by
  intro m g m' g' hpre hagree
  refine ⟨fun c => (Cert.Kernel3Ideal.Gen.dats m 0 c).arrAt 9 Cert.Kernel3Ideal.cfg0.N, fun c => (Cert.Kernel3Ideal.Gen.dats m 0 c).arrAt 10 Cert.Kernel3Ideal.cfg0.N,
    fun c => (Cert.Kernel3Ideal.Gen.dats m 0 c).arrAt 11 Cert.Kernel3Ideal.cfg0.N, fun c => (Cert.Kernel3Ideal.Gen.dats m 0 c).arrAt 12 Cert.Kernel3Ideal.cfg0.N,
    fun c => (Cert.Kernel3Ideal.Gen.dats m 0 c).arrAt 13 Cert.Kernel3Ideal.cfg0.N, fun c => (Cert.Kernel3Ideal.Gen.dats m 0 c).arrAt 14 Cert.Kernel3Ideal.cfg0.N,
    fun c => (Cert.Kernel3Ideal.Gen.dats m 0 c).arrAt 15 Cert.Kernel3Ideal.cfg0.N, Cert.Kernel3Ideal.Value.run_blocks m g, ?_⟩
  refine Idealize.ShloMosaic.θ_run_mono (Cert.Reference3Ideal.Value.run m' g') (fun r hr => ?_)
  intro c
  obtain ⟨r0, r1, r2, r3, r4, r5, r6, hk⟩ := hr c
  obtain ⟨e0, e1, e2, e3, e4, e5⟩ := hagree c
  simp only [Cert.Kernel3Ideal.Inproj.final9, Cert.Kernel3Ideal.Inproj.final10, Cert.Kernel3Ideal.Inproj.final11, Cert.Kernel3Ideal.Inproj.final12,
    Cert.Kernel3Ideal.Inproj.final13, Cert.Kernel3Ideal.Inproj.final14, Cert.Kernel3Ideal.Inproj.final15]
  unfold Cert.Kernel3Ideal.Inproj.Q Cert.Kernel3Ideal.Inproj.K Cert.Kernel3Ideal.Inproj.K' Cert.Kernel3Ideal.Inproj.W Cert.Kernel3Ideal.Inproj.W'
    Cert.Kernel3Ideal.Inproj.Zc Cert.Kernel3Ideal.Inproj.Zh Cert.Kernel3Ideal.Inproj.a0 Cert.Kernel3Ideal.Inproj.a1 Cert.Kernel3Ideal.Inproj.a2
    Cert.Kernel3Ideal.Inproj.a3 Cert.Kernel3Ideal.Inproj.a4 Cert.Kernel3Ideal.Inproj.a5
  rw [← e0, ← e1, ← e2, ← e3, ← e4, ← e5]
  exact ⟨r0.trans (Cert.Reference3Ideal.Read.val_main_v69_eq m' c), r1.trans (Cert.Reference3Ideal.Read.val_main_v66_eq m' c),
    r2.trans (Cert.Reference3Ideal.Read.val_main_v70_eq m' c), r3.trans (Cert.Reference3Ideal.Read.val_main_v67_eq _ _ _ _),
    r4.trans (Cert.Reference3Ideal.Read.val_main_v72_eq _ _ _ _), r5.trans (Cert.Reference3Ideal.Read.val_main_v74_eq _ _ _ _),
    r6.trans (Cert.Reference3Ideal.Read.val_main_v76_eq _ _ _ _), hk⟩

/-- The mixing call's result on the prompts is the reference's, over the reals. -/
theorem algebraic4 : Cert.algebraic_Kernel4Ideal_Reference4Ideal (hKernel4Ideal := Cert.Kernel4Ideal.Gen.facts)
    (hReference4Ideal := Cert.Reference4Ideal.Gen.facts) := by
  intro m g m' g' hpre hagree
  refine ⟨fun c => (Cert.Kernel4Ideal.Gen.dats m 0 c).arrAt 20 Cert.Kernel4Ideal.cfg0.N, ?_, ?_⟩
  · exact Idealize.ShloMosaic.θ_run_mono (Cert.Kernel4Ideal.Gen.run_main m g) (fun r h c => ⟨(h c).1 20, Cert.Kernel4Ideal.Value.kept_main_arg0 m r h c, Cert.Kernel4Ideal.Value.kept_main_arg1 m r h c, Cert.Kernel4Ideal.Value.kept_main_arg2 m r h c, Cert.Kernel4Ideal.Value.kept_main_arg3 m r h c, Cert.Kernel4Ideal.Value.kept_main_arg4 m r h c, Cert.Kernel4Ideal.Value.kept_main_arg5 m r h c, Cert.Kernel4Ideal.Value.kept_main_arg6 m r h c, Cert.Kernel4Ideal.Value.kept_main_arg7 m r h c, Cert.Kernel4Ideal.Value.kept_main_arg8 m r h c, Cert.Kernel4Ideal.Value.kept_main_arg9 m r h c, Cert.Kernel4Ideal.Value.kept_main_arg10 m r h c, Cert.Kernel4Ideal.Value.kept_main_arg11 m r h c⟩)
  · refine Idealize.ShloMosaic.θ_run_mono (Cert.Reference4Ideal.Value.run m' g') (fun r hr => ?_)
    intro c
    have hc := hr c
    obtain ⟨e0, e1, e2, e3, e4, e5, e6, e7, e8, e9, e10, e11⟩ := hagree c
    refine ⟨?_, hc.2⟩
    refine hc.1.trans ((Cert.Reference4Ideal.Read.val_main_v83_eq _).trans ?_)
    refine Eq.trans ?_ (Cert.Kernel4Ideal.Ctx.final4 m c).symm
    unfold Cert.Kernel4Ideal.Ctx.a0 Cert.Kernel4Ideal.Ctx.a1 Cert.Kernel4Ideal.Ctx.a2 Cert.Kernel4Ideal.Ctx.a3 Cert.Kernel4Ideal.Ctx.a4 Cert.Kernel4Ideal.Ctx.a5 Cert.Kernel4Ideal.Ctx.a6 Cert.Kernel4Ideal.Ctx.a7 Cert.Kernel4Ideal.Ctx.a8 Cert.Kernel4Ideal.Ctx.a9 Cert.Kernel4Ideal.Ctx.a10 Cert.Kernel4Ideal.Ctx.a11
    rw [← e0, ← e1, ← e2, ← e3, ← e4, ← e5, ← e6, ← e7, ← e8, ← e9, ← e10, ← e11]

/-- As in the other attention call: the initial maximum is the named constant -10^30, and the two programs differ in nothing else. -/
theorem preserves5 : Cert.preserves_Kernel5_Kernel5Ideal :=
  IdealRules.named_const.statement Cert.Kernel5Ideal.κ "lowest" .f32 0xF149F2CA#32 _ rfl

/-- For finite arguments the result of the attention on the prompts is the reference's, over the reals. -/
theorem algebraic5 : Cert.algebraic_Kernel5Ideal_Reference5Ideal_pre_finite5 (hKernel5Ideal := Cert.Kernel5Ideal.Gen.facts)
    (hReference5Ideal := Cert.Reference5Ideal.Gen.facts) (hPre_finite5 := Cert.Pre_finite5.Gen.facts) := by
  intro m g m' g' hpre hagree
  refine ⟨fun c => (Cert.Kernel5Ideal.Gen.dats m 0 c).arrAt 3 Cert.Kernel5Ideal.cfg0.N, Cert.Kernel5Ideal.Value.run_blocks m g, ?_⟩
  refine Idealize.ShloMosaic.θ_run_mono (Cert.Reference5Ideal.Value.run m' g') (fun r hr => ?_)
  intro c
  have hc := hr c
  obtain ⟨e0, e1, e2⟩ := hagree c
  obtain ⟨h0, h1, h2⟩ := Cert.Pre.real5 m hpre c
  refine ⟨?_, hc.2⟩
  refine hc.1.trans ((Cert.Reference5Ideal.Read.val_main_v19_eq _ _ _).trans ?_)
  rw [e0, e1, e2]
  exact (Cert.Kernel5Ideal.Attn.final5 m c h0 h1 h2).symm

/-- The modulation call's result is the reference's, over the reals. -/
theorem algebraic6 : Cert.algebraic_Kernel6Ideal_Reference6Ideal (hKernel6Ideal := Cert.Kernel6Ideal.Gen.facts)
    (hReference6Ideal := Cert.Reference6Ideal.Gen.facts) := by
  intro m g m' g' hpre hagree
  refine ⟨fun c => (Cert.Kernel6Ideal.Gen.dats m 0 c).arrAt 3 Cert.Kernel6Ideal.cfg0.N, Cert.Kernel6Ideal.Value.run_blocks m g, ?_⟩
  refine Idealize.ShloMosaic.θ_run_mono (Cert.Reference6Ideal.Value.run m' g') (fun r hr => ?_)
  intro c
  have hc := hr c
  obtain ⟨e0, e1, e2⟩ := hagree c
  refine ⟨?_, hc.2⟩
  refine hc.1.trans ((Cert.Reference6Ideal.Read.val_main_v13_eq _ _ _).trans ?_)
  rw [e0, e1, e2]
  exact (Cert.Kernel6Ideal.Mod.final6 m c).symm

/-- All the claims. -/
theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts,
  Cert.Kernel3Ideal.Gen.facts, Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts, Cert.Kernel6Ideal.Gen.facts, Cert.Reference6Ideal.Gen.facts,
  Cert.Pre_finite.Gen.facts, Cert.Pre_finite5.Gen.facts,
  fun m g _ => Cert.Kernel.Gen.frame m g,
  fun m g _ => Cert.KernelIdeal.Gen.frame m g,
  fun m g _ => Cert.KernelIdeal.Gen.frame m g,
  fun m g _ => Idealize.ShloMosaic.θ_run_mono (Cert.ReferenceIdeal.Value.run m g) (fun r h => ⟨fun c => (h c).2, Idealize.ShloMosaic.sem_eq_zero_of_no_sems (by decide) r.2⟩),
  fun m g _ => Idealize.ShloMosaic.θ_run_mono (Cert.ReferenceIdeal.Value.run m g) (fun r h => ⟨fun c => (h c).2, Idealize.ShloMosaic.sem_eq_zero_of_no_sems (by decide) r.2⟩),
  fun m g _ => Cert.Kernel2.Gen.frame m g,
  fun m g _ => Cert.Kernel2Ideal.Gen.frame m g,
  fun m g _ => Idealize.ShloMosaic.θ_run_mono (Cert.Reference2Ideal.Value.run m g) (fun r h => ⟨fun c => (h c).2, Idealize.ShloMosaic.sem_eq_zero_of_no_sems (by decide) r.2⟩),
  fun m g _ => Cert.Kernel3.Gen.frame m g,
  fun m g _ => Cert.Kernel3Ideal.Gen.frame m g,
  fun m g _ => Idealize.ShloMosaic.θ_run_mono (Cert.Reference3Ideal.Value.run m g) (fun r h => ⟨fun c => (h c).2.2.2.2.2.2.2, Idealize.ShloMosaic.sem_eq_zero_of_no_sems (by decide) r.2⟩),
  fun m g _ => Cert.Kernel4.Gen.frame m g,
  fun m g _ => Cert.Kernel4Ideal.Gen.frame m g,
  fun m g _ => Idealize.ShloMosaic.θ_run_mono (Cert.Reference4Ideal.Value.run m g) (fun r h => ⟨fun c => (h c).2, Idealize.ShloMosaic.sem_eq_zero_of_no_sems (by decide) r.2⟩),
  fun m g _ => Cert.Kernel5.Gen.frame m g,
  fun m g _ => Cert.Kernel5Ideal.Gen.frame m g,
  fun m g _ => Cert.Kernel5Ideal.Gen.frame m g,
  fun m g _ => Idealize.ShloMosaic.θ_run_mono (Cert.Reference5Ideal.Value.run m g) (fun r h => ⟨fun c => (h c).2, Idealize.ShloMosaic.sem_eq_zero_of_no_sems (by decide) r.2⟩),
  fun m g _ => Idealize.ShloMosaic.θ_run_mono (Cert.Reference5Ideal.Value.run m g) (fun r h => ⟨fun c => (h c).2, Idealize.ShloMosaic.sem_eq_zero_of_no_sems (by decide) r.2⟩),
  fun m g _ => Cert.Kernel6.Gen.frame m g,
  fun m g _ => Cert.Kernel6Ideal.Gen.frame m g,
  fun m g _ => Idealize.ShloMosaic.θ_run_mono (Cert.Reference6Ideal.Value.run m g) (fun r h => ⟨fun c => (h c).2, Idealize.ShloMosaic.sem_eq_zero_of_no_sems (by decide) r.2⟩),
  preserves, algebraic, trivial, algebraic2, preserves3, algebraic3, trivial, algebraic4, preserves5, algebraic5, trivial, algebraic6⟩

end Cert.Proof

end
